-- ==== Defs.lean ====
def Pre_Kernel [hPre_segment_ids : Cert.Pre_segment_ids.Facts] (m : (ℓ : Loc Cert.Kernel.nD Cert.Kernel.τ Cert.Kernel.sig) → Buf (Elt Bits) ℓ) : Prop :=
  ∀ c : Dev Cert.Kernel.nD,
    (Cert.Pre_segment_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_segment_ids : Cert.Pre_segment_ids.Facts] (m : (ℓ : Loc Cert.KernelIdeal.nD Cert.KernelIdeal.τ Cert.KernelIdeal.sig) → Buf (Elt Ideal) ℓ) : Prop :=
  ∀ c : Dev Cert.KernelIdeal.nD,
    (Cert.Pre_segment_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segment_ids [hPre_segment_ids : Cert.Pre_segment_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segment_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_segment_ids : Cert.Pre_segment_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_segment_ids : Cert.Pre_segment_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_segment_ids [hReferenceIdeal : Cert.ReferenceIdeal.Facts] [hPre_segment_ids : Cert.Pre_segment_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segment_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_segment_ids : Cert.Pre_segment_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_segment_ids : Cert.Pre_segment_ids.Facts),
    quiescent_Kernel (hKernel := hKernel) (hPre_segment_ids := hPre_segment_ids)
    ∧ quiescent_KernelIdeal (hKernelIdeal := hKernelIdeal) (hPre_segment_ids := hPre_segment_ids)
    ∧ quiescent_ReferenceIdeal (hReferenceIdeal := hReferenceIdeal)
    ∧ quiescent_ReferenceIdeal_pre_segment_ids (hReferenceIdeal := hReferenceIdeal) (hPre_segment_ids := hPre_segment_ids)
    ∧ preserves_Kernel_KernelIdeal
    ∧ algebraic_KernelIdeal_ReferenceIdeal (hKernelIdeal := hKernelIdeal) (hReferenceIdeal := hReferenceIdeal) (hPre_segment_ids := hPre_segment_ids)
-- ==== Pre_segment_ids.lean ====
abbrev S320000x3 : Shape := ⟨2, ![320000, 3]⟩
abbrev S320000x16 : Shape := ⟨2, ![320000, 16]⟩
abbrev S320000 : Shape := ⟨1, ![320000]⟩
abbrev S64x19 : Shape := ⟨2, ![64, 19]⟩
abbrev S64 : Shape := ⟨1, ![64]⟩
abbrev S128x64 : Shape := ⟨2, ![128, 64]⟩
abbrev S128 : Shape := ⟨1, ![128]⟩
abbrev S256x129 : Shape := ⟨2, ![256, 129]⟩
abbrev S256 : Shape := ⟨1, ![256]⟩
abbrev S128x256 : Shape := ⟨2, ![128, 256]⟩
abbrev S40x128 : Shape := ⟨2, ![40, 128]⟩
abbrev S40 : Shape := ⟨1, ![40]⟩
abbrev S1 : Shape := ⟨1, ![1]⟩
abbrev S319999 : Shape := ⟨1, ![319999]⟩
abbrev S_ : Shape := ⟨0, ![]⟩

class Facts : Prop where
  slices_S320000_S1_0 : S320000.Slices ![0] S1
  slices_S320000_S319999_0 : S320000.Slices ![0] S319999
  concatenates_S1_S319999_S320000_d0 : Shape.Concatenates [S1, S319999] S320000 0
  bcast_S_S320000 : S_.BroadcastsInDim S320000 (![] : Fin 0 → Fin S320000.rank)

variable [Facts]

def fn {F : FTy → Type} [FloatOps F] (main_arg0 : FVec F S320000x3 .f32) (main_arg1 : FVec F S320000x16 .f32) (main_arg2 : IVec S320000 32) (main_arg3 : FVec F S64x19 .f32) (main_arg4 : FVec F S64 .f32) (main_arg5 : FVec F S128x64 .f32) (main_arg6 : FVec F S128 .f32) (main_arg7 : FVec F S256x129 .f32) (main_arg8 : FVec F S256 .f32) (main_arg9 : FVec F S128x256 .f32) (main_arg10 : FVec F S128 .f32) (main_arg11 : FVec F S40x128 .f32) (main_arg12 : FVec F S40 .f32) : IVec S320000 1 :=
  let main_v0 : IVec S1 32 := (extractStridedSlice S1 ![0] · slices_S320000_S1_0) main_arg2
  let main_v1 : IVec S319999 32 := (extractStridedSlice S319999 ![0] · slices_S320000_S319999_0) main_arg2
  let main_v2 : IVec S320000 32 := (fun a b => concatenate S320000 0 [⟨S1, a⟩, ⟨S319999, b⟩] concatenates_S1_S319999_S320000_d0) main_v0 main_v1
  let main_c : IVec S_ 32 := constantI S_ 32 0#32
  let main_v3 : IVec S320000 32 := broadcastInDim S320000 ![] bcast_S_S320000 main_c
  let main_v4 : IVec S320000 1 := cmpi .sge main_arg2 main_v3
  let main_c_0 : IVec S_ 32 := constantI S_ 32 10000#32
  let main_v5 : IVec S320000 32 := broadcastInDim S320000 ![] bcast_S_S320000 main_c_0
  let main_v6 : IVec S320000 1 := cmpi .slt main_arg2 main_v5
  let main_v7 : IVec S320000 1 := andi main_v4 main_v6
  let main_v8 : IVec S320000 1 := cmpi .sge main_arg2 main_v2
  let main_v9 : IVec S320000 1 := andi main_v7 main_v8
  main_v9
-- ==== Kernel.lean ====
abbrev S320000x3 : Shape := ⟨2, ![320000, 3]⟩
abbrev S320000x16 : Shape := ⟨2, ![320000, 16]⟩
abbrev S320000 : Shape := ⟨1, ![320000]⟩
abbrev S64x19 : Shape := ⟨2, ![64, 19]⟩
abbrev S64 : Shape := ⟨1, ![64]⟩
abbrev S128x64 : Shape := ⟨2, ![128, 64]⟩
abbrev S128 : Shape := ⟨1, ![128]⟩
abbrev S256x129 : Shape := ⟨2, ![256, 129]⟩
abbrev S256 : Shape := ⟨1, ![256]⟩
abbrev S128x256 : Shape := ⟨2, ![128, 256]⟩
abbrev S40x128 : Shape := ⟨2, ![40, 128]⟩
abbrev S40 : Shape := ⟨1, ![40]⟩
abbrev S320000x1 : Shape := ⟨2, ![320000, 1]⟩
abbrev S10752x4 : Shape := ⟨2, ![10752, 4]⟩
abbrev S3200x1 : Shape := ⟨2, ![3200, 1]⟩
abbrev S3200x3 : Shape := ⟨2, ![3200, 3]⟩
abbrev S3200x4 : Shape := ⟨2, ![3200, 4]⟩
abbrev S1x3200x1 : Shape := ⟨3, ![1, 3200, 1]⟩
abbrev S1 : Shape := ⟨1, ![1]⟩
abbrev S1x1x1 : Shape := ⟨3, ![1, 1, 1]⟩
abbrev S1x128 : Shape := ⟨2, ![1, 128]⟩
abbrev S3200x128 : Shape := ⟨2, ![3200, 128]⟩
abbrev S128x4 : Shape := ⟨2, ![128, 4]⟩
abbrev S10752x1 : Shape := ⟨2, ![10752, 1]⟩
abbrev S10752x3 : Shape := ⟨2, ![10752, 3]⟩
abbrev S3200 : Shape := ⟨1, ![3200]⟩
abbrev S1x1 : Shape := ⟨2, ![1, 1]⟩
abbrev S3199x1 : Shape := ⟨2, ![3199, 1]⟩
abbrev S3198x1 : Shape := ⟨2, ![3198, 1]⟩
abbrev S2x1 : Shape := ⟨2, ![2, 1]⟩
abbrev S3196x1 : Shape := ⟨2, ![3196, 1]⟩
abbrev S4x1 : Shape := ⟨2, ![4, 1]⟩
abbrev S3192x1 : Shape := ⟨2, ![3192, 1]⟩
abbrev S8x1 : Shape := ⟨2, ![8, 1]⟩
abbrev S3184x1 : Shape := ⟨2, ![3184, 1]⟩
abbrev S16x1 : Shape := ⟨2, ![16, 1]⟩
abbrev S3168x1 : Shape := ⟨2, ![3168, 1]⟩
abbrev S32x1 : Shape := ⟨2, ![32, 1]⟩
abbrev S3136x1 : Shape := ⟨2, ![3136, 1]⟩
abbrev S64x1 : Shape := ⟨2, ![64, 1]⟩
abbrev S3072x1 : Shape := ⟨2, ![3072, 1]⟩
abbrev S128x1 : Shape := ⟨2, ![128, 1]⟩
abbrev S2944x1 : Shape := ⟨2, ![2944, 1]⟩
abbrev S256x1 : Shape := ⟨2, ![256, 1]⟩
abbrev S2688x1 : Shape := ⟨2, ![2688, 1]⟩
abbrev S512x1 : Shape := ⟨2, ![512, 1]⟩
abbrev S2176x1 : Shape := ⟨2, ![2176, 1]⟩
abbrev S1024x1 : Shape := ⟨2, ![1024, 1]⟩
abbrev S1152x1 : Shape := ⟨2, ![1152, 1]⟩
abbrev S2048x1 : Shape := ⟨2, ![2048, 1]⟩
abbrev S3200x2 : Shape := ⟨2, ![3200, 2]⟩
abbrev S128x2 : Shape := ⟨2, ![128, 2]⟩
abbrev S1x64 : Shape := ⟨2, ![1, 64]⟩
abbrev S8x64 : Shape := ⟨2, ![8, 64]⟩
abbrev S8x128 : Shape := ⟨2, ![8, 128]⟩
abbrev S10752x128 : Shape := ⟨2, ![10752, 128]⟩
abbrev S3200x16 : Shape := ⟨2, ![3200, 16]⟩
abbrev S128x3 : Shape := ⟨2, ![128, 3]⟩
abbrev S3200x19 : Shape := ⟨2, ![3200, 19]⟩
abbrev S3200x64 : Shape := ⟨2, ![3200, 64]⟩
abbrev S3199x128 : Shape := ⟨2, ![3199, 128]⟩
abbrev S3198x128 : Shape := ⟨2, ![3198, 128]⟩
abbrev S2x128 : Shape := ⟨2, ![2, 128]⟩
abbrev S3196x128 : Shape := ⟨2, ![3196, 128]⟩
abbrev S4x128 : Shape := ⟨2, ![4, 128]⟩
abbrev S3192x128 : Shape := ⟨2, ![3192, 128]⟩
abbrev S3184x128 : Shape := ⟨2, ![3184, 128]⟩
abbrev S16x128 : Shape := ⟨2, ![16, 128]⟩
abbrev S3168x128 : Shape := ⟨2, ![3168, 128]⟩
abbrev S32x128 : Shape := ⟨2, ![32, 128]⟩
abbrev S3136x128 : Shape := ⟨2, ![3136, 128]⟩
abbrev S64x128 : Shape := ⟨2, ![64, 128]⟩
abbrev S3072x128 : Shape := ⟨2, ![3072, 128]⟩
abbrev S128x128 : Shape := ⟨2, ![128, 128]⟩
abbrev S2944x128 : Shape := ⟨2, ![2944, 128]⟩
abbrev S256x128 : Shape := ⟨2, ![256, 128]⟩
abbrev S2688x128 : Shape := ⟨2, ![2688, 128]⟩
abbrev S512x128 : Shape := ⟨2, ![512, 128]⟩
abbrev S2176x128 : Shape := ⟨2, ![2176, 128]⟩
abbrev S1024x128 : Shape := ⟨2, ![1024, 128]⟩
abbrev S1152x128 : Shape := ⟨2, ![1152, 128]⟩
abbrev S2048x128 : Shape := ⟨2, ![2048, 128]⟩
abbrev S3200x129 : Shape := ⟨2, ![3200, 129]⟩
abbrev S128x129 : Shape := ⟨2, ![128, 129]⟩
abbrev S1x256 : Shape := ⟨2, ![1, 256]⟩
abbrev S8x256 : Shape := ⟨2, ![8, 256]⟩
abbrev S1x40 : Shape := ⟨2, ![1, 40]⟩
abbrev S8x40 : Shape := ⟨2, ![8, 40]⟩
abbrev S10752x40 : Shape := ⟨2, ![10752, 40]⟩
abbrev S1536x128 : Shape := ⟨2, ![1536, 128]⟩
abbrev S1536x1 : Shape := ⟨2, ![1536, 1]⟩
abbrev S1536x40 : Shape := ⟨2, ![1536, 40]⟩
abbrev S1536x129 : Shape := ⟨2, ![1536, 129]⟩
abbrev S1536x256 : Shape := ⟨2, ![1536, 256]⟩
abbrev S10000x40 : Shape := ⟨2, ![10000, 40]⟩

abbrev nBuf : Space → Nat
  | .hbm => 29
  | .vmem => 36
  | .smem => 0
  | _ => 0

abbrev bufTy : (tb : Table) → Fin (tcTables nBuf tb) → BufTy
  | .hbm, ⟨0, _⟩ => ⟨S320000x3, .f32⟩
  | .hbm, ⟨1, _⟩ => ⟨S320000x16, .f32⟩
  | .hbm, ⟨2, _⟩ => ⟨S320000, .i32⟩
  | .hbm, ⟨3, _⟩ => ⟨S64x19, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S256x129, .f32⟩
  | .hbm, ⟨8, _⟩ => ⟨S256, .f32⟩
  | .hbm, ⟨9, _⟩ => ⟨S128x256, .f32⟩
  | .hbm, ⟨10, _⟩ => ⟨S128, .f32⟩
  | .hbm, ⟨11, _⟩ => ⟨S40x128, .f32⟩
  | .hbm, ⟨12, _⟩ => ⟨S40, .f32⟩
  | .hbm, ⟨13, _⟩ => ⟨S320000x1, .i32⟩
  | .hbm, ⟨14, _⟩ => ⟨S10752x4, .f32⟩
  | .hbm, ⟨15, _⟩ => ⟨S10752x1, .f32⟩
  | .hbm, ⟨16, _⟩ => ⟨S1x64, .f32⟩
  | .hbm, ⟨17, _⟩ => ⟨S8x64, .f32⟩
  | .hbm, ⟨18, _⟩ => ⟨S1x128, .f32⟩
  | .hbm, ⟨19, _⟩ => ⟨S8x128, .f32⟩
  | .hbm, ⟨20, _⟩ => ⟨S10752x128, .f32⟩
  | .hbm, ⟨21, _⟩ => ⟨S1x256, .f32⟩
  | .hbm, ⟨22, _⟩ => ⟨S8x256, .f32⟩
  | .hbm, ⟨23, _⟩ => ⟨S1x128, .f32⟩
  | .hbm, ⟨24, _⟩ => ⟨S8x128, .f32⟩
  | .hbm, ⟨25, _⟩ => ⟨S1x40, .f32⟩
  | .hbm, ⟨26, _⟩ => ⟨S8x40, .f32⟩
  | .hbm, ⟨27, _⟩ => ⟨S10752x40, .f32⟩
  | .hbm, ⟨28, _⟩ => ⟨S10000x40, .f32⟩
  | .local _ .vmem, ⟨0, _⟩ => ⟨S3200x1, .i32⟩
  | .local _ .vmem, ⟨1, _⟩ => ⟨S3200x1, .i32⟩
  | .local _ .vmem, ⟨2, _⟩ => ⟨S3200x3, .f32⟩
  | .local _ .vmem, ⟨3, _⟩ => ⟨S3200x3, .f32⟩
  | .local _ .vmem, ⟨4, _⟩ => ⟨S10752x4, .f32⟩
  | .local _ .vmem, ⟨5, _⟩ => ⟨S3200x1, .i32⟩
  | .local _ .vmem, ⟨6, _⟩ => ⟨S3200x1, .i32⟩
  | .local _ .vmem, ⟨7, _⟩ => ⟨S3200x3, .f32⟩
  | .local _ .vmem, ⟨8, _⟩ => ⟨S3200x3, .f32⟩
  | .local _ .vmem, ⟨9, _⟩ => ⟨S10752x4, .f32⟩
  | .local _ .vmem, ⟨10, _⟩ => ⟨S10752x1, .f32⟩
  | .local _ .vmem, ⟨11, _⟩ => ⟨S3200x1, .i32⟩
  | .local _ .vmem, ⟨12, _⟩ => ⟨S3200x1, .i32⟩
  | .local _ .vmem, ⟨13, _⟩ => ⟨S3200x3, .f32⟩
  | .local _ .vmem, ⟨14, _⟩ => ⟨S3200x3, .f32⟩
  | .local _ .vmem, ⟨15, _⟩ => ⟨S3200x16, .f32⟩
  | .local _ .vmem, ⟨16, _⟩ => ⟨S3200x16, .f32⟩
  | .local _ .vmem, ⟨17, _⟩ => ⟨S10752x4, .f32⟩
  | .local _ .vmem, ⟨18, _⟩ => ⟨S10752x1, .f32⟩
  | .local _ .vmem, ⟨19, _⟩ => ⟨S64x19, .f32⟩
  | .local _ .vmem, ⟨20, _⟩ => ⟨S8x64, .f32⟩
  | .local _ .vmem, ⟨21, _⟩ => ⟨S128x64, .f32⟩
  | .local _ .vmem, ⟨22, _⟩ => ⟨S8x128, .f32⟩
  | .local _ .vmem, ⟨23, _⟩ => ⟨S10752x128, .f32⟩
  | .local _ .vmem, ⟨24, _⟩ => ⟨S1536x128, .f32⟩
  | .local _ .vmem, ⟨25, _⟩ => ⟨S1536x128, .f32⟩
  | .local _ .vmem, ⟨26, _⟩ => ⟨S1536x1, .f32⟩
  | .local _ .vmem, ⟨27, _⟩ => ⟨S1536x1, .f32⟩
  | .local _ .vmem, ⟨28, _⟩ => ⟨S256x129, .f32⟩
  | .local _ .vmem, ⟨29, _⟩ => ⟨S8x256, .f32⟩
  | .local _ .vmem, ⟨30, _⟩ => ⟨S128x256, .f32⟩
  | .local _ .vmem, ⟨31, _⟩ => ⟨S8x128, .f32⟩
  | .local _ .vmem, ⟨32, _⟩ => ⟨S40x128, .f32⟩
  | .local _ .vmem, ⟨33, _⟩ => ⟨S8x40, .f32⟩
  | .local _ .vmem, ⟨34, _⟩ => ⟨S1536x40, .f32⟩
  | .local _ .vmem, ⟨35, _⟩ => ⟨S1536x40, .f32⟩
  | _, _ => ⟨S320000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35

abbrev nD : Nat := 1
abbrev τ : Topo := Topo.v7x

variable {F : FTy → Type} [FloatOps F]

abbrev grid0 : Pipeline.Grid := ⟨1, ![100], ![false]⟩

def k0_off1 (arg4 : BitVec 32) : Fin 2 → Nat :=
  let c0_i32_7 : BitVec 32 := 0#32
  let v17 : BitVec 1 := Scalar.cmpi .sgt arg4 c0_i32_7
  let v18 : BitVec 32 := Scalar.extui v17
  let c0_i32_8 : BitVec 32 := 0#32
  let v19 : BitVec 1 := Scalar.cmpi .slt arg4 c0_i32_8
  let v20 : BitVec 32 := Scalar.extui v19
  let v21 : BitVec 32 := Scalar.subi v18 v20
  let c8_i32 : BitVec 32 := 8#32
  let c0_i32_9 : BitVec 32 := 0#32
  let v22 : BitVec 1 := Scalar.cmpi .sgt c8_i32 c0_i32_9
  let v23 : BitVec 32 := Scalar.extui v22
  let c0_i32_10 : BitVec 32 := 0#32
  let v24 : BitVec 1 := Scalar.cmpi .slt c8_i32 c0_i32_10
  let v25 : BitVec 32 := Scalar.extui v24
  let v26 : BitVec 32 := Scalar.subi v23 v25
  let v27 : BitVec 1 := Scalar.cmpi .ne v21 v26
  let v28 : BitVec 32 := Scalar.remsi arg4 c8_i32
  let c0_i32_11 : BitVec 32 := 0#32
  let v29 : BitVec 1 := Scalar.cmpi .ne v28 c0_i32_11
  let v30 : BitVec 1 := Scalar.andi v27 v29
  let v16 : BitVec 32 := Scalar.divsi arg4 c8_i32
  let c1_i32 : BitVec 32 := 1#32
  let v31 : BitVec 32 := Scalar.subi v16 c1_i32
  let v32 : BitVec 32 := Scalar.select v30 v31 v16
  let c8_i32_12 : BitVec 32 := 8#32
  let v33 : BitVec 32 := Scalar.muli v32 c8_i32_12
  let v42 : Index := Scalar.indexCast v33
  let c0_13 : Index := 0#32
  ![v42.toNat, 0]

def k0_chk1 (arg4 : BitVec 32) : Prop :=
  (∀ a, (k0_off1 arg4) a + S128x4.size a ≤ S10752x4.size a)
theorem k0_off1_inb : ∀ (arg4 : BitVec 32) (k0_hw1 : k0_chk1 arg4), ∀ a, (k0_off1 arg4) a + S128x4.size a ≤ S10752x4.size a := fun arg4 k0_hw1 => k0_hw1

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3200x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10752x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![100], ![false]⟩

def k1_off1 (arg5 : BitVec 32) : Fin 2 → Nat :=
  let c0_i32_33 : BitVec 32 := 0#32
  let v140 : BitVec 1 := Scalar.cmpi .sgt arg5 c0_i32_33
  let v141 : BitVec 32 := Scalar.extui v140
  let c0_i32_34 : BitVec 32 := 0#32
  let v142 : BitVec 1 := Scalar.cmpi .slt arg5 c0_i32_34
  let v143 : BitVec 32 := Scalar.extui v142
  let v144 : BitVec 32 := Scalar.subi v141 v143
  let c8_i32 : BitVec 32 := 8#32
  let c0_i32_35 : BitVec 32 := 0#32
  let v145 : BitVec 1 := Scalar.cmpi .sgt c8_i32 c0_i32_35
  let v146 : BitVec 32 := Scalar.extui v145
  let c0_i32_36 : BitVec 32 := 0#32
  let v147 : BitVec 1 := Scalar.cmpi .slt c8_i32 c0_i32_36
  let v148 : BitVec 32 := Scalar.extui v147
  let v149 : BitVec 32 := Scalar.subi v146 v148
  let v150 : BitVec 1 := Scalar.cmpi .ne v144 v149
  let v151 : BitVec 32 := Scalar.remsi arg5 c8_i32
  let c0_i32_37 : BitVec 32 := 0#32
  let v152 : BitVec 1 := Scalar.cmpi .ne v151 c0_i32_37
  let v153 : BitVec 1 := Scalar.andi v150 v152
  let v139 : BitVec 32 := Scalar.divsi arg5 c8_i32
  let c1_i32 : BitVec 32 := 1#32
  let v154 : BitVec 32 := Scalar.subi v139 c1_i32
  let v155 : BitVec 32 := Scalar.select v153 v154 v139
  let c8_i32_38 : BitVec 32 := 8#32
  let v156 : BitVec 32 := Scalar.muli v155 c8_i32_38
  let v165 : Index := Scalar.indexCast v156
  let c0_39 : Index := 0#32
  ![v165.toNat, 0]

def k1_chk1 (arg5 : BitVec 32) : Prop :=
  (∀ a, (k1_off1 arg5) a + S128x4.size a ≤ S10752x4.size a)
theorem k1_off1_inb : ∀ (arg5 : BitVec 32) (k1_hw1 : k1_chk1 arg5), ∀ a, (k1_off1 arg5) a + S128x4.size a ≤ S10752x4.size a := fun arg5 k1_hw1 => k1_hw1

def k1_off2 (arg5 : BitVec 32) : Fin 2 → Nat :=
  let c0_i32_33 : BitVec 32 := 0#32
  let v140 : BitVec 1 := Scalar.cmpi .sgt arg5 c0_i32_33
  let v141 : BitVec 32 := Scalar.extui v140
  let c0_i32_34 : BitVec 32 := 0#32
  let v142 : BitVec 1 := Scalar.cmpi .slt arg5 c0_i32_34
  let v143 : BitVec 32 := Scalar.extui v142
  let v144 : BitVec 32 := Scalar.subi v141 v143
  let c8_i32 : BitVec 32 := 8#32
  let c0_i32_35 : BitVec 32 := 0#32
  let v145 : BitVec 1 := Scalar.cmpi .sgt c8_i32 c0_i32_35
  let v146 : BitVec 32 := Scalar.extui v145
  let c0_i32_36 : BitVec 32 := 0#32
  let v147 : BitVec 1 := Scalar.cmpi .slt c8_i32 c0_i32_36
  let v148 : BitVec 32 := Scalar.extui v147
  let v149 : BitVec 32 := Scalar.subi v146 v148
  let v150 : BitVec 1 := Scalar.cmpi .ne v144 v149
  let v151 : BitVec 32 := Scalar.remsi arg5 c8_i32
  let c0_i32_37 : BitVec 32 := 0#32
  let v152 : BitVec 1 := Scalar.cmpi .ne v151 c0_i32_37
  let v153 : BitVec 1 := Scalar.andi v150 v152
  let v139 : BitVec 32 := Scalar.divsi arg5 c8_i32
  let c1_i32 : BitVec 32 := 1#32
  let v154 : BitVec 32 := Scalar.subi v139 c1_i32
  let v155 : BitVec 32 := Scalar.select v153 v154 v139
  let c8_i32_38 : BitVec 32 := 8#32
  let v156 : BitVec 32 := Scalar.muli v155 c8_i32_38
  let v175 : Index := Scalar.indexCast v156
  let c0_44 : Index := 0#32
  ![v175.toNat, 0]

def k1_chk2 (arg5 : BitVec 32) : Prop :=
  (∀ a, (k1_off2 arg5) a + S128x1.size a ≤ S10752x1.size a)
theorem k1_off2_inb : ∀ (arg5 : BitVec 32) (k1_hw2 : k1_chk2 arg5), ∀ a, (k1_off2 arg5) a + S128x1.size a ≤ S10752x1.size a := fun arg5 k1_hw2 => k1_hw2

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3200x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10752x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10752x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![100], ![false]⟩

def k2_off1 (arg11 : BitVec 32) : Fin 2 → Nat :=
  let c0_i32_45 : BitVec 32 := 0#32
  let v179 : BitVec 1 := Scalar.cmpi .sgt arg11 c0_i32_45
  let v180 : BitVec 32 := Scalar.extui v179
  let c0_i32_46 : BitVec 32 := 0#32
  let v181 : BitVec 1 := Scalar.cmpi .slt arg11 c0_i32_46
  let v182 : BitVec 32 := Scalar.extui v181
  let v183 : BitVec 32 := Scalar.subi v180 v182
  let c8_i32 : BitVec 32 := 8#32
  let c0_i32_47 : BitVec 32 := 0#32
  let v184 : BitVec 1 := Scalar.cmpi .sgt c8_i32 c0_i32_47
  let v185 : BitVec 32 := Scalar.extui v184
  let c0_i32_48 : BitVec 32 := 0#32
  let v186 : BitVec 1 := Scalar.cmpi .slt c8_i32 c0_i32_48
  let v187 : BitVec 32 := Scalar.extui v186
  let v188 : BitVec 32 := Scalar.subi v185 v187
  let v189 : BitVec 1 := Scalar.cmpi .ne v183 v188
  let v190 : BitVec 32 := Scalar.remsi arg11 c8_i32
  let c0_i32_49 : BitVec 32 := 0#32
  let v191 : BitVec 1 := Scalar.cmpi .ne v190 c0_i32_49
  let v192 : BitVec 1 := Scalar.andi v189 v191
  let v178 : BitVec 32 := Scalar.divsi arg11 c8_i32
  let c1_i32 : BitVec 32 := 1#32
  let v193 : BitVec 32 := Scalar.subi v178 c1_i32
  let v194 : BitVec 32 := Scalar.select v192 v193 v178
  let c8_i32_50 : BitVec 32 := 8#32
  let v195 : BitVec 32 := Scalar.muli v194 c8_i32_50
  let v204 : Index := Scalar.indexCast v195
  let c0_51 : Index := 0#32
  ![v204.toNat, 0]

def k2_off2 (arg11 : BitVec 32) : Fin 2 → Nat :=
  let c0_i32_45 : BitVec 32 := 0#32
  let v179 : BitVec 1 := Scalar.cmpi .sgt arg11 c0_i32_45
  let v180 : BitVec 32 := Scalar.extui v179
  let c0_i32_46 : BitVec 32 := 0#32
  let v181 : BitVec 1 := Scalar.cmpi .slt arg11 c0_i32_46
  let v182 : BitVec 32 := Scalar.extui v181
  let v183 : BitVec 32 := Scalar.subi v180 v182
  let c8_i32 : BitVec 32 := 8#32
  let c0_i32_47 : BitVec 32 := 0#32
  let v184 : BitVec 1 := Scalar.cmpi .sgt c8_i32 c0_i32_47
  let v185 : BitVec 32 := Scalar.extui v184
  let c0_i32_48 : BitVec 32 := 0#32
  let v186 : BitVec 1 := Scalar.cmpi .slt c8_i32 c0_i32_48
  let v187 : BitVec 32 := Scalar.extui v186
  let v188 : BitVec 32 := Scalar.subi v185 v187
  let v189 : BitVec 1 := Scalar.cmpi .ne v183 v188
  let v190 : BitVec 32 := Scalar.remsi arg11 c8_i32
  let c0_i32_49 : BitVec 32 := 0#32
  let v191 : BitVec 1 := Scalar.cmpi .ne v190 c0_i32_49
  let v192 : BitVec 1 := Scalar.andi v189 v191
  let v178 : BitVec 32 := Scalar.divsi arg11 c8_i32
  let c1_i32 : BitVec 32 := 1#32
  let v193 : BitVec 32 := Scalar.subi v178 c1_i32
  let v194 : BitVec 32 := Scalar.select v192 v193 v178
  let c8_i32_50 : BitVec 32 := 8#32
  let v195 : BitVec 32 := Scalar.muli v194 c8_i32_50
  let v207 : Index := Scalar.indexCast v195
  let c0_52 : Index := 0#32
  ![v207.toNat, 0]

def k2_chk1 (arg11 : BitVec 32) : Prop :=
  (∀ a, (k2_off1 arg11) a + S128x4.size a ≤ S10752x4.size a) ∧
  (∀ a, (k2_off2 arg11) a + S128x1.size a ≤ S10752x1.size a)
theorem k2_off1_inb : ∀ (arg11 : BitVec 32) (k2_hw1 : k2_chk1 arg11), ∀ a, (k2_off1 arg11) a + S128x4.size a ≤ S10752x4.size a := fun arg11 k2_hw1 => k2_hw1.1
theorem k2_off2_inb : ∀ (arg11 : BitVec 32) (k2_hw1 : k2_chk1 arg11), ∀ a, (k2_off2 arg11) a + S128x1.size a ≤ S10752x1.size a := fun arg11 k2_hw1 => k2_hw1.2

def k2_off3 (arg11 : BitVec 32) : Fin 2 → Nat :=
  let c0_i32_45 : BitVec 32 := 0#32
  let v179 : BitVec 1 := Scalar.cmpi .sgt arg11 c0_i32_45
  let v180 : BitVec 32 := Scalar.extui v179
  let c0_i32_46 : BitVec 32 := 0#32
  let v181 : BitVec 1 := Scalar.cmpi .slt arg11 c0_i32_46
  let v182 : BitVec 32 := Scalar.extui v181
  let v183 : BitVec 32 := Scalar.subi v180 v182
  let c8_i32 : BitVec 32 := 8#32
  let c0_i32_47 : BitVec 32 := 0#32
  let v184 : BitVec 1 := Scalar.cmpi .sgt c8_i32 c0_i32_47
  let v185 : BitVec 32 := Scalar.extui v184
  let c0_i32_48 : BitVec 32 := 0#32
  let v186 : BitVec 1 := Scalar.cmpi .slt c8_i32 c0_i32_48
  let v187 : BitVec 32 := Scalar.extui v186
  let v188 : BitVec 32 := Scalar.subi v185 v187
  let v189 : BitVec 1 := Scalar.cmpi .ne v183 v188
  let v190 : BitVec 32 := Scalar.remsi arg11 c8_i32
  let c0_i32_49 : BitVec 32 := 0#32
  let v191 : BitVec 1 := Scalar.cmpi .ne v190 c0_i32_49
  let v192 : BitVec 1 := Scalar.andi v189 v191
  let v178 : BitVec 32 := Scalar.divsi arg11 c8_i32
  let c1_i32 : BitVec 32 := 1#32
  let v193 : BitVec 32 := Scalar.subi v178 c1_i32
  let v194 : BitVec 32 := Scalar.select v192 v193 v178
  let c8_i32_50 : BitVec 32 := 8#32
  let v195 : BitVec 32 := Scalar.muli v194 c8_i32_50
  let v216 : Index := Scalar.indexCast v195
  let c0_56 : Index := 0#32
  ![v216.toNat, 0]

def k2_chk2 (arg11 : BitVec 32) : Prop :=
  (∀ a, (k2_off3 arg11) a + S128x128.size a ≤ S10752x128.size a)
theorem k2_off3_inb : ∀ (arg11 : BitVec 32) (k2_hw2 : k2_chk2 arg11), ∀ a, (k2_off3 arg11) a + S128x128.size a ≤ S10752x128.size a := fun arg11 k2_hw2 => k2_hw2

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S3200x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3200x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S10752x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10752x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x19 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S8x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S10752x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![7], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1536x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1536x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x129 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S8x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S40x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S8x40 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1536x40 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== ReferenceIdeal.lean ====
abbrev S320000x3 : Shape := ⟨2, ![320000, 3]⟩
abbrev S320000x16 : Shape := ⟨2, ![320000, 16]⟩
abbrev S320000 : Shape := ⟨1, ![320000]⟩
abbrev S64x19 : Shape := ⟨2, ![64, 19]⟩
abbrev S64 : Shape := ⟨1, ![64]⟩
abbrev S128x64 : Shape := ⟨2, ![128, 64]⟩
abbrev S128 : Shape := ⟨1, ![128]⟩
abbrev S256x129 : Shape := ⟨2, ![256, 129]⟩
abbrev S256 : Shape := ⟨1, ![256]⟩
abbrev S128x256 : Shape := ⟨2, ![128, 256]⟩
abbrev S40x128 : Shape := ⟨2, ![40, 128]⟩
abbrev S40 : Shape := ⟨1, ![40]⟩
abbrev S_ : Shape := ⟨0, ![]⟩
abbrev S10000 : Shape := ⟨1, ![10000]⟩
abbrev S320000x1 : Shape := ⟨2, ![320000, 1]⟩
abbrev S10000x3 : Shape := ⟨2, ![10000, 3]⟩
abbrev S10000x1 : Shape := ⟨2, ![10000, 1]⟩
abbrev S1x320000 : Shape := ⟨2, ![1, 320000]⟩
abbrev S10000x320000 : Shape := ⟨2, ![10000, 320000]⟩
abbrev S320000x19 : Shape := ⟨2, ![320000, 19]⟩
abbrev S19x64 : Shape := ⟨2, ![19, 64]⟩
abbrev S320000x64 : Shape := ⟨2, ![320000, 64]⟩
abbrev S1x64 : Shape := ⟨2, ![1, 64]⟩
abbrev S64x128 : Shape := ⟨2, ![64, 128]⟩
abbrev S320000x128 : Shape := ⟨2, ![320000, 128]⟩
abbrev S1x128 : Shape := ⟨2, ![1, 128]⟩
abbrev S10000x320000x1 : Shape := ⟨3, ![10000, 320000, 1]⟩
abbrev S1x320000x128 : Shape := ⟨3, ![1, 320000, 128]⟩
abbrev S10000x320000x128 : Shape := ⟨3, ![10000, 320000, 128]⟩
abbrev S10000x128 : Shape := ⟨2, ![10000, 128]⟩
abbrev S10000x129 : Shape := ⟨2, ![10000, 129]⟩
abbrev S129x256 : Shape := ⟨2, ![129, 256]⟩
abbrev S10000x256 : Shape := ⟨2, ![10000, 256]⟩
abbrev S1x256 : Shape := ⟨2, ![1, 256]⟩
abbrev S256x128 : Shape := ⟨2, ![256, 128]⟩
abbrev S128x40 : Shape := ⟨2, ![128, 40]⟩
abbrev S10000x40 : Shape := ⟨2, ![10000, 40]⟩
abbrev S1x40 : Shape := ⟨2, ![1, 40]⟩

abbrev nBuf : Space → Nat
  | .hbm => 136
  | .vmem => 0
  | .smem => 0
  | _ => 0

abbrev hbmTy0_0 (i : Nat) : BufTy := match i % 128 with
  | 0 => ⟨S320000x3, .f32⟩
  | 1 => ⟨S320000x16, .f32⟩
  | 2 => ⟨S320000, .i32⟩
  | 3 => ⟨S64x19, .f32⟩
  | 4 => ⟨S64, .f32⟩
  | 5 => ⟨S128x64, .f32⟩
  | 6 => ⟨S128, .f32⟩
  | 7 => ⟨S256x129, .f32⟩
  | 8 => ⟨S256, .f32⟩
  | 9 => ⟨S128x256, .f32⟩
  | 10 => ⟨S128, .f32⟩
  | 11 => ⟨S40x128, .f32⟩
  | 12 => ⟨S40, .f32⟩
  | 13 => ⟨S_, .f32⟩
  | 14 => ⟨S320000, .f32⟩
  | 15 => ⟨S_, .f32⟩
  | 16 => ⟨S10000, .f32⟩
  | 17 => ⟨S320000x1, .i32⟩
  | 18 => ⟨S10000, .f32⟩
  | 19 => ⟨S_, .f32⟩
  | 20 => ⟨S10000x3, .f32⟩
  | 21 => ⟨S320000x1, .i32⟩
  | 22 => ⟨S10000x3, .f32⟩
  | 23 => ⟨S_, .f32⟩
  | 24 => ⟨S10000, .f32⟩
  | 25 => ⟨S10000, .f32⟩
  | 26 => ⟨S10000x1, .f32⟩
  | 27 => ⟨S10000x3, .f32⟩
  | 28 => ⟨S10000x3, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000x3, .f32⟩
  | 38 => ⟨S320000x3, .f32⟩
  | 39 => ⟨S320000x3, .f32⟩
  | 40 => ⟨S_, .f32⟩
  | 41 => ⟨S320000, .f32⟩
  | 42 => ⟨S_, .f32⟩
  | 43 => ⟨S320000, .f32⟩
  | 44 => ⟨S320000, .f32⟩
  | 45 => ⟨S320000, .f32⟩
  | 46 => ⟨S10000, .i32⟩
  | 47 => ⟨S10000x1, .i32⟩
  | 48 => ⟨S1x320000, .i32⟩
  | 49 => ⟨S10000x320000, .i32⟩
  | 50 => ⟨S10000x320000, .i32⟩
  | 51 => ⟨S10000x320000, .i1⟩
  | 52 => ⟨S1x320000, .f32⟩
  | 53 => ⟨S_, .f32⟩
  | 54 => ⟨S_, .f32⟩
  | 55 => ⟨S10000x320000, .f32⟩
  | 56 => ⟨S10000x320000, .f32⟩
  | 57 => ⟨S10000x320000, .f32⟩
  | 58 => ⟨S_, .f32⟩
  | 59 => ⟨S10000, .f32⟩
  | 60 => ⟨S_, .f32⟩
  | 61 => ⟨S10000, .f32⟩
  | 62 => ⟨S10000, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000, .f32⟩
  | 72 => ⟨S320000x1, .f32⟩
  | 73 => ⟨S320000x3, .f32⟩
  | 74 => ⟨S320000x3, .f32⟩
  | 75 => ⟨S_, .f32⟩
  | 76 => ⟨S10000, .f32⟩
  | 77 => ⟨S10000, .f32⟩
  | 78 => ⟨S320000x19, .f32⟩
  | 79 => ⟨S19x64, .f32⟩
  | 80 => ⟨S320000x64, .f32⟩
  | 81 => ⟨S1x64, .f32⟩
  | 82 => ⟨S320000x64, .f32⟩
  | 83 => ⟨S320000x64, .f32⟩
  | 84 => ⟨S_, .f32⟩
  | 85 => ⟨S320000x64, .f32⟩
  | 86 => ⟨S320000x64, .f32⟩
  | 87 => ⟨S64x128, .f32⟩
  | 88 => ⟨S320000x128, .f32⟩
  | 89 => ⟨S1x128, .f32⟩
  | 90 => ⟨S320000x128, .f32⟩
  | 91 => ⟨S320000x128, .f32⟩
  | 92 => ⟨S_, .f32⟩
  | 93 => ⟨S320000x128, .f32⟩
  | 94 => ⟨S320000x128, .f32⟩
  | 95 => ⟨S10000x320000x1, .i1⟩
  | 96 => ⟨S1x320000x128, .f32⟩
  | 97 => ⟨S_, .f32⟩
  | 98 => ⟨S_, .f32⟩
  | 99 => ⟨S10000x320000x128, .i1⟩
  | 100 => ⟨S10000x320000x128, .f32⟩
  | 101 => ⟨S10000x320000x128, .f32⟩
  | 102 => ⟨S10000x320000x128, .f32⟩
  | 103 => ⟨S_, .f32⟩
  | 104 => ⟨S10000x128, .f32⟩
  | 105 => ⟨S10000x128, .f32⟩
  | 106 => ⟨S_, .f32⟩
  | 107 => ⟨S10000x128, .f32⟩
  | 108 => ⟨S10000x128, .i1⟩
  | 109 => ⟨S_, .f32⟩
  | 110 => ⟨S_, .f32⟩
  | 111 => ⟨S10000x128, .f32⟩
  | 112 => ⟨S10000x128, .f32⟩
  | 113 => ⟨S10000x1, .f32⟩
  | 114 => ⟨S10000x129, .f32⟩
  | 115 => ⟨S129x256, .f32⟩
  | 116 => ⟨S10000x256, .f32⟩
  | 117 => ⟨S1x256, .f32⟩
  | 118 => ⟨S10000x256, .f32⟩
  | 119 => ⟨S10000x256, .f32⟩
  | 120 => ⟨S_, .f32⟩
  | 121 => ⟨S10000x256, .f32⟩
  | 122 => ⟨S10000x256, .f32⟩
  | 123 => ⟨S256x128, .f32⟩
  | 124 => ⟨S10000x128, .f32⟩
  | 125 => ⟨S1x128, .f32⟩
  | 126 => ⟨S10000x128, .f32⟩
  | 127 => ⟨S10000x128, .f32⟩
  | _ => ⟨S320000x3, .f32⟩

abbrev hbmTy0_1 (i : Nat) : BufTy := match i % 128 with
  | 0 => ⟨S_, .f32⟩
  | 1 => ⟨S10000x128, .f32⟩
  | 2 => ⟨S10000x128, .f32⟩
  | 3 => ⟨S128x40, .f32⟩
  | 4 => ⟨S10000x40, .f32⟩
  | 5 => ⟨S1x40, .f32⟩
  | 6 => ⟨S10000x40, .f32⟩
  | 7 => ⟨S10000x40, .f32⟩
  | _ => ⟨S320000x3, .f32⟩

abbrev hbmTy (i : Nat) : BufTy := match i / 128 with
  | 0 => hbmTy0_0 i
  | 1 => hbmTy0_1 i
  | _ => ⟨S320000x3, .f32⟩

abbrev bufTy : (tb : Table) → Fin (tcTables nBuf tb) → BufTy
  | .hbm, ⟨i, _⟩ => hbmTy i
  | _, _ => ⟨S320000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_c_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_cst : Ref sig .tc := ⟨.hbm, 84, rfl⟩
abbrev main_call1_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call2_cst : Ref sig .tc := ⟨.hbm, 92, rfl⟩
abbrev main_call2_v0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_v63 : Ref sig .tc := ⟨.hbm, 102, rfl⟩
abbrev main_cst_13 : Ref sig .tc := ⟨.hbm, 103, rfl⟩
abbrev main_v64 : Ref sig .tc := ⟨.hbm, 104, rfl⟩
abbrev main_v65 : Ref sig .tc := ⟨.hbm, 105, rfl⟩
abbrev main_cst_14 : Ref sig .tc := ⟨.hbm, 106, rfl⟩
abbrev main_v66 : Ref sig .tc := ⟨.hbm, 107, rfl⟩
abbrev main_v67 : Ref sig .tc := ⟨.hbm, 108, rfl⟩
abbrev main_cst_15 : Ref sig .tc := ⟨.hbm, 109, rfl⟩
abbrev main_call4_v0 : Ref sig .tc := ⟨.hbm, 110, rfl⟩
abbrev main_call4_v1 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_call5_cst : Ref sig .tc := ⟨.hbm, 120, rfl⟩
abbrev main_call5_v0 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_call6_cst : Ref sig .tc := ⟨.hbm, 128, rfl⟩
abbrev main_call6_v0 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩

abbrev nD : Nat := 1
abbrev τ : Topo := Topo.v7x

variable {F : FTy → Type} [FloatOps F]
-- ==== Proof.Windows.lean ====
/-
  The windows of segment ids the kernel's data-dependent loops walk through.

  A block of 3200 rows has one segment id per row. A loop carries the least id it has not yet handled: it takes the
  window of 128 ids that starts at the greatest multiple of 8 not above the carried id, and goes on at the least id of
  the block that is not below the window's end, or at the sentinel 2^30 when there is none. This file states what the
  window's start and the next id are (as natural numbers), iterates one step of such a loop, and gives the induction
  principle every loop of the kernel is read by: the set of ids handled so far is always `{ id | id < T }`.
-/
module

public import proofs.«01_k».proof.Proof.Gen.KernelIdeal.Skeleton
public import Idealize.ShloMosaic.Lib.SortNet.Extract
public import Idealize.ShloMosaic.Lib.Pipeline.Value

@[expose] public section

noncomputable section

namespace Cert.Proof

open Idealize.ShloMosaic Cert.KernelIdeal Cert.KernelIdeal.Gen

/-! ## The start of a window -/

/-- The start of the window the id `a` falls in, as the kernel computes it: floor division by 8, times 8. -/
def winBase (a : BitVec 32) : BitVec 32 :=
  let q : BitVec 32 := Scalar.divsi a 8#32
  let sa : BitVec 32 := Scalar.subi (Scalar.extui (Scalar.cmpi .sgt a 0#32)) (Scalar.extui (Scalar.cmpi .slt a 0#32))
  let s8 : BitVec 32 := Scalar.subi (Scalar.extui (Scalar.cmpi .sgt 8#32 0#32)) (Scalar.extui (Scalar.cmpi .slt 8#32 0#32))
  let differ : BitVec 1 := Scalar.andi (Scalar.cmpi .ne sa s8) (Scalar.cmpi .ne (Scalar.remsi a 8#32) 0#32)
  Scalar.muli (Scalar.select differ (Scalar.subi q 1#32) q) 8#32

set_option maxRecDepth 100000 in
theorem winBase_fin : ∀ n : Fin 10000, winBase (BitVec.ofNat 32 n.val) = BitVec.ofNat 32 (n.val / 8 * 8) := by
  decide +kernel

/-- Of a segment id the window's start is its greatest multiple of 8. -/
theorem winBase_eq (n : ℕ) (h : n < 10000) : winBase (BitVec.ofNat 32 n) = BitVec.ofNat 32 (n / 8 * 8) :=
  winBase_fin ⟨n, h⟩

theorem winBase_toNat (n : ℕ) (h : n < 10000) : (winBase (BitVec.ofNat 32 n)).toNat = n / 8 * 8 := by
  rw [winBase_eq n h, BitVec.toNat_ofNat, Nat.mod_eq_of_lt (by omega)]

/-! ## The least id of a column -/

/-- The least word of a block's column, as the kernel reduces it. -/
def minWord (v : IVec S3200x1 32) : BitVec 32 :=
  extractAt ![0, 0, 0] (shapeCast S1x1x1 (multiReductionI .minsi [1, 2] S1 (shapeCast S1x3200x1 v shapeCasts_S3200x1_S1x3200x1)
    2147483647#32 reduces_S1x3200x1_S1 rfl) shapeCasts_S1_S1x1x1) inpos_S1x1x1_p0_0_0

/-- A fold of the signed minimum is at most every word met, and is its start or one of them. -/
theorem fold_minsi_spec {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (Finset.notMem_empty i), Or.inl (by rw [Finset.fold_empty])⟩
  | insert a s has ih =>
    obtain ⟨h2, h3⟩ := ih
    rw [Finset.fold_insert has]
    have hm := SortNet.toInt_minsi (g a) (s.fold IntOp.minsi init g)
    refine ⟨fun i hi => ?_, ?_⟩
    · rcases Finset.mem_insert.mp hi with rfl | hi
      · rw [hm]; exact min_le_left _ _
      · exact le_trans (by rw [hm]; exact min_le_right _ _) (h2 i hi)
    · rcases min_choice (g a).toInt (s.fold IntOp.minsi init g).toInt with h | h
      · exact Or.inr ⟨a, Finset.mem_insert_self a s, BitVec.eq_of_toInt_eq (hm.trans h)⟩
      · rcases h3 with h3 | ⟨i, hi, h3⟩
        · exact Or.inl ((BitVec.eq_of_toInt_eq (hm.trans h)).trans h3)
        · exact Or.inr ⟨i, Finset.mem_insert_of_mem hi, (BitVec.eq_of_toInt_eq (hm.trans h)).trans h3⟩

/-- The least word is at most every word of the column and is one of them (or the greatest word there is). -/
theorem minWord_spec (v : IVec S3200x1 32) :
    (∀ i, (minWord v).toInt ≤ (v i).toInt) ∧ (minWord v = 2147483647#32 ∨ ∃ i, minWord v = v i) := by
  have e : minWord v = (Finset.univ.filter fun i => Shape.Reduces.drop reduces_S1x3200x1_S1 i
      = Shape.reshapeEquiv shapeCasts_S1_S1x1x1 (fun a => ⟨(![0, 0, 0] : Fin 3 → ℕ) a, inpos_S1x1x1_p0_0_0 a⟩)).fold IntOp.minsi 2147483647#32
        (fun i => v (Shape.reshapeEquiv shapeCasts_S3200x1_S1x3200x1 i)) :=
    multiReductionI_eq_fold .minsi (fun i => v (Shape.reshapeEquiv shapeCasts_S3200x1_S1x3200x1 i)) 2147483647#32 reduces_S1x3200x1_S1 rfl _
  have hs := fold_minsi_spec (fun i => v (Shape.reshapeEquiv shapeCasts_S3200x1_S1x3200x1 i))
    (Finset.univ.filter fun i => Shape.Reduces.drop reduces_S1x3200x1_S1 i = Shape.reshapeEquiv shapeCasts_S1_S1x1x1 (fun a => ⟨(![0, 0, 0] : Fin 3 → ℕ) a, inpos_S1x1x1_p0_0_0 a⟩)) 2147483647#32
  rw [← e] at hs
  have hsub : ∀ x y : S1.Idx, x = y := fun x y => funext fun a => Fin.ext (by
    have hx := (x a).isLt; have hy := (y a).isLt
    have h1 : S1.size a = 1 := by fin_cases a; rfl
    omega)
  refine ⟨fun i => ?_, ?_⟩
  · have := hs.1 ((Shape.reshapeEquiv shapeCasts_S3200x1_S1x3200x1).symm i) (Finset.mem_filter.2 ⟨Finset.mem_univ _, hsub _ _⟩)
    rw [Equiv.apply_symm_apply] at this
    exact this
  · rcases hs.2 with h | ⟨i, _, h⟩
    · exact Or.inl h
    · exact Or.inr ⟨_, h⟩

/-! ## A block's ids as natural numbers, and the next id to handle -/

/-- Row `r` of a column. -/
def rowIdx (r : Fin 3200) : S3200x1.Idx := fun a => ⟨(![r.val, 0] : Fin 2 → ℕ) a, by fin_cases a <;> simp⟩

theorem rowIdx_surj (i : S3200x1.Idx) : ∃ r, i = rowIdx r := by
  refine ⟨⟨(i 0).val, (i 0).isLt⟩, funext fun a => Fin.ext ?_⟩
  fin_cases a
  · rfl
  · have : (i 1).val < 1 := (i 1).isLt
    show (i 1).val = 0
    omega

/-- The column `v` holds the ids `I`, every one below 10000. -/
structure Ids (v : IVec S3200x1 32) (I : Fin 3200 → ℕ) : Prop where
  eq : ∀ r, v (rowIdx r) = BitVec.ofNat 32 (I r)
  lt : ∀ r, I r < 10000

/-- `a` is the least of the ids `I` that are not below `T`, or the sentinel if there is none. -/
def NextId (I : Fin 3200 → ℕ) (T a : ℕ) : Prop :=
  (∀ r, T ≤ I r → a ≤ I r) ∧ ((∃ r, a = I r ∧ T ≤ I r) ∨ (a = 1073741824 ∧ ∀ r, I r < T))

/-- The next id after a window that ends at the word `e`, as the kernel computes it. -/
def nextWord (v : IVec S3200x1 32) (e : BitVec 32) : BitVec 32 :=
  minWord (select (cmpi .sge v (broadcast S3200x1 e)) v (broadcast S3200x1 1073741824#32))

theorem toInt_ofNat_small (n : ℕ) (h : n < 2 ^ 31) : (BitVec.ofNat 32 n).toInt = n := by
  have h' : (BitVec.ofNat 32 n).toNat = n := by rw [BitVec.toNat_ofNat, Nat.mod_eq_of_lt (by omega)]
  rw [BitVec.toInt_eq_toNat_of_lt (by omega), h']

theorem sge_ofNat (n m : ℕ) (hn : n < 2 ^ 31) (hm : m < 2 ^ 31) :
    IntOp.cmpi .sge (BitVec.ofNat 32 n) (BitVec.ofNat 32 m) = if m ≤ n then 1#1 else 0#1 := by
  have : IntOp.cmpi .sge (BitVec.ofNat 32 n) (BitVec.ofNat 32 m)
      = BitVec.ofBool ((BitVec.ofNat 32 m).sle (BitVec.ofNat 32 n)) := rfl
  rw [this, BitVec.sle_eq_decide, toInt_ofNat_small n hn, toInt_ofNat_small m hm]
  by_cases h : m ≤ n
  · simp [h]
  · simp [h]

theorem nextWord_spec {v : IVec S3200x1 32} {I : Fin 3200 → ℕ} (h : Ids v I) (T : ℕ) (hT : T < 20000) :
    ∃ a, nextWord v (BitVec.ofNat 32 T) = BitVec.ofNat 32 a ∧ NextId I T a := by
  obtain ⟨h1, h2⟩ := minWord_spec (select (cmpi .sge v (broadcast S3200x1 (BitVec.ofNat 32 T))) v (broadcast S3200x1 1073741824#32))
  have hval : ∀ r, select (cmpi .sge v (broadcast S3200x1 (BitVec.ofNat 32 T))) v (broadcast S3200x1 1073741824#32) (rowIdx r)
      = BitVec.ofNat 32 (if T ≤ I r then I r else 1073741824) := fun r => by
    have : select (cmpi .sge v (broadcast S3200x1 (BitVec.ofNat 32 T))) v (broadcast S3200x1 1073741824#32) (rowIdx r)
        = Scalar.select (IntOp.cmpi .sge (v (rowIdx r)) (BitVec.ofNat 32 T)) (v (rowIdx r)) 1073741824#32 := rfl
    have hr := h.lt r
    rw [this, h.eq, sge_ofNat _ _ (by omega) (by omega)]
    by_cases hc : T ≤ I r
    · simp [hc, Scalar.select]
    · simp [hc, Scalar.select]
  have hw : ∀ r, (minWord (select (cmpi .sge v (broadcast S3200x1 (BitVec.ofNat 32 T))) v (broadcast S3200x1 1073741824#32))).toInt
      ≤ ((if T ≤ I r then I r else 1073741824 : ℕ) : ℤ) := fun r => by
    have := h1 (rowIdx r)
    rw [hval, toInt_ofNat_small _ (by have := h.lt r; split <;> omega)] at this
    exact this
  have hex : ∃ r, nextWord v (BitVec.ofNat 32 T) = BitVec.ofNat 32 (if T ≤ I r then I r else 1073741824) := by
    rcases h2 with h2 | ⟨i, h2⟩
    · exfalso
      have := hw 0
      rw [h2] at this
      have h3 : (2147483647#32 : BitVec 32).toInt = 2147483647 := by decide
      rw [h3] at this
      have h4 := h.lt 0
      split at this <;> omega
    · obtain ⟨r, rfl⟩ := rowIdx_surj i
      exact ⟨r, h2.trans (hval r)⟩
  obtain ⟨r, hr⟩ := hex
  have hlow : ∀ r', (if T ≤ I r then I r else 1073741824 : ℕ) ≤ (if T ≤ I r' then I r' else 1073741824 : ℕ) := fun r' => by
    have := hw r'
    rw [show minWord (select (cmpi .sge v (broadcast S3200x1 (BitVec.ofNat 32 T))) v (broadcast S3200x1 1073741824#32)) = _ from hr,
      toInt_ofNat_small _ (by have := h.lt r; split <;> omega)] at this
    exact_mod_cast this
  refine ⟨_, hr, fun r' hr' => ?_, ?_⟩
  · have := hlow r'; rw [if_pos hr'] at this; exact this
  · by_cases hc : T ≤ I r
    · exact Or.inl ⟨r, by rw [if_pos hc], hc⟩
    · refine Or.inr ⟨by rw [if_neg hc], fun r' => ?_⟩
      by_contra hr'
      have := hlow r'
      have := h.lt r'
      rw [if_neg hc, if_pos (by omega)] at *
      omega

/-- The first id a loop takes is the least of the block. -/
theorem firstWord_spec {v : IVec S3200x1 32} {I : Fin 3200 → ℕ} (h : Ids v I) :
    ∃ a, minWord v = BitVec.ofNat 32 a ∧ NextId I 0 a := by
  obtain ⟨h1, h2⟩ := minWord_spec v
  have hw : ∀ r, (minWord v).toInt ≤ (I r : ℤ) := fun r => by
    have := h1 (rowIdx r)
    have hr := h.lt r
    rw [h.eq, toInt_ofNat_small _ (by omega)] at this
    exact this
  rcases h2 with h2 | ⟨i, h2⟩
  · exfalso
    have := hw 0
    rw [h2] at this
    have h3 : (2147483647#32 : BitVec 32).toInt = 2147483647 := by decide
    rw [h3] at this
    have := h.lt 0
    omega
  · obtain ⟨r, rfl⟩ := rowIdx_surj i
    rw [h.eq] at h2
    refine ⟨I r, h2, fun r' _ => ?_, Or.inl ⟨r, rfl, Nat.zero_le _⟩⟩
    have := hw r'
    have hr := h.lt r
    rw [h2, toInt_ofNat_small _ (by omega)] at this
    exact_mod_cast this

/-! ## The loop -/

/-- The loop's test: the carried id is not the sentinel. -/
abbrev going (a : BitVec 32) : Prop := Scalar.cmpi .slt a 1073741824#32 = 1#1

theorem going_of_lt (a : ℕ) (h : a < 10000) : going (BitVec.ofNat 32 a) := by
  have : Scalar.cmpi .slt (BitVec.ofNat 32 a) 1073741824#32 = BitVec.ofBool ((BitVec.ofNat 32 a).slt 1073741824#32) := rfl
  rw [going, this, BitVec.slt_eq_decide, toInt_ofNat_small a (by omega)]
  have h2 : (1073741824#32 : BitVec 32).toInt = 1073741824 := by decide
  rw [h2, decide_eq_true (by omega)]
  rfl

theorem not_going : ¬ going (BitVec.ofNat 32 1073741824) := by decide

/-- `k` steps, at most, of a loop that carries an id and a state. -/
def loopW {α : Type} (nxt : BitVec 32 → BitVec 32) (step : BitVec 32 → α → α) : ℕ → BitVec 32 → α → α
  | 0, _, s => s
  | k + 1, a, s => if going a then loopW nxt step k (nxt a) (step a s) else s

/-- The next id the loop over the column `v` takes after `a`. -/
def nextOf (v : IVec S3200x1 32) (a : BitVec 32) : BitVec 32 := nextWord v (Scalar.addi (winBase a) 128#32)

theorem nextOf_spec {v : IVec S3200x1 32} {I : Fin 3200 → ℕ} (h : Ids v I) (a : ℕ) (ha : a < 10000) :
    ∃ a', nextOf v (BitVec.ofNat 32 a) = BitVec.ofNat 32 a' ∧ NextId I (a / 8 * 8 + 128) a' := by
  have : Scalar.addi (winBase (BitVec.ofNat 32 a)) 128#32 = BitVec.ofNat 32 (a / 8 * 8 + 128) := by
    rw [winBase_eq a ha]
    show BitVec.ofNat 32 (a / 8 * 8) + BitVec.ofNat 32 128 = _
    rw [← BitVec.ofNat_add]
  unfold nextOf
  rw [this]
  exact nextWord_spec h _ (by omega)

theorem NextId.cases {I : Fin 3200 → ℕ} {T a : ℕ} (h : NextId I T a) (hI : ∀ r, I r < 10000) : a < 10000 ∨ a = 1073741824 := by
  rcases h.2 with ⟨r, h, _⟩ | ⟨h, _⟩
  · exact Or.inl (h ▸ hI r)
  · exact Or.inr h

theorem NextId.le {I : Fin 3200 → ℕ} {T a : ℕ} (h : NextId I T a) (hT : T < 20000) : T ≤ a := by
  rcases h.2 with ⟨r, h, h'⟩ | ⟨h, _⟩
  · omega
  · omega

/-- **The induction principle of the window loops.** `P T s` says of the state `s` that the ids below `T` have been
    handled. If a step over the window of `a` takes it from the window's start to its end, and it does not depend on the
    bound where no row has an id between, then after the loop every id has been handled. -/
theorem loopW_ind {α : Type} {v : IVec S3200x1 32} {I : Fin 3200 → ℕ} (h : Ids v I) (step : BitVec 32 → α → α)
    (P : ℕ → α → Prop)
    (hstep : ∀ a, a < 10000 → ∀ s, P (a / 8 * 8) s → P (a / 8 * 8 + 128) (step (BitVec.ofNat 32 a) s))
    (hcongr : ∀ T T' s, T ≤ T' → (∀ r, I r < T ∨ T' ≤ I r) → P T s → P T' s) :
    ∀ k a T s, T < 20000 → T % 8 = 0 → NextId I T a → 10000 ≤ a + k → P T s →
      P 1073741824 (loopW (nextOf v) step k (BitVec.ofNat 32 a) s) := by
  intro k
  induction k with
  | zero =>
    intro a T s hT _ hn hk hP
    rcases hn.cases h.lt with h1 | h1
    · omega
    · rcases hn.2 with ⟨r, h2, _⟩ | ⟨_, h2⟩
      · have := h.lt r; omega
      · exact hcongr T _ s (by omega) (fun r => Or.inl (h2 r)) hP
  | succ k ih =>
    intro a T s hT h8 hn hk hP
    rw [loopW]
    rcases hn.cases h.lt with h1 | h1
    · rw [if_pos (going_of_lt a h1)]
      obtain ⟨a', ha', hn'⟩ := nextOf_spec h a h1
      rw [ha']
      have hTa := hn.le hT
      refine ih a' (a / 8 * 8 + 128) _ (by omega) (by omega) hn' (by have := hn'.le (by omega); omega) (hstep a h1 s ?_)
      refine hcongr T _ s (by omega) (fun r => ?_) hP
      by_cases hr : T ≤ I r
      · right; have := hn.1 r hr; omega
      · left; omega
    · subst h1
      rw [if_neg not_going]
      rcases hn.2 with ⟨r, h2, _⟩ | ⟨_, h2⟩
      · have := h.lt r; omega
      · exact hcongr T _ s (by omega) (fun r => Or.inl (h2 r)) hP

/-- A whole loop over a block, from the block's least id. -/
def loopAll {α : Type} (v : IVec S3200x1 32) (step : BitVec 32 → α → α) (s : α) : α :=
  loopW (nextOf v) step 10000 (minWord v) s

theorem loopAll_ind {α : Type} {v : IVec S3200x1 32} {I : Fin 3200 → ℕ} (h : Ids v I) (step : BitVec 32 → α → α)
    (P : ℕ → α → Prop)
    (hstep : ∀ a, a < 10000 → ∀ s, P (a / 8 * 8) s → P (a / 8 * 8 + 128) (step (BitVec.ofNat 32 a) s))
    (hcongr : ∀ T T' s, T ≤ T' → (∀ r, I r < T ∨ T' ≤ I r) → P T s → P T' s) (s : α) (h0 : P 0 s) :
    P 1073741824 (loopAll v step s) := by
  obtain ⟨a, ha, hn⟩ := firstWord_spec h
  unfold loopAll
  rw [ha]
  exact loopW_ind h step P hstep hcongr 10000 a 0 s (by omega) (by omega) hn (by omega) h0

attribute [irreducible] nextOf minWord

end Cert.Proof

end
-- ==== Proof.Held.lean ====
/-
  Loads and stores through a memref that is owned at known contents, as plain functions of the contents: a load reads
  them at the load's places, and a store over a rectangle of unit strides puts its payload there.
-/
module

public import Idealize.ShloMosaic.Lib.VecWindow
public import Idealize.ShloMosaic.Lib.Pipeline.Frame

@[expose] public section

noncomputable section

namespace Cert.Proof

open Idealize.ShloMosaic
open Idealize.SL Idealize.SL.RA Idealize.SL.BI
open scoped Idealize.SL.BI
open Idealize.SL.BI (sProp)
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels} [Preorder Lvl]

local notation "𝕄" => MT nD τ sig Ix Val Name U Lvl

variable {defs : Defs nD τ sig Val Λ} (𝒱 : Variants) (c : Thread nD τ) (bd : Option 𝒱.V) (E : Set Name)
variable {s : Shape} {e : EltTy} {α : Type} {Q : α → BI.sProp (MT nD τ sig Ix Val Name U Lvl)}

/-- A load at the head of a program, its memref owned at `X`, reads `X` at the load's places. -/
theorem load_owns {cs : CoreSpace} {m : Memref sig c.2.kind cs s e} {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α} {X : s.Idx → Val e} :
    (owns c m fullShare X : sProp 𝕄)
      ⊢ iprop((owns c m fullShare X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  subst hf
  iapply (wp_load 𝒱 c bd E (m := m) (m.view.setOn_subset_set _)) $$ H
  iintro H
  iapply Hk
  iexists f
  isplitr
  · ipureintro; rfl
  · iexact H

/-- A store over a rectangle of unit strides at the head of a program, its memref owned at `X`, leaves the memref
    owned at `X` with the payload put there. -/
theorem store_owns {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ c.2) α} {X : s.Idx → Val e} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  iapply (wp_store 𝒱 c bd E (m := m) (r := Rect.unit off size inb) (Mk := Finset.univ) (w := w)
    ((View.set_slice_subset m.view (Rect.unit off size inb)))) $$ H
  iintro H
  iapply Hk
  iexists _
  isplitr
  swap
  · iexact H
  · ipureintro
    exact View.read_writes_cons_put m.view f inb w [] rfl

/-- The payload put over a whole shape is the payload. -/
theorem put_full {α : Type} (X : s.Idx → α) (off : Fin s.rank → ℕ) (inb : ∀ a, off a + s.size a ≤ s.size a) (w : s.Idx → α) :
    VecWindow.put X off s.size w = w := by
  funext y
  have h : ∀ a, off a ≤ (y a).val ∧ (y a).val < off a + s.size a := fun a => by
    have := inb a; have := (y a).isLt; omega
  unfold VecWindow.put
  rw [dif_pos h]
  congr 1
  funext a
  apply Fin.ext
  show (y a).val - off a = (y a).val
  have := inb a; omega

/-- The window of a whole shape is all of it. -/
theorem window_full {α : Type} (X : s.Idx → α) (off : Fin s.rank → ℕ) (inb : ∀ a, off a + s.size a ≤ s.size a) :
    VecWindow.window X off s.size inb = X := by
  funext y
  refine congrArg X (funext fun a => Fin.ext ?_)
  show off a + 1 * (y a).val = (y a).val
  have := inb a; omega

/-- A load of a whole memref reads its contents. -/
theorem load_owns_full {cs : CoreSpace} {m : Memref sig c.2.kind cs s e} {off : Fin s.rank → ℕ} {inb : ∀ a, off a + s.size a ≤ s.size a}
    {hl : m.view.LoadsAt (Rect.unit off s.size inb).toLoadRect}
    {k : (s.Idx → Val e) → Prog (TpuEff nD τ sig Val Λ c.2) α} {X : s.Idx → Val e} :
    (owns c m fullShare X : sProp 𝕄)
      ⊢ iprop((owns c m fullShare X -∗ wp frame (wpE defs 𝒱 c bd) E (k X) Q)
        -∗ wp frame (wpE defs 𝒱 c bd) E (.op (.load m (Rect.unit off s.size inb).toLoadRect hl) k) Q) := by
  have h := load_owns (Q := Q) (defs := defs) 𝒱 c bd E (m := m) (inb := inb) (hl := hl) (k := k) (X := X)
  rw [window_full X off inb] at h
  exact h

/-- A store over a whole memref leaves it owned at the payload. -/
theorem store_owns_full {cs : CoreSpace} {m : Memref sig c.2.kind cs s e} {off : Fin s.rank → ℕ} {inb : ∀ a, off a + s.size a ≤ s.size a}
    {w : s.Idx → Val e} {hx : (m.access (Rect.unit off s.size inb)).Stores Finset.univ}
    {hm : Finset.univ = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  have h := store_owns (Q := Q) (defs := defs) 𝒱 c bd E (m := m) (inb := inb) (w := w) (hx := hx) (hm := hm) (k := k) (X := X)
  rw [put_full X off inb w] at h
  exact h

/-- A store over a whole memref made under a condition, whichever way it goes before the rest of the program. -/
theorem init_owns_full {cs : CoreSpace} {m : Memref sig c.2.kind cs s e} {off : Fin s.rank → ℕ} {inb : ∀ a, off a + s.size a ≤ s.size a}
    {w : s.Idx → Val e} {hl : m.view.LoadsAt (Rect.unit off s.size inb).toLoadRect}
    {hx : (m.access (Rect.unit off s.size inb)).Stores Finset.univ}
    {hm : Finset.univ = Finset.univ ∨ ∀ a, (Rect.unit off s.size inb).stride a = 1}
    {P : Prop} [Decidable P] {rest : Prog (TpuEff nD τ sig Val Λ c.2) α} {X : s.Idx → Val e} :
    (owns c m fullShare X : sProp 𝕄)
      ⊢ iprop((owns c m fullShare (if P then w else X) -∗ wp frame (wpE defs 𝒱 c bd) E rest Q)
        -∗ wp frame (wpE defs 𝒱 c bd) E (if _h : P then .op (.load m (Rect.unit off s.size inb).toLoadRect hl) fun _ =>
            .op (.store m (Rect.unit off s.size inb) w Finset.univ hx hm) fun _ => rest else rest) Q) := by
  by_cases h : P
  · simp only [h, ↓reduceDIte, ↓reduceIte]
    iintro H Hk
    iapply (load_owns_full 𝒱 c bd E (m := m)) $$ H
    iintro H
    iapply (store_owns_full 𝒱 c bd E (m := m)) $$ H
    iintro H
    iapply Hk; iexact H
  · simp only [h, ↓reduceDIte, ↓reduceIte]
    iintro H Hk
    iapply Hk; iexact H

end Cert.Proof

end
-- ==== Proof.Common.lean ====
/-
  What every region's proof of the idealized program shares: the resource algebra, the variants that count a loop's
  remaining steps, the bounds of the windows, and the steps left of a loop.
-/
module

public import proofs.«01_k».proof.Proof.Gen.KernelIdeal.Launch
public import proofs.«01_k».proof.Proof.Gen.KernelIdeal.Skeleton
public import proofs.«01_k».proof.Proof.Windows
public import proofs.«01_k».proof.Proof.Held
public import Idealize.ShloMosaic.Lib.Tactic

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra: the rounds library's over the machine's cells, duties named by `Unit`. -/
abbrev UR : Type := URounds (GSem nD τ sig) Unit

/-- The algebra the program's resources live in. -/
abbrev MM (F : FTy → Type) : Type _ := MT nD τ sig Unit (Elt F) ℕ UR ℕ

/-- Its embedding into the algebra of the machine. -/
def EP : Emb UR (MM F) :=
  (Emb.refl _).trans (uEmb (nD := nD) (sig := sig) (Ix := Unit) (Val := Elt F) (Name := ℕ) (U := UR) (Lvl := ℕ)).toEmb

instance EP_landsIn : (EP : Emb UR (MM F)).LandsIn (upEmb : UEmb _ (MM F)) := by unfold EP; infer_instance

/-- A loop's label is entered at the number of steps it may still take. -/
abbrev 𝒱₀ : Variants := Variants.nat

/-- The carried id `a` is a segment id or the sentinel, and `k` steps suffice from it. -/
def Left (k : ℕ) (a : BitVec 32) : Prop := ∃ n, a = BitVec.ofNat 32 n ∧ (n < 10000 ∨ n = 1073741824) ∧ 10000 ≤ n + k

theorem Left.stop {a : BitVec 32} (h : Left 0 a) : ¬ going a := by
  obtain ⟨n, rfl, h1 | rfl, h2⟩ := h
  · omega
  · exact not_going

theorem Left.next {v : IVec S3200x1 32} (hv : ∃ I, Ids v I) {k : ℕ} {a : BitVec 32} (h : Left (k + 1) a) (hg : going a) :
    (∃ n, n < 10000 ∧ a = BitVec.ofNat 32 n) ∧ Left k (nextOf v a) := by
  obtain ⟨I, hv⟩ := hv
  obtain ⟨n, rfl, h1 | rfl, h2⟩ := h
  · refine ⟨⟨n, h1, rfl⟩, ?_⟩
    obtain ⟨a', ha', hn⟩ := nextOf_spec hv n h1
    exact ⟨a', ha', hn.cases hv.lt, by have := hn.le (by omega); omega⟩
  · exact absurd hg not_going

theorem Left.first {v : IVec S3200x1 32} (hv : ∃ I, Ids v I) : Left 10000 (minWord v) := by
  obtain ⟨I, hv⟩ := hv
  obtain ⟨a, ha, hn⟩ := firstWord_spec hv
  exact ⟨a, ha, hn.cases hv.lt, by omega⟩

/-- A window of 128 rows that starts below segment 10000 lies inside an array of 10752 rows. -/
theorem window_inb (n w : ℕ) (h : n < 10000) :
    ∀ a : Fin 2, (![(winBase (BitVec.ofNat 32 n)).toNat, 0] : Fin 2 → ℕ) a + (![128, w] : Fin 2 → ℕ) a ≤ (![10752, w] : Fin 2 → ℕ) a := by
  intro a
  rw [winBase_toNat n h]
  fin_cases a
  · show n / 8 * 8 + 128 ≤ 10752; omega
  · show 0 + w ≤ w; omega

theorem chk0_1 (n : ℕ) (h : n < 10000) : k0_chk1 (BitVec.ofNat 32 n) := window_inb n 4 h
theorem chk1_1 (n : ℕ) (h : n < 10000) : k1_chk1 (BitVec.ofNat 32 n) := window_inb n 4 h
theorem chk1_2 (n : ℕ) (h : n < 10000) : k1_chk2 (BitVec.ofNat 32 n) := window_inb n 1 h
theorem chk2_1 (n : ℕ) (h : n < 10000) : k2_chk1 (BitVec.ofNat 32 n) := ⟨window_inb n 4 h, window_inb n 1 h⟩
theorem chk2_2 (n : ℕ) (h : n < 10000) : k2_chk2 (BitVec.ofNat 32 n) := window_inb n 128 h

end Cert.Proof.KI

end
-- ==== Proof.Loop0.lean ====
/-
  The statistics kernel's loop: over a block's windows it adds, into the rows of each window, the sums of the
  coordinates and of the ones of the block's rows that have those segment ids.
-/
module

public import proofs.«01_k».proof.Proof.Common

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UR ℕ

/-- One step of the loop on the statistics: the window of `a` updated. -/
def step0 (v4 : IVec S3200x1 32) (v7 : FVec F S3200x4 .f32) (a : BitVec 32) (X : FVec F S10752x4 .f32) : FVec F S10752x4 .f32 :=
  if h : k0_chk1 a then
    VecWindow.put X (k0_off1 a) S128x4.size (k0_pay6 v4 v7 a (VecWindow.window X (k0_off1 a) S128x4.size (k0_off1_inb a h)))
  else X

/-- The id the loop's body goes on at. -/
theorem next0 (v4 : IVec S3200x1 32) (a : BitVec 32) :
    extractAt ![0, 0, 0] (k0_pay7 v4 a) inpos_S1x1x1_p0_0_0 = nextOf v4 a := by unfold nextOf nextWord minWord; rfl

section Label

variable (c : Dev nD) (i : grid0.Coords) (v4 : IVec S3200x1 32) (arg3 : Memref sig .tc .vmem S10752x4 .f32) (harg3 : arg3.IsWhole) (v7 : FVec F S3200x4 .f32)

/-- The loop's specification with at most `k` steps to go from the id `a`: the statistics owned at `X` are handed back
    after those steps. -/
def spec4 (k : ℕ) (a : BitVec 32) (X : FVec F S10752x4 .f32) : sWPT 𝕄 (BitVec 32) := do
  sWPT.consume (owns (c : Thread nD τ) arg3 fullShare X)
  let r ← sWPT.arbitrary
  sWPT.produce (owns (c : Thread nD τ) arg3 fullShare (loopW (nextOf v4) (step0 v4 v7) k a X))
  pure r

theorem spec4_apply (k : ℕ) (a : BitVec 32) (X : FVec F S10752x4 .f32) (K : BitVec 32 → sProp 𝕄) :
    spec4 c v4 arg3 v7 k a X K
      = iprop(owns (c : Thread nD τ) arg3 fullShare X ∗ ∀ r : BitVec 32, (owns (c : Thread nD τ) arg3 fullShare (loopW (nextOf v4) (step0 v4 v7) k a X) -∗ K r)) := rfl

/-- The loop's body meets its specification, by induction on the steps to go. -/
theorem spec4_le (hv : ∃ I, Ids v4 I) (E : Set ℕ) :
    ∀ k a, Left k a → ∀ X K, spec4 c v4 arg3 v7 k a X K
      ⊢ wp frame (wpE (defs₀ (F := F)) 𝒱₀ (c : Thread nD τ) (some k)) E
          (defs₀ (F := F) .tc 4 ⟨i, v4, arg3, harg3, v7, a⟩) K := by
  intro k
  induction k with
  | zero =>
    intro a ha X K
    rw [spec4_apply]
    show _ ⊢ wp frame (wpE (defs₀ (F := F)) 𝒱₀ (c : Thread nD τ) (some 0)) E (cc0_while1 i v4 arg3 harg3 v7 a) K
    rw [cc0_while1_eq_skeleton]; unfold cc0_while1_skel
    have htest := ha.stop
    simp only [htest, ↓reduceIte, Prog.pure_eq_ret]
    iintro ⟨H, Hk⟩
    rw [wp_ret]; imodintro
    iapply Hk
    simp only [loopW]; iexact H
  | succ k ih =>
    intro a ha X K
    rw [spec4_apply]
    show _ ⊢ wp frame (wpE (defs₀ (F := F)) 𝒱₀ (c : Thread nD τ) (some (k + 1))) E (cc0_while1 i v4 arg3 harg3 v7 a) K
    rw [cc0_while1_eq_skeleton]; unfold cc0_while1_skel
    by_cases hg : going a
    · obtain ⟨⟨n, hn, hna⟩, hl⟩ := ha.next hv hg
      have hchk : k0_chk1 a := hna ▸ chk0_1 n hn
      simp only [show Scalar.cmpi .slt a 1073741824#32 = 1#1 from hg, ↓reduceIte, next0, Prog.lift, Prog.bind_op, Prog.bind_ret, Prog.pure_eq_ret]
      have hih := ih _ hl (step0 v4 v7 a X)
      iintro ⟨H, Hk⟩
      iapply (wp_assume 𝒱₀ (c : Thread nD τ) (some (k + 1)) E hchk)
      iapply (load_owns 𝒱₀ (c : Thread nD τ) (some (k + 1)) E (m := arg3)) $$ H
      iintro H
      iapply (load_owns 𝒱₀ (c : Thread nD τ) (some (k + 1)) E (m := arg3)) $$ H
      iintro H
      iapply (store_owns 𝒱₀ (c : Thread nD τ) (some (k + 1)) E (m := arg3) (off := k0_off1 a) (size := S128x4.size)
        (inb := k0_off1_inb a hchk) (w := k0_pay6 v4 v7 a (VecWindow.window X (k0_off1 a) S128x4.size (k0_off1_inb a hchk)))) $$ H
      iintro H
      iapply (wp_call_spec (defs := defs₀ (F := F)) (ℓ := (4 : (Λ₀ F).Label)) (a := ⟨i, v4, arg3, harg3, v7, nextOf v4 a⟩) 𝒱₀ (c : Thread nD τ) (some (k + 1)) E
        (spec4 c v4 arg3 v7 k (nextOf v4 a) (step0 v4 v7 a X)) k (fun u hu => by cases hu; exact Nat.lt_succ_self k) hih)
      rw [spec4_apply]
      isplitl [H]
      · rw [step0, dif_pos hchk]; iexact H
      · iintro %r H
        rw [wp_ret]; imodintro
        iapply Hk
        rw [loopW, if_pos hg]; iexact H
    · simp only [show ¬ Scalar.cmpi .slt a 1073741824#32 = 1#1 from hg, ↓reduceIte, Prog.pure_eq_ret]
      iintro ⟨H, Hk⟩
      rw [wp_ret]; imodintro
      iapply Hk
      rw [loopW, if_neg hg]; iexact H

end Label

end Cert.Proof.KI

end
-- ==== Proof.Body0.lean ====
/-
  The statistics kernel at one grid point: what it leaves in its result's buffer, as a function of the blocks it reads
  and of what the buffer held.
-/
module

public import proofs.«01_k».proof.Proof.Loop0

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UR ℕ

/-- The grid point is the `n`-th, as the kernel tests it. -/
abbrev atPoint (i : ℕ) (n : BitVec 32) : Prop := Scalar.cmpi .ne (Scalar.extui (Scalar.cmpi .eq (BitVec.ofNat 32 i) n)) 0#32 = 1#1

/-- What a grid point's window loop starts from: zeros at the first point, else what the buffer holds. -/
def init0 (i : grid0.Coords) (X : FVec F S10752x4 .f32) : FVec F S10752x4 .f32 :=
  if atPoint (i 0).val 0#32 then k0_pay1 (F := F) else X

/-- What a grid point leaves: its block added to the sums, and at the last point the sums turned into means. -/
def out0 (i : grid0.Coords) (v3 : Vec F S3200x1 .i32) (v5 : Vec F S3200x3 .f32) (X : FVec F S10752x4 .f32) : FVec F S10752x4 .f32 :=
  if atPoint (i 0).val 99#32 then k0_pay5 (loopAll (k0_pay2 (F := F) v3) (step0 (k0_pay2 (F := F) v3) (k0_pay3 v5)) (init0 i X))
  else loopAll (k0_pay2 (F := F) v3) (step0 (k0_pay2 (F := F) v3) (k0_pay3 v5)) (init0 i X)

theorem first0 (v3 : Vec F S3200x1 .i32) :
    extractAt ![0, 0, 0] (k0_pay4 v3) inpos_S1x1x1_p0_0_0 = minWord (k0_pay2 (F := F) v3) := by unfold minWord; rfl

/-- The statistics kernel's body at a grid point. -/
theorem body0 (c : Dev nD) (i : grid0.Coords) (arg1 : Memref sig .tc .vmem S3200x1 .i32) (harg1 : arg1.IsWhole)
    (arg2 : Memref sig .tc .vmem S3200x3 .f32) (harg2 : arg2.IsWhole) (arg3 : Memref sig .tc .vmem S10752x4 .f32) (harg3 : arg3.IsWhole)
    (v3 : Vec F S3200x1 .i32) (v5 : Vec F S3200x3 .f32) (X : FVec F S10752x4 .f32) (hv : ∃ I, Ids (k0_pay2 (F := F) v3) I)
    (E : Set ℕ) (Q : PUnit → sProp 𝕄) :
    iprop(owns (c : Thread nD τ) arg1 fullShare v3 ∗ owns (c : Thread nD τ) arg2 fullShare v5 ∗ owns (c : Thread nD τ) arg3 fullShare X
      ∗ (iprop(owns (c : Thread nD τ) arg1 fullShare v3 ∗ owns (c : Thread nD τ) arg2 fullShare v5
        ∗ owns (c : Thread nD τ) arg3 fullShare (out0 i v3 v5 X)) -∗ Q ⟨⟩))
      ⊢ wp frame (wpE (defs₀ (F := F)) 𝒱₀ (c : Thread nD τ) none) E (cc0__stats_kernel i arg1 harg1 arg2 harg2 arg3 harg3) Q := by
  rw [cc0__stats_kernel_eq_skeleton]; unfold cc0__stats_kernel_skel
  have hcall := fun Y => spec4_le (F := F) c i (k0_pay2 (F := F) v3) arg3 harg3 (k0_pay3 v5) hv E 10000 _ (Left.first hv) Y
  simp only [first0, Prog.lift, Prog.bind_op, Prog.bind_ret, Prog.pure_eq_ret]
  iintro ⟨H1, H2, H3, Hk⟩
  iapply (init_owns_full 𝒱₀ (c : Thread nD τ) none E (m := arg3)) $$ H3
  iintro H3
  iapply (load_owns_full 𝒱₀ (c : Thread nD τ) none E (m := arg1)) $$ H1
  iintro H1
  iapply (load_owns_full 𝒱₀ (c : Thread nD τ) none E (m := arg2)) $$ H2
  iintro H2
  iapply (wp_call_spec (defs := defs₀ (F := F)) (ℓ := (4 : (Λ₀ F).Label)) (a := ⟨i, k0_pay2 v3, arg3, harg3, k0_pay3 v5, minWord (k0_pay2 v3)⟩)
    𝒱₀ (c : Thread nD τ) none E _ 10000 (fun u hu => nomatch hu) (hcall (init0 i X)))
  rw [spec4_apply]
  isplitl [H3]
  · iexact H3
  iintro %r H3
  by_cases h1 : atPoint (i 0).val 99#32
  · simp only [h1, ↓reduceDIte]
    iapply (load_owns_full 𝒱₀ (c : Thread nD τ) none E (m := arg3)) $$ H3
    iintro H3
    iapply (load_owns_full 𝒱₀ (c : Thread nD τ) none E (m := arg3)) $$ H3
    iintro H3
    iapply (store_owns_full 𝒱₀ (c : Thread nD τ) none E (m := arg3)) $$ H3
    iintro H3
    rw [wp_ret]; imodintro
    iapply Hk
    isplitl [H1]; · iexact H1
    isplitl [H2]; · iexact H2
    rw [out0, if_pos h1]
    iexact H3
  · simp only [h1, ↓reduceDIte]
    rw [wp_ret]; imodintro
    iapply Hk
    isplitl [H1]; · iexact H1
    isplitl [H2]; · iexact H2
    rw [out0, if_neg h1]
    iexact H3

end Cert.Proof.KI

end
-- ==== Proof.Acc.lean ====
/-
  What a buffer holds that every grid point updates: the fold of the points' updates.
-/
module

public import Mathlib.Data.Nat.Init
public import Mathlib.Logic.Basic

@[expose] public section

namespace Cert.Proof

/-- The first `n` points' updates, from `x0`. -/
def accW {N : ℕ} {α : Type} (f : Fin N → α → α) (x0 : α) : ℕ → α
  | 0 => x0
  | n + 1 => if h : n < N then f ⟨n, h⟩ (accW f x0 n) else accW f x0 n

theorem accW_succ {N : ℕ} {α : Type} (f : Fin N → α → α) (x0 : α) (t : Fin N) : accW f x0 (t.val + 1) = f t (accW f x0 t.val) := by
  rw [accW, dif_pos t.isLt]

end Cert.Proof

end
-- ==== Proof.Region0.lean ====
/-
  The statistics kernel's region: the proof data of its pipeline from any contents of the buffers, the body's obligation at
  every grid point, and what the region leaves.
-/
module

public import proofs.«01_k».proof.Proof.Body0
public import proofs.«01_k».proof.Proof.Acc
public import proofs.«01_k».proof.Proof.Gen.KernelIdeal.Regions
public import proofs.«01_k».proof.Proof.Gen.KernelIdeal.Points
public import Idealize.ShloMosaic.Lib.Pipeline.ValueKit

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UR ℕ

variable (V : (c : Dev nD) → (b : Ref sig .tc) → Buf (Elt F) ((c : Thread nD τ).loc b))

/-- The block of window 0 at a point: the array at the region's entry, read through the window. -/
def blk0_0 (c : Dev nD) (t : Fin (cfg0 (F := F)).N) : ((cfg0 (F := F)).win 0).block.Idx → Elt F ((cfg0 (F := F)).win 0).elt :=
  (((cfg0 (F := F)).win 0).blk t).view.read (Elt F) (V c main_v0)
/-- The block of window 1 at a point: the array at the region's entry, read through the window. -/
def blk0_1 (c : Dev nD) (t : Fin (cfg0 (F := F)).N) : ((cfg0 (F := F)).win 1).block.Idx → Elt F ((cfg0 (F := F)).win 1).elt :=
  (((cfg0 (F := F)).win 1).blk t).view.read (Elt F) (V c main_arg0)

/-- One point's update of the result's buffer. -/
def upd0 (c : Dev nD) (t : Fin (cfg0 (F := F)).N) (X : FVec F S10752x4 .f32) : FVec F S10752x4 .f32 :=
  out0 (grid0.coords t) (blk0_0 V c t) (blk0_1 V c t) X

/-- The result's buffer after the first `n` points. -/
def acc0 (c : Dev nD) (n : ℕ) : FVec F S10752x4 .f32 := accW (upd0 V c) (k0_pay1 (F := F)) n

/-- What the body leaves in the result's buffer at a point. -/
def left0 (c : Dev nD) (t : Fin (cfg0 (F := F)).N) : ((cfg0 (F := F)).win 2).block.Idx → Elt F ((cfg0 (F := F)).win 2).elt :=
  acc0 V c (t.val + 1)

/-- The proof data of the region entered at `V`. -/
def dat0 (c : Dev nD) : Dat τ (Elt F) Unit ℕ UR ℕ (cfg0 (F := F)) c where
  A w := V c (Pipeline.arrRef spec0 w)
  after w t := match w with
    | ⟨0, _⟩ => blk0_0 V c t
    | ⟨1, _⟩ => blk0_1 V c t
    | ⟨2, _⟩ => left0 V c t
  Φ _ := Pipeline.scopedRest (Ix := Unit) (Name := ℕ) (U := UR) (Lvl := ℕ) (Val := Elt F) spec0 c
  q _ := fullShare
  owed _ := 0

theorem before0_0 (c : Dev nD) (t : Fin (cfg0 (F := F)).N) (d) : (dat0 V c).before (0 : Fin 3) t d = blk0_0 V c t :=
  (dat0 V c).before_in_eq_fetched 0 rfl (fun _ => rfl) (fun _ _ _ => rfl) (fun _ => rfl) t d
theorem before0_1 (c : Dev nD) (t : Fin (cfg0 (F := F)).N) (d) : (dat0 V c).before (1 : Fin 3) t d = blk0_1 V c t :=
  (dat0 V c).before_in_eq_fetched 1 rfl (fun _ => rfl) (fun _ _ _ => rfl) (fun _ => rfl) t d

/-- At the first point the update does not read the buffer. -/
theorem upd0_first (c : Dev nD) (t : Fin (cfg0 (F := F)).N) (h : t.val = 0) (X : FVec F S10752x4 .f32) :
    upd0 V c t X = upd0 V c t (k0_pay1 (F := F)) := by
  obtain rfl : t = ⟨0, lt_of_lt_of_eq (by decide : 0 < 100) (show (cfg0 (F := F)).N = 100 from N_0).symm⟩ := Fin.ext h
  have hp : atPoint (((grid0.coords ⟨0, lt_of_lt_of_eq (by decide : 0 < 100) (show grid0.N = 100 from N_0).symm⟩) 0)).val 0#32 := by decide
  unfold upd0 out0 init0
  simp only [if_pos hp]

theorem before0_2 (c : Dev nD) (t : Fin (cfg0 (F := F)).N) (d) :
    upd0 V c t ((dat0 V c).before (2 : Fin 3) t d) = acc0 V c (t.val + 1) := by
  unfold acc0
  rw [accW_succ]
  by_cases h : t.val = 0
  · exact (upd0_first V c t h _).trans (upd0_first V c t h _).symm
  · congr 1
    have ht : t.val < 100 := lt_of_lt_of_eq t.isLt (show (cfg0 (F := F)).N = 100 from N_0)
    rw [(dat0 V c).before_out_kept 2 rfl t h (by
      rw [← Bool.not_eq_true]; intro hf
      have := (flush0_2 _).mp hf
      simp only at this
      omega) (fun _ => rfl) (fun _ _ => rfl) d]
    show accW (upd0 V c) _ (t.val - 1 + 1) = _
    rw [Nat.sub_add_cancel (Nat.pos_of_ne_zero h)]

/-- The body's obligation at every point. -/
theorem obl0 (hV : ∀ c t, ∃ I, Ids (k0_pay2 (F := F) (blk0_0 V c t)) I) (c : Dev nD) : BodyObligation (dat0 V c) (defs₀ (F := F)) 𝒱₀ () Set.univ := fun t => by
  rw [bigSep_W0, bigSep_W0]
  rw [show (dat0 V c).Φ t.castSucc = Pipeline.scopedRest spec0 c from rfl, show (dat0 V c).Φ t.succ = Pipeline.scopedRest spec0 c from rfl,
    show (dat0 V c).owesAt () t.succ = (dat0 V c).owesAt () t.castSucc from rfl]
  simp only [before0_0, before0_1]
  iintro ⟨HΦ, Howes, ⟨%d0, H0⟩, ⟨%d1, H1⟩, ⟨%d2, H2⟩⟩
  iapply (body0 c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2))
    (blk0_0 V c t) (blk0_1 V c t) ((dat0 V c).before 2 t d2) (hV c t) Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  have hb : out0 (grid0.coords t) (blk0_0 V c t) (blk0_1 V c t) ((dat0 V c).before 2 t d2) = acc0 V c (t.val + 1) := before0_2 V c t d2
  rw [hb]
  iexact H2

end Cert.Proof.KI

end
-- ==== Proof.Loop1.lean ====
/-
  The radius kernel's two loops: the gather of each row's segment statistics, and the update of the segments' running
  largest distances.
-/
module

public import proofs.«01_k».proof.Proof.Common

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UR ℕ

/-- One step of the gather: the rows of the window of `a` that the block's ids name are added to what has been
    gathered. -/
def step5 (v4 : IVec S3200x1 32) (X : FVec F S10752x4 .f32) (a : BitVec 32) (acc : FVec F S3200x4 .f32) : FVec F S3200x4 .f32 :=
  if h : k1_chk1 a then k1_pay1 v4 a acc (VecWindow.window X (k1_off1 a) S128x4.size (k1_off1_inb a h)) else acc

/-- The id the loop's body goes on at. -/
theorem next5 (v4 : IVec S3200x1 32) (a : BitVec 32) :
    extractAt ![0, 0, 0] (k1_pay2 v4 a) inpos_S1x1x1_p0_0_0 = nextOf v4 a := by unfold nextOf nextWord minWord; rfl

section Label5

variable (c : Dev nD) (i : grid1.Coords) (v4 : IVec S3200x1 32) (arg3 : Memref sig .tc .vmem S10752x4 .f32) (harg3 : arg3.IsWhole)

/-- The loop's specification with at most `k` steps to go from the id `a`: what it reads is handed back unchanged, and
    the second component of its result is what those steps have gathered. -/
def spec5 (X : FVec F S10752x4 .f32) (k : ℕ) (a : BitVec 32) (acc : FVec F S3200x4 .f32) : sWPT 𝕄 (BitVec 32 × FVec F S3200x4 .f32) := do
  sWPT.consume iprop(owns (c : Thread nD τ) arg3 fullShare X)
  let r ← sWPT.arbitrary
  sWPT.produce iprop(owns (c : Thread nD τ) arg3 fullShare X ∗ ⌜r.2 = loopW (nextOf v4) (step5 v4 X) k a acc⌝)
  pure r

theorem spec5_apply (X : FVec F S10752x4 .f32) (k : ℕ) (a : BitVec 32) (acc : FVec F S3200x4 .f32) (K : BitVec 32 × FVec F S3200x4 .f32 → sProp 𝕄) :
    spec5 c v4 arg3 X k a acc K
      = iprop((owns (c : Thread nD τ) arg3 fullShare X) ∗ ∀ r : BitVec 32 × FVec F S3200x4 .f32,
          (iprop(owns (c : Thread nD τ) arg3 fullShare X ∗ ⌜r.2 = loopW (nextOf v4) (step5 v4 X) k a acc⌝) -∗ K r)) := rfl

/-- The loop's body meets its specification, by induction on the steps to go. -/
theorem spec5_le (X : FVec F S10752x4 .f32) (hv : ∃ I, Ids v4 I) (E : Set ℕ) :
    ∀ k a, Left k a → ∀ acc K, spec5 c v4 arg3 X k a acc K
      ⊢ wp frame (wpE (defs₀ (F := F)) 𝒱₀ (c : Thread nD τ) (some k)) E
          (defs₀ (F := F) .tc 5 ⟨i, v4, arg3, harg3, a, acc⟩) K := by
  intro k
  induction k with
  | zero =>
    intro a ha acc K
    rw [spec5_apply]
    show _ ⊢ wp frame (wpE (defs₀ (F := F)) 𝒱₀ (c : Thread nD τ) (some 0)) E (cc1_while1 i v4 arg3 harg3 a acc) K
    rw [cc1_while1_eq_skeleton]; unfold cc1_while1_skel
    have htest := ha.stop
    simp only [htest, ↓reduceIte, Prog.pure_eq_ret]
    iintro ⟨H, Hk⟩
    rw [wp_ret]; imodintro
    iapply Hk
    simp only [loopW]
    icases H with ⟨H0⟩
    isplitl [H0]
    · iexact H0
    ipureintro; trivial
  | succ k ih =>
    intro a ha acc K
    rw [spec5_apply]
    show _ ⊢ wp frame (wpE (defs₀ (F := F)) 𝒱₀ (c : Thread nD τ) (some (k + 1))) E (cc1_while1 i v4 arg3 harg3 a acc) K
    rw [cc1_while1_eq_skeleton]; unfold cc1_while1_skel
    by_cases hg : going a
    · obtain ⟨⟨n, hn, hna⟩, hl⟩ := ha.next hv hg
      have hchk : k1_chk1 a := hna ▸ chk1_1 n hn
      simp only [show Scalar.cmpi .slt a 1073741824#32 = 1#1 from hg, ↓reduceIte, next5, Prog.lift, Prog.bind_op, Prog.bind_ret, Prog.pure_eq_ret]
      have hih := ih _ hl (step5 v4 X a acc)
      iintro ⟨H, Hk⟩
      icases H with ⟨H0⟩
      iapply (wp_assume 𝒱₀ (c : Thread nD τ) (some (k + 1)) E hchk)
      iapply (load_owns 𝒱₀ (c : Thread nD τ) (some (k + 1)) E (m := arg3)) $$ H0
      iintro H0
      iapply (wp_call_spec (defs := defs₀ (F := F)) (ℓ := (5 : (Λ₀ F).Label)) (a := ⟨i, v4, arg3, harg3, nextOf v4 a, k1_pay1 v4 a acc (VecWindow.window X (k1_off1 a) S128x4.size (k1_off1_inb a hchk))⟩) 𝒱₀ (c : Thread nD τ) (some (k + 1)) E
        (spec5 c v4 arg3 X k (nextOf v4 a) (step5 v4 X a acc)) k (fun u hu => by cases hu; exact Nat.lt_succ_self k) (by rw [step5, dif_pos hchk] at hih ⊢; exact hih))
      rw [spec5_apply]
      isplitl [H0]
      · iexact H0
      · iintro %r ⟨H0, %hr⟩
        rw [wp_ret]; imodintro
        iapply Hk
        isplitl [H0]
        · iexact H0
        ipureintro
        rw [loopW, if_pos hg]; exact hr
    · simp only [show ¬ Scalar.cmpi .slt a 1073741824#32 = 1#1 from hg, ↓reduceIte, Prog.pure_eq_ret]
      iintro ⟨H, Hk⟩
      rw [wp_ret]; imodintro
      iapply Hk
      icases H with ⟨H0⟩
      isplitl [H0]
      · iexact H0
      ipureintro
      rw [loopW, if_neg hg]

end Label5

/-- One step of the loop on the running maxima: the window of `a` updated. -/
def step6 (v4 : IVec S3200x1 32) (v23 : IVec S3200x1 1) (d : FVec F S3200x2 .f32) (a : BitVec 32) (X : FVec F S10752x1 .f32) : FVec F S10752x1 .f32 :=
  if h : k1_chk2 a then
    VecWindow.put X (k1_off2 a) S128x1.size (k1_pay16 v4 v23 d a (VecWindow.window X (k1_off2 a) S128x1.size (k1_off2_inb a h)))
  else X

/-- The id the loop's body goes on at. -/
theorem next6 (v4 : IVec S3200x1 32) (a : BitVec 32) :
    extractAt ![0, 0, 0] (k1_pay3 v4 (winBase a) 128#32) inpos_S1x1x1_p0_0_0 = nextOf v4 a := by unfold nextOf nextWord minWord; rfl

section Label6

variable (c : Dev nD) (i : grid1.Coords) (v4 : IVec S3200x1 32) (v23 : IVec S3200x1 1) (d : FVec F S3200x2 .f32)
  (arg4 : Memref sig .tc .vmem S10752x1 .f32) (harg4 : arg4.IsWhole)

/-- The loop's specification with at most `k` steps to go from the id `a`: the running maxima owned at `X` are handed
    back after those steps. -/
def spec6 (k : ℕ) (a : BitVec 32) (X : FVec F S10752x1 .f32) : sWPT 𝕄 (BitVec 32) := do
  sWPT.consume (owns (c : Thread nD τ) arg4 fullShare X)
  let r ← sWPT.arbitrary
  sWPT.produce (owns (c : Thread nD τ) arg4 fullShare (loopW (nextOf v4) (step6 v4 v23 d) k a X))
  pure r

theorem spec6_apply (k : ℕ) (a : BitVec 32) (X : FVec F S10752x1 .f32) (K : BitVec 32 → sProp 𝕄) :
    spec6 c v4 v23 d arg4 k a X K
      = iprop(owns (c : Thread nD τ) arg4 fullShare X ∗ ∀ r : BitVec 32, (owns (c : Thread nD τ) arg4 fullShare (loopW (nextOf v4) (step6 v4 v23 d) k a X) -∗ K r)) := rfl

/-- The loop's body meets its specification, by induction on the steps to go. -/
theorem spec6_le (hv : ∃ I, Ids v4 I) (E : Set ℕ) :
    ∀ k a, Left k a → ∀ X K, spec6 c v4 v23 d arg4 k a X K
      ⊢ wp frame (wpE (defs₀ (F := F)) 𝒱₀ (c : Thread nD τ) (some k)) E
          (defs₀ (F := F) .tc 6 ⟨i, v4, v23, d, arg4, harg4, a⟩) K := by
  intro k
  induction k with
  | zero =>
    intro a ha X K
    rw [spec6_apply]
    show _ ⊢ wp frame (wpE (defs₀ (F := F)) 𝒱₀ (c : Thread nD τ) (some 0)) E (cc1_while2 i v4 v23 d arg4 harg4 a) K
    rw [cc1_while2_eq_skeleton]; unfold cc1_while2_skel
    have htest := ha.stop
    simp only [htest, ↓reduceIte, Prog.pure_eq_ret]
    iintro ⟨H, Hk⟩
    rw [wp_ret]; imodintro
    iapply Hk
    simp only [loopW]; iexact H
  | succ k ih =>
    intro a ha X K
    rw [spec6_apply]
    show _ ⊢ wp frame (wpE (defs₀ (F := F)) 𝒱₀ (c : Thread nD τ) (some (k + 1))) E (cc1_while2 i v4 v23 d arg4 harg4 a) K
    rw [cc1_while2_eq_skeleton]; unfold cc1_while2_skel
    by_cases hg : going a
    · obtain ⟨⟨n, hn, hna⟩, hl⟩ := ha.next hv hg
      have hchk : k1_chk2 a := hna ▸ chk1_2 n hn
      rw [k1_part4_eq_skeleton]; unfold k1_part4_skel
      have hnext := next6 v4 a
      simp only [winBase] at hnext
      simp only [show Scalar.cmpi .slt a 1073741824#32 = 1#1 from hg, ↓reduceIte, hnext, Prog.lift, Prog.bind_op, Prog.bind_ret, Prog.pure_eq_ret]
      have hih := ih _ hl (step6 v4 v23 d a X)
      iintro ⟨H, Hk⟩
      iapply (wp_assume 𝒱₀ (c : Thread nD τ) (some (k + 1)) E hchk)
      iapply (load_owns 𝒱₀ (c : Thread nD τ) (some (k + 1)) E (m := arg4)) $$ H
      iintro H
      iapply (load_owns 𝒱₀ (c : Thread nD τ) (some (k + 1)) E (m := arg4)) $$ H
      iintro H
      iapply (store_owns 𝒱₀ (c : Thread nD τ) (some (k + 1)) E (m := arg4) (off := k1_off2 a) (size := S128x1.size)
        (inb := k1_off2_inb a hchk) (w := k1_pay16 v4 v23 d a (VecWindow.window X (k1_off2 a) S128x1.size (k1_off2_inb a hchk)))) $$ H
      iintro H
      iapply (wp_call_spec (defs := defs₀ (F := F)) (ℓ := (6 : (Λ₀ F).Label)) (a := ⟨i, v4, v23, d, arg4, harg4, nextOf v4 a⟩) 𝒱₀ (c : Thread nD τ) (some (k + 1)) E
        (spec6 c v4 v23 d arg4 k (nextOf v4 a) (step6 v4 v23 d a X)) k (fun u hu => by cases hu; exact Nat.lt_succ_self k) hih)
      rw [spec6_apply]
      isplitl [H]
      · rw [step6, dif_pos hchk]; iexact H
      · iintro %r H
        rw [wp_ret]; imodintro
        iapply Hk
        rw [loopW, if_pos hg]; iexact H
    · simp only [show ¬ Scalar.cmpi .slt a 1073741824#32 = 1#1 from hg, ↓reduceIte, Prog.pure_eq_ret]
      iintro ⟨H, Hk⟩
      rw [wp_ret]; imodintro
      iapply Hk
      rw [loopW, if_neg hg]; iexact H

end Label6

end Cert.Proof.KI

end
-- ==== Proof.Body1.lean ====
/-
  The radius kernel at one grid point: what it leaves in its result's buffer, as a function of the blocks it reads and
  of what the buffer held.
-/
module

public import proofs.«01_k».proof.Proof.Loop1
public import proofs.«01_k».proof.Proof.Body0

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UR ℕ

/-- What the block's rows gather from the statistics. -/
def gath1 (v3 : Vec F S3200x1 .i32) (S : FVec F S10752x4 .f32) : FVec F S3200x4 .f32 :=
  loopAll (k1_pay5 (F := F) v3) (step5 (k1_pay5 (F := F) v3) S) (k1_pay6 (F := F))

/-- The suffix maxima of the rows' distances, beside the column of ones, from what the rows gathered. -/
def data1 (v3 : Vec F S3200x1 .i32) (v5 : Vec F S3200x3 .f32) (g : FVec F S3200x4 .f32) : FVec F S3200x2 .f32 :=
  k1_pay14 (k1_pay5 (F := F) v3) (k1_pay11 (k1_pay5 (F := F) v3) (k1_pay9 v3 v5 g) (k1_pay10 v3 v5 g))
    (k1_pay12 (k1_pay5 (F := F) v3) (k1_pay9 v3 v5 g) (k1_pay10 v3 v5 g)) (k1_pay13 (k1_pay5 (F := F) v3)) 4294967294#32

/-- What a grid point leaves: the running maxima, from minus infinity at the first point, with the block taken in. -/
def out1 (i : grid1.Coords) (v3 : Vec F S3200x1 .i32) (v5 : Vec F S3200x3 .f32) (S : FVec F S10752x4 .f32) (X : FVec F S10752x1 .f32) :
    FVec F S10752x1 .f32 :=
  loopAll (k1_pay5 (F := F) v3) (step6 (k1_pay5 (F := F) v3) (k1_pay8 (F := F) v3) (data1 v3 v5 (gath1 v3 S)))
    (if atPoint (i 0).val 0#32 then k1_pay4 (F := F) else X)

theorem first5 (v3 : Vec F S3200x1 .i32) :
    extractAt ![0, 0, 0] (k1_pay7 (F := F) v3) inpos_S1x1x1_p0_0_0 = minWord (k1_pay5 (F := F) v3) := by unfold minWord; rfl

theorem first6 (v4 : IVec S3200x1 32) :
    extractAt ![0, 0, 0] (k1_pay15 v4) inpos_S1x1x1_p0_0_0 = minWord v4 := by unfold minWord; rfl

section Kernel1

variable (c : Dev nD) (i : grid1.Coords) (arg1 : Memref sig .tc .vmem S3200x1 .i32) (harg1 : arg1.IsWhole)
    (arg2 : Memref sig .tc .vmem S3200x3 .f32) (harg2 : arg2.IsWhole) (arg3 : Memref sig .tc .vmem S10752x4 .f32) (harg3 : arg3.IsWhole)
    (arg4 : Memref sig .tc .vmem S10752x1 .f32) (harg4 : arg4.IsWhole)
    (v3 : Vec F S3200x1 .i32) (v5 : Vec F S3200x3 .f32) (S : FVec F S10752x4 .f32) (X : FVec F S10752x1 .f32)
    (hv : ∃ I, Ids (k1_pay5 (F := F) v3) I) (E : Set ℕ)

include hv in
/-- The kernel up to the distances: the result's buffer set at the first point, the statistics gathered. -/
theorem part1_1 (Q : (Σ' (_ : IVec S3200x1 32) (_ : IVec S3200x1 1) (_ : FVec F S3200x1 .f32), FVec F S3196x1 .f32) → sProp 𝕄) :
    iprop(owns (c : Thread nD τ) arg1 fullShare v3 ∗ owns (c : Thread nD τ) arg2 fullShare v5 ∗ owns (c : Thread nD τ) arg3 fullShare S
      ∗ owns (c : Thread nD τ) arg4 fullShare X
      ∗ (iprop(owns (c : Thread nD τ) arg1 fullShare v3 ∗ owns (c : Thread nD τ) arg2 fullShare v5 ∗ owns (c : Thread nD τ) arg3 fullShare S
        ∗ owns (c : Thread nD τ) arg4 fullShare (if atPoint (i 0).val 0#32 then k1_pay4 (F := F) else X))
          -∗ Q ⟨k1_pay5 (F := F) v3, k1_pay8 (F := F) v3, k1_pay9 v3 v5 (gath1 v3 S), k1_pay10 v3 v5 (gath1 v3 S)⟩))
      ⊢ wp frame (wpE (defs₀ (F := F)) 𝒱₀ (c : Thread nD τ) none) E (k1_part1 i arg1 harg1 arg2 harg2 arg3 harg3 arg4 harg4) Q := by
  rw [k1_part1_eq_skeleton]; unfold k1_part1_skel
  have hcall := spec5_le (F := F) c i (k1_pay5 (F := F) v3) arg3 harg3 S hv E 10000 _ (Left.first hv) (k1_pay6 (F := F))
  simp only [first5, Prog.lift, Prog.bind_op, Prog.bind_ret, Prog.pure_eq_ret]
  iintro ⟨H1, H2, H3, H4, Hk⟩
  iapply (init_owns_full 𝒱₀ (c : Thread nD τ) none E (m := arg4)) $$ H4
  iintro H4
  iapply (load_owns_full 𝒱₀ (c : Thread nD τ) none E (m := arg1)) $$ H1
  iintro H1
  iapply (load_owns_full 𝒱₀ (c : Thread nD τ) none E (m := arg2)) $$ H2
  iintro H2
  iapply (wp_call_spec (defs := defs₀ (F := F)) (ℓ := (5 : (Λ₀ F).Label)) (a := ⟨i, k1_pay5 v3, arg3, harg3, minWord (k1_pay5 (F := F) v3), k1_pay6⟩)
    𝒱₀ (c : Thread nD τ) none E _ 10000 (fun u hu => nomatch hu) hcall)
  rw [spec5_apply]
  isplitl [H3]
  · iexact H3
  iintro %r ⟨H3, %hr⟩
  obtain ⟨r1, r2⟩ := r
  have hr' : r2 = gath1 v3 S := hr
  subst hr'
  rw [wp_ret]; imodintro
  iapply Hk
  isplitl [H1]; · iexact H1
  isplitl [H2]; · iexact H2
  isplitl [H3]; · iexact H3
  iexact H4

include hv in
/-- The radius kernel's body at a grid point. -/
theorem body1 (Q : PUnit → sProp 𝕄) :
    iprop(owns (c : Thread nD τ) arg1 fullShare v3 ∗ owns (c : Thread nD τ) arg2 fullShare v5 ∗ owns (c : Thread nD τ) arg3 fullShare S
      ∗ owns (c : Thread nD τ) arg4 fullShare X
      ∗ (iprop(owns (c : Thread nD τ) arg1 fullShare v3 ∗ owns (c : Thread nD τ) arg2 fullShare v5 ∗ owns (c : Thread nD τ) arg3 fullShare S
        ∗ owns (c : Thread nD τ) arg4 fullShare (out1 i v3 v5 S X)) -∗ Q ⟨⟩))
      ⊢ wp frame (wpE (defs₀ (F := F)) 𝒱₀ (c : Thread nD τ) none) E (cc1__radius_kernel i arg1 harg1 arg2 harg2 arg3 harg3 arg4 harg4) Q := by
  rw [cc1__radius_kernel_eq_skeleton]; unfold cc1__radius_kernel_skel
  rw [wp_bind, k1_part3_eq_skeleton]; unfold k1_part3_skel
  rw [wp_bind]
  iintro ⟨H1, H2, H3, H4, Hk⟩
  iapply (part1_1 c i arg1 harg1 arg2 harg2 arg3 harg3 arg4 harg4 v3 v5 S X hv E)
  isplitl [H1]; · iexact H1
  isplitl [H2]; · iexact H2
  isplitl [H3]; · iexact H3
  isplitl [H4]; · iexact H4
  iintro ⟨H1, H2, H3, H4⟩
  rw [k1_part2_eq_skeleton]; unfold k1_part2_skel
  simp only [first6, Prog.lift, Prog.bind_op, Prog.bind_ret, Prog.pure_eq_ret]
  rw [wp_ret]; imodintro
  have hcall := spec6_le (F := F) c i (k1_pay5 (F := F) v3) (k1_pay8 (F := F) v3) (data1 v3 v5 (gath1 v3 S)) arg4 harg4 hv E 10000 _ (Left.first hv)
    (if atPoint (i 0).val 0#32 then k1_pay4 (F := F) else X)
  iapply (wp_call_spec (defs := defs₀ (F := F)) (ℓ := (6 : (Λ₀ F).Label)) (a := ⟨i, k1_pay5 v3, k1_pay8 v3, data1 v3 v5 (gath1 v3 S), arg4, harg4, minWord (k1_pay5 (F := F) v3)⟩)
    𝒱₀ (c : Thread nD τ) none E _ 10000 (fun u hu => nomatch hu) hcall)
  rw [spec6_apply]
  isplitl [H4]
  · iexact H4
  iintro %r H4
  rw [wp_ret]; imodintro
  iapply Hk
  isplitl [H1]; · iexact H1
  isplitl [H2]; · iexact H2
  isplitl [H3]; · iexact H3
  iexact H4

end Kernel1

end Cert.Proof.KI

end
-- ==== Proof.Region1.lean ====
/-
  The radius kernel's region: the proof data of its pipeline from any contents of the buffers, the body's obligation at
  every grid point, and what the region leaves.
-/
module

public import proofs.«01_k».proof.Proof.Body1
public import proofs.«01_k».proof.Proof.Acc
public import proofs.«01_k».proof.Proof.Gen.KernelIdeal.Regions
public import proofs.«01_k».proof.Proof.Gen.KernelIdeal.Points
public import Idealize.ShloMosaic.Lib.Pipeline.ValueKit

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UR ℕ

variable (V : (c : Dev nD) → (b : Ref sig .tc) → Buf (Elt F) ((c : Thread nD τ).loc b))

/-- The block of window 0 at a point: the array at the region's entry, read through the window. -/
def blk1_0 (c : Dev nD) (t : Fin (cfg1 (F := F)).N) : ((cfg1 (F := F)).win 0).block.Idx → Elt F ((cfg1 (F := F)).win 0).elt :=
  (((cfg1 (F := F)).win 0).blk t).view.read (Elt F) (V c main_v0)
/-- The block of window 1 at a point: the array at the region's entry, read through the window. -/
def blk1_1 (c : Dev nD) (t : Fin (cfg1 (F := F)).N) : ((cfg1 (F := F)).win 1).block.Idx → Elt F ((cfg1 (F := F)).win 1).elt :=
  (((cfg1 (F := F)).win 1).blk t).view.read (Elt F) (V c main_arg0)
/-- The block of window 2 at a point: the array at the region's entry, read through the window. -/
def blk1_2 (c : Dev nD) (t : Fin (cfg1 (F := F)).N) : ((cfg1 (F := F)).win 2).block.Idx → Elt F ((cfg1 (F := F)).win 2).elt :=
  (((cfg1 (F := F)).win 2).blk t).view.read (Elt F) (V c main_v1)

/-- One point's update of the result's buffer. -/
def upd1 (c : Dev nD) (t : Fin (cfg1 (F := F)).N) (X : FVec F S10752x1 .f32) : FVec F S10752x1 .f32 :=
  out1 (grid1.coords t) (blk1_0 V c t) (blk1_1 V c t) (blk1_2 V c t) X

/-- The result's buffer after the first `n` points. -/
def acc1 (c : Dev nD) (n : ℕ) : FVec F S10752x1 .f32 := accW (upd1 V c) (k1_pay4 (F := F)) n

/-- What the body leaves in the result's buffer at a point. -/
def left1 (c : Dev nD) (t : Fin (cfg1 (F := F)).N) : ((cfg1 (F := F)).win 3).block.Idx → Elt F ((cfg1 (F := F)).win 3).elt :=
  acc1 V c (t.val + 1)

/-- The proof data of the region entered at `V`. -/
def dat1 (c : Dev nD) : Dat τ (Elt F) Unit ℕ UR ℕ (cfg1 (F := F)) c where
  A w := V c (Pipeline.arrRef spec1 w)
  after w t := match w with
    | ⟨0, _⟩ => blk1_0 V c t
    | ⟨1, _⟩ => blk1_1 V c t
    | ⟨2, _⟩ => blk1_2 V c t
    | ⟨3, _⟩ => left1 V c t
  Φ _ := Pipeline.scopedRest (Ix := Unit) (Name := ℕ) (U := UR) (Lvl := ℕ) (Val := Elt F) spec1 c
  q _ := fullShare
  owed _ := 0

theorem before1_0 (c : Dev nD) (t : Fin (cfg1 (F := F)).N) (d) : (dat1 V c).before (0 : Fin 4) t d = blk1_0 V c t :=
  (dat1 V c).before_in_eq_fetched 0 rfl (fun _ => rfl) (fun _ _ _ => rfl) (fun _ => rfl) t d
theorem before1_1 (c : Dev nD) (t : Fin (cfg1 (F := F)).N) (d) : (dat1 V c).before (1 : Fin 4) t d = blk1_1 V c t :=
  (dat1 V c).before_in_eq_fetched 1 rfl (fun _ => rfl) (fun _ _ _ => rfl) (fun _ => rfl) t d
theorem before1_2 (c : Dev nD) (t : Fin (cfg1 (F := F)).N) (d) : (dat1 V c).before (2 : Fin 4) t d = blk1_2 V c t :=
  (dat1 V c).before_in_eq_fetched 2 rfl (fun _ => rfl) (fun _ _ _ => rfl) (fun _ => rfl) t d

/-- At the first point the update does not read the buffer. -/
theorem upd1_first (c : Dev nD) (t : Fin (cfg1 (F := F)).N) (h : t.val = 0) (X : FVec F S10752x1 .f32) :
    upd1 V c t X = upd1 V c t (k1_pay4 (F := F)) := by
  obtain rfl : t = ⟨0, lt_of_lt_of_eq (by decide : 0 < 100) (show (cfg1 (F := F)).N = 100 from N_1).symm⟩ := Fin.ext h
  have hp : atPoint (((grid1.coords ⟨0, lt_of_lt_of_eq (by decide : 0 < 100) (show grid1.N = 100 from N_1).symm⟩) 0)).val 0#32 := by decide
  unfold upd1 out1
  simp only [if_pos hp]

theorem before1_3 (c : Dev nD) (t : Fin (cfg1 (F := F)).N) (d) :
    upd1 V c t ((dat1 V c).before (3 : Fin 4) t d) = acc1 V c (t.val + 1) := by
  unfold acc1
  rw [accW_succ]
  by_cases h : t.val = 0
  · exact (upd1_first V c t h _).trans (upd1_first V c t h _).symm
  · congr 1
    have ht : t.val < 100 := lt_of_lt_of_eq t.isLt (show (cfg1 (F := F)).N = 100 from N_1)
    rw [(dat1 V c).before_out_kept 3 rfl t h (by
      rw [← Bool.not_eq_true]; intro hf
      have := (flush1_3 _).mp hf
      simp only at this
      omega) (fun _ => rfl) (fun _ _ => rfl) d]
    show accW (upd1 V c) _ (t.val - 1 + 1) = _
    rw [Nat.sub_add_cancel (Nat.pos_of_ne_zero h)]

/-- The body's obligation at every point. -/
theorem obl1 (hV : ∀ c t, ∃ I, Ids (k1_pay5 (F := F) (blk1_0 V c t)) I) (c : Dev nD) : BodyObligation (dat1 V c) (defs₀ (F := F)) 𝒱₀ () Set.univ := fun t => by
  rw [bigSep_W1, bigSep_W1]
  rw [show (dat1 V c).Φ t.castSucc = Pipeline.scopedRest spec1 c from rfl, show (dat1 V c).Φ t.succ = Pipeline.scopedRest spec1 c from rfl,
    show (dat1 V c).owesAt () t.succ = (dat1 V c).owesAt () t.castSucc from rfl]
  simp only [before1_0, before1_1, before1_2]
  iintro ⟨HΦ, Howes, ⟨%d0, H0⟩, ⟨%d1, H1⟩, ⟨%d2, H2⟩, ⟨%d3, H3⟩⟩
  iapply (body1 c (grid1.coords t) (win1_0.stage ((cfg1 (F := F)).slots t 0)) (hstage1_0 (((cfg1 (F := F)).slots t 0).cast nbuf1_0)) (win1_1.stage ((cfg1 (F := F)).slots t 1)) (hstage1_1 (((cfg1 (F := F)).slots t 1).cast nbuf1_1)) (win1_2.stage ((cfg1 (F := F)).slots t 2)) (hstage1_2 (((cfg1 (F := F)).slots t 2).cast nbuf1_2)) (win1_3.stage ((cfg1 (F := F)).slots t 3)) (hstage1_3 (((cfg1 (F := F)).slots t 3).cast nbuf1_3))
    (blk1_0 V c t) (blk1_1 V c t) (blk1_2 V c t) ((dat1 V c).before 3 t d3) (hV c t) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  have hb : out1 (grid1.coords t) (blk1_0 V c t) (blk1_1 V c t) (blk1_2 V c t) ((dat1 V c).before 3 t d3) = acc1 V c (t.val + 1) := before1_3 V c t d3
  rw [hb]
  iexact H3

end Cert.Proof.KI

end
-- ==== Proof.Loop2.lean ====
/-
  The point kernel's two loops: the gather of each row's segment centre and radius, and the update of the segments'
  running largest features.
-/
module

public import proofs.«01_k».proof.Proof.Common

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UR ℕ

/-- One step of the gather: the rows of the window of `a` that the block's ids name are added to what has been
    gathered. -/
def step7 (v4 : IVec S3200x1 32) (X : FVec F S10752x4 .f32) (Y : FVec F S10752x1 .f32) (a : BitVec 32) (acc : FVec F S3200x4 .f32) : FVec F S3200x4 .f32 :=
  if h : k2_chk1 a then k2_pay16 v4 a acc (VecWindow.window X (k2_off1 a) S128x4.size (k2_off1_inb a h))
    (VecWindow.window Y (k2_off2 a) S128x1.size (k2_off2_inb a h)) else acc

/-- The id the loop's body goes on at. -/
theorem next7 (v4 : IVec S3200x1 32) (a : BitVec 32) :
    extractAt ![0, 0, 0] (k2_pay3 (k2_pay17 v4 a)) inpos_S1x1x1_p0_0_0 = nextOf v4 a := by unfold nextOf nextWord minWord; rfl

section Label7

variable (c : Dev nD) (i : grid2.Coords) (v4 : IVec S3200x1 32) (arg4 : Memref sig .tc .vmem S10752x4 .f32) (harg4 : arg4.IsWhole) (arg5 : Memref sig .tc .vmem S10752x1 .f32) (harg5 : arg5.IsWhole)

/-- The loop's specification with at most `k` steps to go from the id `a`: what it reads is handed back unchanged, and
    the second component of its result is what those steps have gathered. -/
def spec7 (X : FVec F S10752x4 .f32) (Y : FVec F S10752x1 .f32) (k : ℕ) (a : BitVec 32) (acc : FVec F S3200x4 .f32) : sWPT 𝕄 (BitVec 32 × FVec F S3200x4 .f32) := do
  sWPT.consume iprop(owns (c : Thread nD τ) arg4 fullShare X ∗ owns (c : Thread nD τ) arg5 fullShare Y)
  let r ← sWPT.arbitrary
  sWPT.produce iprop(owns (c : Thread nD τ) arg4 fullShare X ∗ owns (c : Thread nD τ) arg5 fullShare Y ∗ ⌜r.2 = loopW (nextOf v4) (step7 v4 X Y) k a acc⌝)
  pure r

theorem spec7_apply (X : FVec F S10752x4 .f32) (Y : FVec F S10752x1 .f32) (k : ℕ) (a : BitVec 32) (acc : FVec F S3200x4 .f32) (K : BitVec 32 × FVec F S3200x4 .f32 → sProp 𝕄) :
    spec7 c v4 arg4 arg5 X Y k a acc K
      = iprop((owns (c : Thread nD τ) arg4 fullShare X ∗ owns (c : Thread nD τ) arg5 fullShare Y) ∗ ∀ r : BitVec 32 × FVec F S3200x4 .f32,
          (iprop(owns (c : Thread nD τ) arg4 fullShare X ∗ owns (c : Thread nD τ) arg5 fullShare Y ∗ ⌜r.2 = loopW (nextOf v4) (step7 v4 X Y) k a acc⌝) -∗ K r)) := rfl

/-- The loop's body meets its specification, by induction on the steps to go. -/
theorem spec7_le (X : FVec F S10752x4 .f32) (Y : FVec F S10752x1 .f32) (hv : ∃ I, Ids v4 I) (E : Set ℕ) :
    ∀ k a, Left k a → ∀ acc K, spec7 c v4 arg4 arg5 X Y k a acc K
      ⊢ wp frame (wpE (defs₀ (F := F)) 𝒱₀ (c : Thread nD τ) (some k)) E
          (defs₀ (F := F) .tc 7 ⟨i, v4, arg4, harg4, arg5, harg5, a, acc⟩) K := by
  intro k
  induction k with
  | zero =>
    intro a ha acc K
    rw [spec7_apply]
    show _ ⊢ wp frame (wpE (defs₀ (F := F)) 𝒱₀ (c : Thread nD τ) (some 0)) E (cc2_while1 i v4 arg4 harg4 arg5 harg5 a acc) K
    rw [cc2_while1_eq_skeleton]; unfold cc2_while1_skel
    have htest := ha.stop
    simp only [htest, ↓reduceIte, Prog.pure_eq_ret]
    iintro ⟨H, Hk⟩
    rw [wp_ret]; imodintro
    iapply Hk
    simp only [loopW]
    icases H with ⟨H0, H1⟩
    isplitl [H0]
    · iexact H0
    isplitl [H1]
    · iexact H1
    ipureintro; trivial
  | succ k ih =>
    intro a ha acc K
    rw [spec7_apply]
    show _ ⊢ wp frame (wpE (defs₀ (F := F)) 𝒱₀ (c : Thread nD τ) (some (k + 1))) E (cc2_while1 i v4 arg4 harg4 arg5 harg5 a acc) K
    rw [cc2_while1_eq_skeleton]; unfold cc2_while1_skel
    by_cases hg : going a
    · obtain ⟨⟨n, hn, hna⟩, hl⟩ := ha.next hv hg
      have hchk : k2_chk1 a := hna ▸ chk2_1 n hn
      rw [k2_part4_eq_skeleton]; unfold k2_part4_skel
      simp only [show Scalar.cmpi .slt a 1073741824#32 = 1#1 from hg, ↓reduceIte, next7, Prog.lift, Prog.bind_op, Prog.bind_ret, Prog.pure_eq_ret]
      have hih := ih _ hl (step7 v4 X Y a acc)
      iintro ⟨H, Hk⟩
      icases H with ⟨H0, H1⟩
      iapply (wp_assume 𝒱₀ (c : Thread nD τ) (some (k + 1)) E hchk)
      iapply (load_owns 𝒱₀ (c : Thread nD τ) (some (k + 1)) E (m := arg4)) $$ H0
      iintro H0
      iapply (load_owns 𝒱₀ (c : Thread nD τ) (some (k + 1)) E (m := arg5)) $$ H1
      iintro H1
      iapply (wp_call_spec (defs := defs₀ (F := F)) (ℓ := (7 : (Λ₀ F).Label)) (a := ⟨i, v4, arg4, harg4, arg5, harg5, nextOf v4 a, k2_pay16 v4 a acc (VecWindow.window X (k2_off1 a) S128x4.size (k2_off1_inb a hchk)) (VecWindow.window Y (k2_off2 a) S128x1.size (k2_off2_inb a hchk))⟩) 𝒱₀ (c : Thread nD τ) (some (k + 1)) E
        (spec7 c v4 arg4 arg5 X Y k (nextOf v4 a) (step7 v4 X Y a acc)) k (fun u hu => by cases hu; exact Nat.lt_succ_self k) (by rw [step7, dif_pos hchk] at hih ⊢; exact hih))
      rw [spec7_apply]
      isplitl [H0 H1]
      · isplitl [H0]
        · iexact H0
        iexact H1
      · iintro %r ⟨H0, H1, %hr⟩
        rw [wp_ret]; imodintro
        iapply Hk
        isplitl [H0]
        · iexact H0
        isplitl [H1]
        · iexact H1
        ipureintro
        rw [loopW, if_pos hg]; exact hr
    · simp only [show ¬ Scalar.cmpi .slt a 1073741824#32 = 1#1 from hg, ↓reduceIte, Prog.pure_eq_ret]
      iintro ⟨H, Hk⟩
      rw [wp_ret]; imodintro
      iapply Hk
      icases H with ⟨H0, H1⟩
      isplitl [H0]
      · iexact H0
      isplitl [H1]
      · iexact H1
      ipureintro
      rw [loopW, if_neg hg]

end Label7

/-- One step of the loop on the running maxima: the window of `a` updated. -/
def step8 (v4 : IVec S3200x1 32) (v38 : IVec S3200x1 1) (d : FVec F S3200x129 .f32) (a : BitVec 32) (X : FVec F S10752x128 .f32) : FVec F S10752x128 .f32 :=
  if h : k2_chk2 a then
    VecWindow.put X (k2_off3 a) S128x128.size (k2_pay18 v4 v38 d a (VecWindow.window X (k2_off3 a) S128x128.size (k2_off3_inb a h)))
  else X

/-- The id the loop's body goes on at. -/
theorem next8 (v4 : IVec S3200x1 32) (a : BitVec 32) :
    extractAt ![0, 0, 0] (k2_pay4 v4 (winBase a)) inpos_S1x1x1_p0_0_0 = nextOf v4 a := by unfold nextOf nextWord minWord; rfl

section Label8

variable (c : Dev nD) (i : grid2.Coords) (v4 : IVec S3200x1 32) (v38 : IVec S3200x1 1) (d : FVec F S3200x129 .f32)
  (arg10 : Memref sig .tc .vmem S10752x128 .f32) (harg10 : arg10.IsWhole)

/-- The loop's specification with at most `k` steps to go from the id `a`: the running maxima owned at `X` are handed
    back after those steps. -/
def spec8 (k : ℕ) (a : BitVec 32) (X : FVec F S10752x128 .f32) : sWPT 𝕄 (BitVec 32) := do
  sWPT.consume (owns (c : Thread nD τ) arg10 fullShare X)
  let r ← sWPT.arbitrary
  sWPT.produce (owns (c : Thread nD τ) arg10 fullShare (loopW (nextOf v4) (step8 v4 v38 d) k a X))
  pure r

theorem spec8_apply (k : ℕ) (a : BitVec 32) (X : FVec F S10752x128 .f32) (K : BitVec 32 → sProp 𝕄) :
    spec8 c v4 v38 d arg10 k a X K
      = iprop(owns (c : Thread nD τ) arg10 fullShare X ∗ ∀ r : BitVec 32, (owns (c : Thread nD τ) arg10 fullShare (loopW (nextOf v4) (step8 v4 v38 d) k a X) -∗ K r)) := rfl

/-- The loop's body meets its specification, by induction on the steps to go. -/
theorem spec8_le (hv : ∃ I, Ids v4 I) (E : Set ℕ) :
    ∀ k a, Left k a → ∀ X K, spec8 c v4 v38 d arg10 k a X K
      ⊢ wp frame (wpE (defs₀ (F := F)) 𝒱₀ (c : Thread nD τ) (some k)) E
          (defs₀ (F := F) .tc 8 ⟨i, v4, v38, d, arg10, harg10, a⟩) K := by
  intro k
  induction k with
  | zero =>
    intro a ha X K
    rw [spec8_apply]
    show _ ⊢ wp frame (wpE (defs₀ (F := F)) 𝒱₀ (c : Thread nD τ) (some 0)) E (cc2_while2 i v4 v38 d arg10 harg10 a) K
    rw [cc2_while2_eq_skeleton]; unfold cc2_while2_skel
    have htest := ha.stop
    simp only [htest, ↓reduceIte, Prog.pure_eq_ret]
    iintro ⟨H, Hk⟩
    rw [wp_ret]; imodintro
    iapply Hk
    simp only [loopW]; iexact H
  | succ k ih =>
    intro a ha X K
    rw [spec8_apply]
    show _ ⊢ wp frame (wpE (defs₀ (F := F)) 𝒱₀ (c : Thread nD τ) (some (k + 1))) E (cc2_while2 i v4 v38 d arg10 harg10 a) K
    rw [cc2_while2_eq_skeleton]; unfold cc2_while2_skel
    by_cases hg : going a
    · obtain ⟨⟨n, hn, hna⟩, hl⟩ := ha.next hv hg
      have hchk : k2_chk2 a := hna ▸ chk2_2 n hn
      rw [k2_part5_eq_skeleton]; unfold k2_part5_skel
      have hnext := next8 v4 a
      simp only [winBase] at hnext
      simp only [show Scalar.cmpi .slt a 1073741824#32 = 1#1 from hg, ↓reduceIte, hnext, Prog.lift, Prog.bind_op, Prog.bind_ret, Prog.pure_eq_ret]
      have hih := ih _ hl (step8 v4 v38 d a X)
      iintro ⟨H, Hk⟩
      iapply (wp_assume 𝒱₀ (c : Thread nD τ) (some (k + 1)) E hchk)
      iapply (load_owns 𝒱₀ (c : Thread nD τ) (some (k + 1)) E (m := arg10)) $$ H
      iintro H
      iapply (load_owns 𝒱₀ (c : Thread nD τ) (some (k + 1)) E (m := arg10)) $$ H
      iintro H
      iapply (store_owns 𝒱₀ (c : Thread nD τ) (some (k + 1)) E (m := arg10) (off := k2_off3 a) (size := S128x128.size)
        (inb := k2_off3_inb a hchk) (w := k2_pay18 v4 v38 d a (VecWindow.window X (k2_off3 a) S128x128.size (k2_off3_inb a hchk)))) $$ H
      iintro H
      iapply (wp_call_spec (defs := defs₀ (F := F)) (ℓ := (8 : (Λ₀ F).Label)) (a := ⟨i, v4, v38, d, arg10, harg10, nextOf v4 a⟩) 𝒱₀ (c : Thread nD τ) (some (k + 1)) E
        (spec8 c v4 v38 d arg10 k (nextOf v4 a) (step8 v4 v38 d a X)) k (fun u hu => by cases hu; exact Nat.lt_succ_self k) hih)
      rw [spec8_apply]
      isplitl [H]
      · rw [step8, dif_pos hchk]; iexact H
      · iintro %r H
        rw [wp_ret]; imodintro
        iapply Hk
        rw [loopW, if_pos hg]; iexact H
    · simp only [show ¬ Scalar.cmpi .slt a 1073741824#32 = 1#1 from hg, ↓reduceIte, Prog.pure_eq_ret]
      iintro ⟨H, Hk⟩
      rw [wp_ret]; imodintro
      iapply Hk
      rw [loopW, if_neg hg]; iexact H

end Label8

end Cert.Proof.KI

end
-- ==== Proof.Body2.lean ====
/-
  The point kernel at one grid point: what it leaves in its result's buffer, as a function of the blocks it reads and
  of what the buffer held.
-/
module

public import proofs.«01_k».proof.Proof.Loop2
public import proofs.«01_k».proof.Proof.Body0

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UR ℕ

/-- What the block's rows gather from the statistics and the radii. -/
def gath2 (v3 : Vec F S3200x1 .i32) (S : Vec F S10752x4 .f32) (R : Vec F S10752x1 .f32) : FVec F S3200x4 .f32 :=
  loopAll (k2_pay6 (F := F) v3) (step7 (k2_pay6 (F := F) v3) S R) (k2_pay7 (F := F))

/-- The row of a bias block that the kernel reads. -/
def row64 (b : Vec F S8x64 .f32) : Vec F S1x64 .f32 := VecWindow.window b ![0, 0] S1x64.size inb_S8x64_S1x64_0_0
/-- The row of a bias block that the kernel reads. -/
def row128 (b : Vec F S8x128 .f32) : Vec F S1x128 .f32 := VecWindow.window b ![0, 0] S1x128.size inb_S8x128_S1x128_0_0

/-- The points' features: the local network on the block's rows. -/
def feat2 (v3 : Vec F S3200x1 .i32) (v5 : Vec F S3200x3 .f32) (xb : Vec F S3200x16 .f32) (S : Vec F S10752x4 .f32) (R : Vec F S10752x1 .f32) (w1 : Vec F S64x19 .f32) (b1 : Vec F S8x64 .f32) (w2 : Vec F S128x64 .f32) (b2 : Vec F S8x128 .f32) : FVec F S3200x128 .f32 :=
  k2_pay9 v5 (gath2 v3 S R) xb w1 (row64 b1) w2 (row128 b2)

/-- The suffix maxima of the rows' features, beside the column of ones. -/
def data2 (v4 : IVec S3200x1 32) (f : FVec F S3200x128 .f32) : FVec F S3200x129 .f32 :=
  k2_pay1 v4 (k2_pay13 v4 (k2_pay11 v4 f) (k2_pay12 v4 f)) (k2_pay14 v4 (k2_pay11 v4 f) (k2_pay12 v4 f)) (k2_pay15 v4)

/-- What a grid point leaves: the running maxima, from minus infinity at the first point, with the block taken in. -/
def out2 (i : grid2.Coords) (v3 : Vec F S3200x1 .i32) (v5 : Vec F S3200x3 .f32) (xb : Vec F S3200x16 .f32) (S : Vec F S10752x4 .f32) (R : Vec F S10752x1 .f32) (w1 : Vec F S64x19 .f32) (b1 : Vec F S8x64 .f32) (w2 : Vec F S128x64 .f32) (b2 : Vec F S8x128 .f32) (X : Vec F S10752x128 .f32) : Vec F S10752x128 .f32 :=
  loopAll (k2_pay6 (F := F) v3) (step8 (k2_pay6 (F := F) v3) (k2_pay10 (k2_pay6 (F := F) v3) 4294967295#32) (data2 (k2_pay6 (F := F) v3) (feat2 v3 v5 xb S R w1 b1 w2 b2)))
    (if atPoint (i 0).val 0#32 then k2_pay5 (F := F) else X)

theorem first7 (v3 : Vec F S3200x1 .i32) :
    extractAt ![0, 0, 0] (k2_pay8 (F := F) v3) inpos_S1x1x1_p0_0_0 = minWord (k2_pay6 (F := F) v3) := by unfold minWord; rfl

theorem first8 (v4 : IVec S3200x1 32) :
    extractAt ![0, 0, 0] (k2_pay2 v4) inpos_S1x1x1_p0_0_0 = minWord v4 := by unfold minWord; rfl

section Kernel2

variable (c : Dev nD) (i : grid2.Coords) (arg1 : Memref sig .tc .vmem S3200x1 .i32) (harg1 : arg1.IsWhole)
    (arg2 : Memref sig .tc .vmem S3200x3 .f32) (harg2 : arg2.IsWhole)
    (arg3 : Memref sig .tc .vmem S3200x16 .f32) (harg3 : arg3.IsWhole)
    (arg4 : Memref sig .tc .vmem S10752x4 .f32) (harg4 : arg4.IsWhole)
    (arg5 : Memref sig .tc .vmem S10752x1 .f32) (harg5 : arg5.IsWhole)
    (arg6 : Memref sig .tc .vmem S64x19 .f32) (harg6 : arg6.IsWhole)
    (arg7 : Memref sig .tc .vmem S8x64 .f32) (harg7 : arg7.IsWhole)
    (arg8 : Memref sig .tc .vmem S128x64 .f32) (harg8 : arg8.IsWhole)
    (arg9 : Memref sig .tc .vmem S8x128 .f32) (harg9 : arg9.IsWhole)
    (arg10 : Memref sig .tc .vmem S10752x128 .f32) (harg10 : arg10.IsWhole)
    (v3 : Vec F S3200x1 .i32) (v5 : Vec F S3200x3 .f32) (xb : Vec F S3200x16 .f32) (S : Vec F S10752x4 .f32) (R : Vec F S10752x1 .f32) (w1 : Vec F S64x19 .f32) (b1 : Vec F S8x64 .f32) (w2 : Vec F S128x64 .f32) (b2 : Vec F S8x128 .f32) (X : Vec F S10752x128 .f32)
    (hv : ∃ I, Ids (k2_pay6 (F := F) v3) I) (E : Set ℕ)

include hv in
/-- The kernel up to the points' features: the result's buffer set at the first point, the centres and radii gathered,
    the local network applied. -/
theorem part2_1 (Q : (Σ' (_ : IVec S3200x1 32) (_ : FVec F S3200x128 .f32), BitVec 32) → sProp 𝕄) :
    iprop(owns (c : Thread nD τ) arg1 fullShare v3
      ∗ owns (c : Thread nD τ) arg2 fullShare v5
      ∗ owns (c : Thread nD τ) arg3 fullShare xb
      ∗ owns (c : Thread nD τ) arg4 fullShare S
      ∗ owns (c : Thread nD τ) arg5 fullShare R
      ∗ owns (c : Thread nD τ) arg6 fullShare w1
      ∗ owns (c : Thread nD τ) arg7 fullShare b1
      ∗ owns (c : Thread nD τ) arg8 fullShare w2
      ∗ owns (c : Thread nD τ) arg9 fullShare b2
      ∗ owns (c : Thread nD τ) arg10 fullShare X
      ∗ (iprop(owns (c : Thread nD τ) arg1 fullShare v3
      ∗ owns (c : Thread nD τ) arg2 fullShare v5
      ∗ owns (c : Thread nD τ) arg3 fullShare xb
      ∗ owns (c : Thread nD τ) arg4 fullShare S
      ∗ owns (c : Thread nD τ) arg5 fullShare R
      ∗ owns (c : Thread nD τ) arg6 fullShare w1
      ∗ owns (c : Thread nD τ) arg7 fullShare b1
      ∗ owns (c : Thread nD τ) arg8 fullShare w2
      ∗ owns (c : Thread nD τ) arg9 fullShare b2
      ∗ owns (c : Thread nD τ) arg10 fullShare (if atPoint (i 0).val 0#32 then k2_pay5 (F := F) else X))
          -∗ Q ⟨k2_pay6 (F := F) v3, feat2 v3 v5 xb S R w1 b1 w2 b2, 4294967295#32⟩))
      ⊢ wp frame (wpE (defs₀ (F := F)) 𝒱₀ (c : Thread nD τ) none) E (k2_part1 i arg1 harg1 arg2 harg2 arg3 harg3 arg4 harg4 arg5 harg5 arg6 harg6 arg7 harg7 arg8 harg8 arg9 harg9 arg10 harg10) Q := by
  rw [k2_part1_eq_skeleton]; unfold k2_part1_skel
  have hcall := spec7_le (F := F) c i (k2_pay6 (F := F) v3) arg4 harg4 arg5 harg5 S R hv E 10000 _ (Left.first hv) (k2_pay7 (F := F))
  simp only [Prog.lift, Prog.bind_op, Prog.bind_ret, Prog.pure_eq_ret]
  iintro ⟨H1, H2, H3, H4, H5, H6, H7, H8, H9, H10, Hk⟩
  iapply (init_owns_full 𝒱₀ (c : Thread nD τ) none E (m := arg10)) $$ H10
  iintro H10
  iapply (load_owns_full 𝒱₀ (c : Thread nD τ) none E (m := arg1)) $$ H1
  iintro H1
  iapply (load_owns_full 𝒱₀ (c : Thread nD τ) none E (m := arg2)) $$ H2
  iintro H2
  rw [first7]
  iapply (wp_call_spec (defs := defs₀ (F := F)) (ℓ := (7 : (Λ₀ F).Label)) (a := ⟨i, k2_pay6 v3, arg4, harg4, arg5, harg5, minWord (k2_pay6 (F := F) v3), k2_pay7⟩)
    𝒱₀ (c : Thread nD τ) none E _ 10000 (fun u hu => nomatch hu) hcall)
  rw [spec7_apply]
  isplitl [H4 H5]
  · isplitl [H4]
    · iexact H4
    iexact H5
  iintro %r ⟨H4, H5, %hr⟩
  obtain ⟨r1, r2⟩ := r
  have hr' : r2 = gath2 v3 S R := hr
  subst hr'
  iapply (load_owns_full 𝒱₀ (c : Thread nD τ) none E (m := arg3)) $$ H3
  iintro H3
  iapply (load_owns_full 𝒱₀ (c : Thread nD τ) none E (m := arg6)) $$ H6
  iintro H6
  iapply (load_owns 𝒱₀ (c : Thread nD τ) none E (m := arg7)) $$ H7
  iintro H7
  iapply (load_owns_full 𝒱₀ (c : Thread nD τ) none E (m := arg8)) $$ H8
  iintro H8
  iapply (load_owns 𝒱₀ (c : Thread nD τ) none E (m := arg9)) $$ H9
  iintro H9
  rw [wp_ret]; imodintro
  simp only [feat2, row64, row128]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

include hv in
/-- The point kernel's body at a grid point. -/
theorem body2 (Q : PUnit → sProp 𝕄) :
    iprop(owns (c : Thread nD τ) arg1 fullShare v3
      ∗ owns (c : Thread nD τ) arg2 fullShare v5
      ∗ owns (c : Thread nD τ) arg3 fullShare xb
      ∗ owns (c : Thread nD τ) arg4 fullShare S
      ∗ owns (c : Thread nD τ) arg5 fullShare R
      ∗ owns (c : Thread nD τ) arg6 fullShare w1
      ∗ owns (c : Thread nD τ) arg7 fullShare b1
      ∗ owns (c : Thread nD τ) arg8 fullShare w2
      ∗ owns (c : Thread nD τ) arg9 fullShare b2
      ∗ owns (c : Thread nD τ) arg10 fullShare X
      ∗ (iprop(owns (c : Thread nD τ) arg1 fullShare v3
      ∗ owns (c : Thread nD τ) arg2 fullShare v5
      ∗ owns (c : Thread nD τ) arg3 fullShare xb
      ∗ owns (c : Thread nD τ) arg4 fullShare S
      ∗ owns (c : Thread nD τ) arg5 fullShare R
      ∗ owns (c : Thread nD τ) arg6 fullShare w1
      ∗ owns (c : Thread nD τ) arg7 fullShare b1
      ∗ owns (c : Thread nD τ) arg8 fullShare w2
      ∗ owns (c : Thread nD τ) arg9 fullShare b2
      ∗ owns (c : Thread nD τ) arg10 fullShare (out2 i v3 v5 xb S R w1 b1 w2 b2 X)) -∗ Q ⟨⟩))
      ⊢ wp frame (wpE (defs₀ (F := F)) 𝒱₀ (c : Thread nD τ) none) E (cc2__point_kernel i arg1 harg1 arg2 harg2 arg3 harg3 arg4 harg4 arg5 harg5 arg6 harg6 arg7 harg7 arg8 harg8 arg9 harg9 arg10 harg10) Q := by
  rw [cc2__point_kernel_eq_skeleton]; unfold cc2__point_kernel_skel
  rw [wp_bind]
  iintro ⟨H1, H2, H3, H4, H5, H6, H7, H8, H9, H10, Hk⟩
  iapply (part2_1 c i arg1 harg1 arg2 harg2 arg3 harg3 arg4 harg4 arg5 harg5 arg6 harg6 arg7 harg7 arg8 harg8 arg9 harg9 arg10 harg10 v3 v5 xb S R w1 b1 w2 b2 X hv E)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  rw [k2_part2_eq_skeleton]; unfold k2_part2_skel
  rw [k2_part3_eq_skeleton]; unfold k2_part3_skel
  simp only [first8, Prog.lift, Prog.bind_op, Prog.bind_ret, Prog.pure_eq_ret]
  have hcall := spec8_le (F := F) c i (k2_pay6 (F := F) v3) (k2_pay10 (k2_pay6 (F := F) v3) 4294967295#32) (data2 (k2_pay6 (F := F) v3) (feat2 v3 v5 xb S R w1 b1 w2 b2)) arg10 harg10 hv E 10000 _ (Left.first hv)
    (if atPoint (i 0).val 0#32 then k2_pay5 (F := F) else X)
  iapply (wp_call_spec (defs := defs₀ (F := F)) (ℓ := (8 : (Λ₀ F).Label)) (a := ⟨i, k2_pay6 v3, k2_pay10 (k2_pay6 (F := F) v3) 4294967295#32, data2 (k2_pay6 (F := F) v3) (feat2 v3 v5 xb S R w1 b1 w2 b2), arg10, harg10, minWord (k2_pay6 (F := F) v3)⟩)
    𝒱₀ (c : Thread nD τ) none E _ 10000 (fun u hu => nomatch hu) hcall)
  rw [spec8_apply]
  isplitl [H10]
  · iexact H10
  iintro %r H10
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Kernel2

end Cert.Proof.KI

end
-- ==== Proof.Region2.lean ====
/-
  The point kernel's region: the proof data of its pipeline from any contents of the buffers, the body's obligation at
  every grid point, and what the region leaves.
-/
module

public import proofs.«01_k».proof.Proof.Body2
public import proofs.«01_k».proof.Proof.Acc
public import proofs.«01_k».proof.Proof.Gen.KernelIdeal.Regions
public import proofs.«01_k».proof.Proof.Gen.KernelIdeal.Points
public import Idealize.ShloMosaic.Lib.Pipeline.ValueKit

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UR ℕ

variable (V : (c : Dev nD) → (b : Ref sig .tc) → Buf (Elt F) ((c : Thread nD τ).loc b))

/-- The block of window 0 at a point: the array at the region's entry, read through the window. -/
def blk2_0 (c : Dev nD) (t : Fin (cfg2 (F := F)).N) : ((cfg2 (F := F)).win 0).block.Idx → Elt F ((cfg2 (F := F)).win 0).elt :=
  (((cfg2 (F := F)).win 0).blk t).view.read (Elt F) (V c main_v0)
/-- The block of window 1 at a point: the array at the region's entry, read through the window. -/
def blk2_1 (c : Dev nD) (t : Fin (cfg2 (F := F)).N) : ((cfg2 (F := F)).win 1).block.Idx → Elt F ((cfg2 (F := F)).win 1).elt :=
  (((cfg2 (F := F)).win 1).blk t).view.read (Elt F) (V c main_arg0)
/-- The block of window 2 at a point: the array at the region's entry, read through the window. -/
def blk2_2 (c : Dev nD) (t : Fin (cfg2 (F := F)).N) : ((cfg2 (F := F)).win 2).block.Idx → Elt F ((cfg2 (F := F)).win 2).elt :=
  (((cfg2 (F := F)).win 2).blk t).view.read (Elt F) (V c main_arg1)
/-- The block of window 3 at a point: the array at the region's entry, read through the window. -/
def blk2_3 (c : Dev nD) (t : Fin (cfg2 (F := F)).N) : ((cfg2 (F := F)).win 3).block.Idx → Elt F ((cfg2 (F := F)).win 3).elt :=
  (((cfg2 (F := F)).win 3).blk t).view.read (Elt F) (V c main_v1)
/-- The block of window 4 at a point: the array at the region's entry, read through the window. -/
def blk2_4 (c : Dev nD) (t : Fin (cfg2 (F := F)).N) : ((cfg2 (F := F)).win 4).block.Idx → Elt F ((cfg2 (F := F)).win 4).elt :=
  (((cfg2 (F := F)).win 4).blk t).view.read (Elt F) (V c main_v2)
/-- The block of window 5 at a point: the array at the region's entry, read through the window. -/
def blk2_5 (c : Dev nD) (t : Fin (cfg2 (F := F)).N) : ((cfg2 (F := F)).win 5).block.Idx → Elt F ((cfg2 (F := F)).win 5).elt :=
  (((cfg2 (F := F)).win 5).blk t).view.read (Elt F) (V c main_arg3)
/-- The block of window 6 at a point: the array at the region's entry, read through the window. -/
def blk2_6 (c : Dev nD) (t : Fin (cfg2 (F := F)).N) : ((cfg2 (F := F)).win 6).block.Idx → Elt F ((cfg2 (F := F)).win 6).elt :=
  (((cfg2 (F := F)).win 6).blk t).view.read (Elt F) (V c main_v4)
/-- The block of window 7 at a point: the array at the region's entry, read through the window. -/
def blk2_7 (c : Dev nD) (t : Fin (cfg2 (F := F)).N) : ((cfg2 (F := F)).win 7).block.Idx → Elt F ((cfg2 (F := F)).win 7).elt :=
  (((cfg2 (F := F)).win 7).blk t).view.read (Elt F) (V c main_arg5)
/-- The block of window 8 at a point: the array at the region's entry, read through the window. -/
def blk2_8 (c : Dev nD) (t : Fin (cfg2 (F := F)).N) : ((cfg2 (F := F)).win 8).block.Idx → Elt F ((cfg2 (F := F)).win 8).elt :=
  (((cfg2 (F := F)).win 8).blk t).view.read (Elt F) (V c main_v6)

/-- One point's update of the result's buffer. -/
def upd2 (c : Dev nD) (t : Fin (cfg2 (F := F)).N) (X : FVec F S10752x128 .f32) : FVec F S10752x128 .f32 :=
  out2 (grid2.coords t) (blk2_0 V c t) (blk2_1 V c t) (blk2_2 V c t) (blk2_3 V c t) (blk2_4 V c t) (blk2_5 V c t) (blk2_6 V c t) (blk2_7 V c t) (blk2_8 V c t) X

/-- The result's buffer after the first `n` points. -/
def acc2 (c : Dev nD) (n : ℕ) : FVec F S10752x128 .f32 := accW (upd2 V c) (k2_pay5 (F := F)) n

/-- What the body leaves in the result's buffer at a point. -/
def left2 (c : Dev nD) (t : Fin (cfg2 (F := F)).N) : ((cfg2 (F := F)).win 9).block.Idx → Elt F ((cfg2 (F := F)).win 9).elt :=
  acc2 V c (t.val + 1)

/-- The proof data of the region entered at `V`. -/
def dat2 (c : Dev nD) : Dat τ (Elt F) Unit ℕ UR ℕ (cfg2 (F := F)) c where
  A w := V c (Pipeline.arrRef spec2 w)
  after w t := match w with
    | ⟨0, _⟩ => blk2_0 V c t
    | ⟨1, _⟩ => blk2_1 V c t
    | ⟨2, _⟩ => blk2_2 V c t
    | ⟨3, _⟩ => blk2_3 V c t
    | ⟨4, _⟩ => blk2_4 V c t
    | ⟨5, _⟩ => blk2_5 V c t
    | ⟨6, _⟩ => blk2_6 V c t
    | ⟨7, _⟩ => blk2_7 V c t
    | ⟨8, _⟩ => blk2_8 V c t
    | ⟨9, _⟩ => left2 V c t
  Φ _ := Pipeline.scopedRest (Ix := Unit) (Name := ℕ) (U := UR) (Lvl := ℕ) (Val := Elt F) spec2 c
  q _ := fullShare
  owed _ := 0

theorem before2_0 (c : Dev nD) (t : Fin (cfg2 (F := F)).N) (d) : (dat2 V c).before (0 : Fin 10) t d = blk2_0 V c t :=
  (dat2 V c).before_in_eq_fetched 0 rfl (fun _ => rfl) (fun _ _ _ => rfl) (fun _ => rfl) t d
theorem before2_1 (c : Dev nD) (t : Fin (cfg2 (F := F)).N) (d) : (dat2 V c).before (1 : Fin 10) t d = blk2_1 V c t :=
  (dat2 V c).before_in_eq_fetched 1 rfl (fun _ => rfl) (fun _ _ _ => rfl) (fun _ => rfl) t d
theorem before2_2 (c : Dev nD) (t : Fin (cfg2 (F := F)).N) (d) : (dat2 V c).before (2 : Fin 10) t d = blk2_2 V c t :=
  (dat2 V c).before_in_eq_fetched 2 rfl (fun _ => rfl) (fun _ _ _ => rfl) (fun _ => rfl) t d
theorem before2_3 (c : Dev nD) (t : Fin (cfg2 (F := F)).N) (d) : (dat2 V c).before (3 : Fin 10) t d = blk2_3 V c t :=
  (dat2 V c).before_in_eq_fetched 3 rfl (fun _ => rfl) (fun _ _ _ => rfl) (fun _ => rfl) t d
theorem before2_4 (c : Dev nD) (t : Fin (cfg2 (F := F)).N) (d) : (dat2 V c).before (4 : Fin 10) t d = blk2_4 V c t :=
  (dat2 V c).before_in_eq_fetched 4 rfl (fun _ => rfl) (fun _ _ _ => rfl) (fun _ => rfl) t d
theorem before2_5 (c : Dev nD) (t : Fin (cfg2 (F := F)).N) (d) : (dat2 V c).before (5 : Fin 10) t d = blk2_5 V c t :=
  (dat2 V c).before_in_eq_fetched 5 rfl (fun _ => rfl) (fun _ _ _ => rfl) (fun _ => rfl) t d
theorem before2_6 (c : Dev nD) (t : Fin (cfg2 (F := F)).N) (d) : (dat2 V c).before (6 : Fin 10) t d = blk2_6 V c t :=
  (dat2 V c).before_in_eq_fetched 6 rfl (fun _ => rfl) (fun _ _ _ => rfl) (fun _ => rfl) t d
theorem before2_7 (c : Dev nD) (t : Fin (cfg2 (F := F)).N) (d) : (dat2 V c).before (7 : Fin 10) t d = blk2_7 V c t :=
  (dat2 V c).before_in_eq_fetched 7 rfl (fun _ => rfl) (fun _ _ _ => rfl) (fun _ => rfl) t d
theorem before2_8 (c : Dev nD) (t : Fin (cfg2 (F := F)).N) (d) : (dat2 V c).before (8 : Fin 10) t d = blk2_8 V c t :=
  (dat2 V c).before_in_eq_fetched 8 rfl (fun _ => rfl) (fun _ _ _ => rfl) (fun _ => rfl) t d

/-- At the first point the update does not read the buffer. -/
theorem upd2_first (c : Dev nD) (t : Fin (cfg2 (F := F)).N) (h : t.val = 0) (X : FVec F S10752x128 .f32) :
    upd2 V c t X = upd2 V c t (k2_pay5 (F := F)) := by
  obtain rfl : t = ⟨0, lt_of_lt_of_eq (by decide : 0 < 100) (show (cfg2 (F := F)).N = 100 from N_2).symm⟩ := Fin.ext h
  have hp : atPoint (((grid2.coords ⟨0, lt_of_lt_of_eq (by decide : 0 < 100) (show grid2.N = 100 from N_2).symm⟩) 0)).val 0#32 := by decide
  unfold upd2 out2
  simp only [if_pos hp]

theorem before2_9 (c : Dev nD) (t : Fin (cfg2 (F := F)).N) (d) :
    upd2 V c t ((dat2 V c).before (9 : Fin 10) t d) = acc2 V c (t.val + 1) := by
  unfold acc2
  rw [accW_succ]
  by_cases h : t.val = 0
  · exact (upd2_first V c t h _).trans (upd2_first V c t h _).symm
  · congr 1
    have ht : t.val < 100 := lt_of_lt_of_eq t.isLt (show (cfg2 (F := F)).N = 100 from N_2)
    rw [(dat2 V c).before_out_kept 9 rfl t h (by
      rw [← Bool.not_eq_true]; intro hf
      have := (flush2_9 _).mp hf
      simp only at this
      omega) (fun _ => rfl) (fun _ _ => rfl) d]
    show accW (upd2 V c) _ (t.val - 1 + 1) = _
    rw [Nat.sub_add_cancel (Nat.pos_of_ne_zero h)]

/-- The body's obligation at every point. -/
theorem obl2 (hV : ∀ c t, ∃ I, Ids (k2_pay6 (F := F) (blk2_0 V c t)) I) (c : Dev nD) : BodyObligation (dat2 V c) (defs₀ (F := F)) 𝒱₀ () Set.univ := fun t => by
  rw [bigSep_W2, bigSep_W2]
  rw [show (dat2 V c).Φ t.castSucc = Pipeline.scopedRest spec2 c from rfl, show (dat2 V c).Φ t.succ = Pipeline.scopedRest spec2 c from rfl,
    show (dat2 V c).owesAt () t.succ = (dat2 V c).owesAt () t.castSucc from rfl]
  simp only [before2_0, before2_1, before2_2, before2_3, before2_4, before2_5, before2_6, before2_7, before2_8]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body2 c (grid2.coords t) (win2_0.stage ((cfg2 (F := F)).slots t 0)) (hstage2_0 (((cfg2 (F := F)).slots t 0).cast nbuf2_0)) (win2_1.stage ((cfg2 (F := F)).slots t 1)) (hstage2_1 (((cfg2 (F := F)).slots t 1).cast nbuf2_1)) (win2_2.stage ((cfg2 (F := F)).slots t 2)) (hstage2_2 (((cfg2 (F := F)).slots t 2).cast nbuf2_2)) (win2_3.stage ((cfg2 (F := F)).slots t 3)) (hstage2_3 (((cfg2 (F := F)).slots t 3).cast nbuf2_3)) (win2_4.stage ((cfg2 (F := F)).slots t 4)) (hstage2_4 (((cfg2 (F := F)).slots t 4).cast nbuf2_4)) (win2_5.stage ((cfg2 (F := F)).slots t 5)) (hstage2_5 (((cfg2 (F := F)).slots t 5).cast nbuf2_5)) (win2_6.stage ((cfg2 (F := F)).slots t 6)) (hstage2_6 (((cfg2 (F := F)).slots t 6).cast nbuf2_6)) (win2_7.stage ((cfg2 (F := F)).slots t 7)) (hstage2_7 (((cfg2 (F := F)).slots t 7).cast nbuf2_7)) (win2_8.stage ((cfg2 (F := F)).slots t 8)) (hstage2_8 (((cfg2 (F := F)).slots t 8).cast nbuf2_8)) (win2_9.stage ((cfg2 (F := F)).slots t 9)) (hstage2_9 (((cfg2 (F := F)).slots t 9).cast nbuf2_9))
    (blk2_0 V c t) (blk2_1 V c t) (blk2_2 V c t) (blk2_3 V c t) (blk2_4 V c t) (blk2_5 V c t) (blk2_6 V c t) (blk2_7 V c t) (blk2_8 V c t) ((dat2 V c).before 9 t d9) (hV c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  have hb : out2 (grid2.coords t) (blk2_0 V c t) (blk2_1 V c t) (blk2_2 V c t) (blk2_3 V c t) (blk2_4 V c t) (blk2_5 V c t) (blk2_6 V c t) (blk2_7 V c t) (blk2_8 V c t) ((dat2 V c).before 9 t d9) = acc2 V c (t.val + 1) := before2_9 V c t d9
  rw [hb]
  iexact H9

end Cert.Proof.KI

end
-- ==== Proof.Body3.lean ====
/-
  The head kernel at one grid point: what it leaves in its result's buffer, as a function of the blocks it reads.
-/
module

public import proofs.«01_k».proof.Proof.Body2

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UR ℕ

/-- The row of a bias block that the kernel reads. -/
def row256 (b : Vec F S8x256 .f32) : Vec F S1x256 .f32 := VecWindow.window b ![0, 0] S1x256.size inb_S8x256_S1x256_0_0
/-- The row of a bias block that the kernel reads. -/
def row40 (b : Vec F S8x40 .f32) : Vec F S1x40 .f32 := VecWindow.window b ![0, 0] S1x40.size inb_S8x40_S1x40_0_0

/-- What a grid point leaves: the head network on the block's segments. -/
def out3 (xg : Vec F S1536x128 .f32) (R : Vec F S1536x1 .f32) (w1 : Vec F S256x129 .f32) (b1 : Vec F S8x256 .f32) (w2 : Vec F S128x256 .f32) (b2 : Vec F S8x128 .f32) (wh : Vec F S40x128 .f32) (bh : Vec F S8x40 .f32) : Vec F S1536x40 .f32 :=
  k3_pay1 (k3_pay2 xg R w1 (row256 b1) w2 (row128 b2) wh) (k3_pay3 (row40 bh))

/-- The head kernel's body at a grid point. -/
theorem body3 (c : Dev nD) (i : grid3.Coords) (arg1 : Memref sig .tc .vmem S1536x128 .f32) (harg1 : arg1.IsWhole)
    (arg2 : Memref sig .tc .vmem S1536x1 .f32) (harg2 : arg2.IsWhole)
    (arg3 : Memref sig .tc .vmem S256x129 .f32) (harg3 : arg3.IsWhole)
    (arg4 : Memref sig .tc .vmem S8x256 .f32) (harg4 : arg4.IsWhole)
    (arg5 : Memref sig .tc .vmem S128x256 .f32) (harg5 : arg5.IsWhole)
    (arg6 : Memref sig .tc .vmem S8x128 .f32) (harg6 : arg6.IsWhole)
    (arg7 : Memref sig .tc .vmem S40x128 .f32) (harg7 : arg7.IsWhole)
    (arg8 : Memref sig .tc .vmem S8x40 .f32) (harg8 : arg8.IsWhole)
    (arg9 : Memref sig .tc .vmem S1536x40 .f32) (harg9 : arg9.IsWhole)
    (xg : Vec F S1536x128 .f32) (R : Vec F S1536x1 .f32) (w1 : Vec F S256x129 .f32) (b1 : Vec F S8x256 .f32) (w2 : Vec F S128x256 .f32) (b2 : Vec F S8x128 .f32) (wh : Vec F S40x128 .f32) (bh : Vec F S8x40 .f32) (X : Vec F S1536x40 .f32)
    (E : Set ℕ) (Q : PUnit → sProp 𝕄) :
    iprop(owns (c : Thread nD τ) arg1 fullShare xg
      ∗ owns (c : Thread nD τ) arg2 fullShare R
      ∗ owns (c : Thread nD τ) arg3 fullShare w1
      ∗ owns (c : Thread nD τ) arg4 fullShare b1
      ∗ owns (c : Thread nD τ) arg5 fullShare w2
      ∗ owns (c : Thread nD τ) arg6 fullShare b2
      ∗ owns (c : Thread nD τ) arg7 fullShare wh
      ∗ owns (c : Thread nD τ) arg8 fullShare bh
      ∗ owns (c : Thread nD τ) arg9 fullShare X
      ∗ (iprop(owns (c : Thread nD τ) arg1 fullShare xg
      ∗ owns (c : Thread nD τ) arg2 fullShare R
      ∗ owns (c : Thread nD τ) arg3 fullShare w1
      ∗ owns (c : Thread nD τ) arg4 fullShare b1
      ∗ owns (c : Thread nD τ) arg5 fullShare w2
      ∗ owns (c : Thread nD τ) arg6 fullShare b2
      ∗ owns (c : Thread nD τ) arg7 fullShare wh
      ∗ owns (c : Thread nD τ) arg8 fullShare bh
      ∗ owns (c : Thread nD τ) arg9 fullShare (out3 xg R w1 b1 w2 b2 wh bh)) -∗ Q ⟨⟩))
      ⊢ wp frame (wpE (defs₀ (F := F)) 𝒱₀ (c : Thread nD τ) none) E (cc3__head_kernel i arg1 harg1 arg2 harg2 arg3 harg3 arg4 harg4 arg5 harg5 arg6 harg6 arg7 harg7 arg8 harg8 arg9 harg9) Q := by
  rw [cc3__head_kernel_eq_skeleton]; unfold cc3__head_kernel_skel
  rw [k3_part1_eq_skeleton]; unfold k3_part1_skel
  simp only [Prog.lift, Prog.bind_op, Prog.bind_ret, Prog.pure_eq_ret]
  iintro ⟨H1, H2, H3, H4, H5, H6, H7, H8, H9, Hk⟩
  iapply (load_owns_full 𝒱₀ (c : Thread nD τ) none E (m := arg1)) $$ H1
  iintro H1
  iapply (load_owns_full 𝒱₀ (c : Thread nD τ) none E (m := arg2)) $$ H2
  iintro H2
  iapply (load_owns_full 𝒱₀ (c : Thread nD τ) none E (m := arg3)) $$ H3
  iintro H3
  iapply (load_owns 𝒱₀ (c : Thread nD τ) none E (m := arg4)) $$ H4
  iintro H4
  iapply (load_owns_full 𝒱₀ (c : Thread nD τ) none E (m := arg5)) $$ H5
  iintro H5
  iapply (load_owns 𝒱₀ (c : Thread nD τ) none E (m := arg6)) $$ H6
  iintro H6
  iapply (load_owns_full 𝒱₀ (c : Thread nD τ) none E (m := arg7)) $$ H7
  iintro H7
  iapply (load_owns 𝒱₀ (c : Thread nD τ) none E (m := arg8)) $$ H8
  iintro H8
  iapply (load_owns_full 𝒱₀ (c : Thread nD τ) none E (m := arg9)) $$ H9
  iintro H9
  iapply (store_owns_full 𝒱₀ (c : Thread nD τ) none E (m := arg9)) $$ H9
  iintro H9
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof.KI

end
-- ==== Proof.Region3.lean ====
/-
  The head kernel's region: the proof data of its pipeline from any contents of the buffers, the body's obligation at
  every grid point, and what the region leaves.
-/
module

public import proofs.«01_k».proof.Proof.Body3
public import proofs.«01_k».proof.Proof.Acc
public import proofs.«01_k».proof.Proof.Gen.KernelIdeal.Regions
public import proofs.«01_k».proof.Proof.Gen.KernelIdeal.Points
public import Idealize.ShloMosaic.Lib.Pipeline.ValueKit

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UR ℕ

variable (V : (c : Dev nD) → (b : Ref sig .tc) → Buf (Elt F) ((c : Thread nD τ).loc b))

/-- The block of window 0 at a point: the array at the region's entry, read through the window. -/
def blk3_0 (c : Dev nD) (t : Fin (cfg3 (F := F)).N) : ((cfg3 (F := F)).win 0).block.Idx → Elt F ((cfg3 (F := F)).win 0).elt :=
  (((cfg3 (F := F)).win 0).blk t).view.read (Elt F) (V c main_v7)
/-- The block of window 1 at a point: the array at the region's entry, read through the window. -/
def blk3_1 (c : Dev nD) (t : Fin (cfg3 (F := F)).N) : ((cfg3 (F := F)).win 1).block.Idx → Elt F ((cfg3 (F := F)).win 1).elt :=
  (((cfg3 (F := F)).win 1).blk t).view.read (Elt F) (V c main_v2)
/-- The block of window 2 at a point: the array at the region's entry, read through the window. -/
def blk3_2 (c : Dev nD) (t : Fin (cfg3 (F := F)).N) : ((cfg3 (F := F)).win 2).block.Idx → Elt F ((cfg3 (F := F)).win 2).elt :=
  (((cfg3 (F := F)).win 2).blk t).view.read (Elt F) (V c main_arg7)
/-- The block of window 3 at a point: the array at the region's entry, read through the window. -/
def blk3_3 (c : Dev nD) (t : Fin (cfg3 (F := F)).N) : ((cfg3 (F := F)).win 3).block.Idx → Elt F ((cfg3 (F := F)).win 3).elt :=
  (((cfg3 (F := F)).win 3).blk t).view.read (Elt F) (V c main_v9)
/-- The block of window 4 at a point: the array at the region's entry, read through the window. -/
def blk3_4 (c : Dev nD) (t : Fin (cfg3 (F := F)).N) : ((cfg3 (F := F)).win 4).block.Idx → Elt F ((cfg3 (F := F)).win 4).elt :=
  (((cfg3 (F := F)).win 4).blk t).view.read (Elt F) (V c main_arg9)
/-- The block of window 5 at a point: the array at the region's entry, read through the window. -/
def blk3_5 (c : Dev nD) (t : Fin (cfg3 (F := F)).N) : ((cfg3 (F := F)).win 5).block.Idx → Elt F ((cfg3 (F := F)).win 5).elt :=
  (((cfg3 (F := F)).win 5).blk t).view.read (Elt F) (V c main_v11)
/-- The block of window 6 at a point: the array at the region's entry, read through the window. -/
def blk3_6 (c : Dev nD) (t : Fin (cfg3 (F := F)).N) : ((cfg3 (F := F)).win 6).block.Idx → Elt F ((cfg3 (F := F)).win 6).elt :=
  (((cfg3 (F := F)).win 6).blk t).view.read (Elt F) (V c main_arg11)
/-- The block of window 7 at a point: the array at the region's entry, read through the window. -/
def blk3_7 (c : Dev nD) (t : Fin (cfg3 (F := F)).N) : ((cfg3 (F := F)).win 7).block.Idx → Elt F ((cfg3 (F := F)).win 7).elt :=
  (((cfg3 (F := F)).win 7).blk t).view.read (Elt F) (V c main_v13)

/-- What the body leaves in the result's buffer at a point. -/
def left3 (c : Dev nD) (t : Fin (cfg3 (F := F)).N) : ((cfg3 (F := F)).win 8).block.Idx → Elt F ((cfg3 (F := F)).win 8).elt :=
  out3 (blk3_0 V c t) (blk3_1 V c t) (blk3_2 V c t) (blk3_3 V c t) (blk3_4 V c t) (blk3_5 V c t) (blk3_6 V c t) (blk3_7 V c t)

/-- The proof data of the region entered at `V`. -/
def dat3 (c : Dev nD) : Dat τ (Elt F) Unit ℕ UR ℕ (cfg3 (F := F)) c where
  A w := V c (Pipeline.arrRef spec3 w)
  after w t := match w with
    | ⟨0, _⟩ => blk3_0 V c t
    | ⟨1, _⟩ => blk3_1 V c t
    | ⟨2, _⟩ => blk3_2 V c t
    | ⟨3, _⟩ => blk3_3 V c t
    | ⟨4, _⟩ => blk3_4 V c t
    | ⟨5, _⟩ => blk3_5 V c t
    | ⟨6, _⟩ => blk3_6 V c t
    | ⟨7, _⟩ => blk3_7 V c t
    | ⟨8, _⟩ => left3 V c t
  Φ _ := Pipeline.scopedRest (Ix := Unit) (Name := ℕ) (U := UR) (Lvl := ℕ) (Val := Elt F) spec3 c
  q _ := fullShare
  owed _ := 0

theorem before3_0 (c : Dev nD) (t : Fin (cfg3 (F := F)).N) (d) : (dat3 V c).before (0 : Fin 9) t d = blk3_0 V c t :=
  (dat3 V c).before_in_eq_fetched 0 rfl (fun _ => rfl) (fun _ _ _ => rfl) (fun _ => rfl) t d
theorem before3_1 (c : Dev nD) (t : Fin (cfg3 (F := F)).N) (d) : (dat3 V c).before (1 : Fin 9) t d = blk3_1 V c t :=
  (dat3 V c).before_in_eq_fetched 1 rfl (fun _ => rfl) (fun _ _ _ => rfl) (fun _ => rfl) t d
theorem before3_2 (c : Dev nD) (t : Fin (cfg3 (F := F)).N) (d) : (dat3 V c).before (2 : Fin 9) t d = blk3_2 V c t :=
  (dat3 V c).before_in_eq_fetched 2 rfl (fun _ => rfl) (fun _ _ _ => rfl) (fun _ => rfl) t d
theorem before3_3 (c : Dev nD) (t : Fin (cfg3 (F := F)).N) (d) : (dat3 V c).before (3 : Fin 9) t d = blk3_3 V c t :=
  (dat3 V c).before_in_eq_fetched 3 rfl (fun _ => rfl) (fun _ _ _ => rfl) (fun _ => rfl) t d
theorem before3_4 (c : Dev nD) (t : Fin (cfg3 (F := F)).N) (d) : (dat3 V c).before (4 : Fin 9) t d = blk3_4 V c t :=
  (dat3 V c).before_in_eq_fetched 4 rfl (fun _ => rfl) (fun _ _ _ => rfl) (fun _ => rfl) t d
theorem before3_5 (c : Dev nD) (t : Fin (cfg3 (F := F)).N) (d) : (dat3 V c).before (5 : Fin 9) t d = blk3_5 V c t :=
  (dat3 V c).before_in_eq_fetched 5 rfl (fun _ => rfl) (fun _ _ _ => rfl) (fun _ => rfl) t d
theorem before3_6 (c : Dev nD) (t : Fin (cfg3 (F := F)).N) (d) : (dat3 V c).before (6 : Fin 9) t d = blk3_6 V c t :=
  (dat3 V c).before_in_eq_fetched 6 rfl (fun _ => rfl) (fun _ _ _ => rfl) (fun _ => rfl) t d
theorem before3_7 (c : Dev nD) (t : Fin (cfg3 (F := F)).N) (d) : (dat3 V c).before (7 : Fin 9) t d = blk3_7 V c t :=
  (dat3 V c).before_in_eq_fetched 7 rfl (fun _ => rfl) (fun _ _ _ => rfl) (fun _ => rfl) t d

/-- The body's obligation at every point. -/
theorem obl3 (c : Dev nD) : BodyObligation (dat3 V c) (defs₀ (F := F)) 𝒱₀ () Set.univ := fun t => by
  rw [bigSep_W3, bigSep_W3]
  rw [show (dat3 V c).Φ t.castSucc = Pipeline.scopedRest spec3 c from rfl, show (dat3 V c).Φ t.succ = Pipeline.scopedRest spec3 c from rfl,
    show (dat3 V c).owesAt () t.succ = (dat3 V c).owesAt () t.castSucc from rfl]
  simp only [before3_0, before3_1, before3_2, before3_3, before3_4, before3_5, before3_6, before3_7]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body3 c (grid3.coords t) (win3_0.stage ((cfg3 (F := F)).slots t 0)) (hstage3_0 (((cfg3 (F := F)).slots t 0).cast nbuf3_0)) (win3_1.stage ((cfg3 (F := F)).slots t 1)) (hstage3_1 (((cfg3 (F := F)).slots t 1).cast nbuf3_1)) (win3_2.stage ((cfg3 (F := F)).slots t 2)) (hstage3_2 (((cfg3 (F := F)).slots t 2).cast nbuf3_2)) (win3_3.stage ((cfg3 (F := F)).slots t 3)) (hstage3_3 (((cfg3 (F := F)).slots t 3).cast nbuf3_3)) (win3_4.stage ((cfg3 (F := F)).slots t 4)) (hstage3_4 (((cfg3 (F := F)).slots t 4).cast nbuf3_4)) (win3_5.stage ((cfg3 (F := F)).slots t 5)) (hstage3_5 (((cfg3 (F := F)).slots t 5).cast nbuf3_5)) (win3_6.stage ((cfg3 (F := F)).slots t 6)) (hstage3_6 (((cfg3 (F := F)).slots t 6).cast nbuf3_6)) (win3_7.stage ((cfg3 (F := F)).slots t 7)) (hstage3_7 (((cfg3 (F := F)).slots t 7).cast nbuf3_7)) (win3_8.stage ((cfg3 (F := F)).slots t 8)) (hstage3_8 (((cfg3 (F := F)).slots t 8).cast nbuf3_8))
    (blk3_0 V c t) (blk3_1 V c t) (blk3_2 V c t) (blk3_3 V c t) (blk3_4 V c t) (blk3_5 V c t) (blk3_6 V c t) (blk3_7 V c t) ((dat3 V c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Proof.KI

end
-- ==== Proof.Segs.lean ====
/-
  The four regions as segments of the program's run: each entered with every buffer at its entry contents and left with
  its result's array at what the pipeline wrote back.
-/
module

public import proofs.«01_k».proof.Proof.Region0
public import proofs.«01_k».proof.Proof.Region1
public import proofs.«01_k».proof.Proof.Region2
public import proofs.«01_k».proof.Proof.Region3
public import Idealize.ShloMosaic.Lib.Pipeline.RegionArrays

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UR ℕ

/-- A core's buffers by reference. -/
abbrev Bufs (F : FTy → Type) : Type := (c : Dev nD) → (b : Ref sig .tc) → Buf (Elt F) ((c : Thread nD τ).loc b)

variable (Va Vb Vc Vd : Bufs F)

/-- The four pipelines' proof data, each from its own entry contents. -/
def pdats : (p : Fin 4) → (c : Dev nD) → Dat τ (Elt F) Unit ℕ UR ℕ ((cfgs (F := F)) p) c
  | ⟨0, _⟩ => fun c => dat0 Va c
  | ⟨1, _⟩ => fun c => dat1 Vb c
  | ⟨2, _⟩ => fun c => dat2 Vc c
  | ⟨3, _⟩ => fun c => dat3 Vd c

/-- No core owes another anything: no level is assigned. -/
abbrev L : GSem nD τ sig → Finset Unit := fun _ => ∅
abbrev lv : GSem nD τ sig → Unit → ℕ := fun _ _ => 0

/-- What rides beside the buffers: the core owes nothing. -/
abbrev Rest (c : Dev nD) : sProp 𝕄 := iprop(∃ W, owes (c : Thread nD τ) (0 : CellTallies nD τ sig Unit) W)

set_option backward.isDefEq.respectTransparency.types false in
/-- The statistics kernel's region, from `Va` to any `Vp` that has the result's array as written back and is `Va` elsewhere. -/
def reg0 (hV : ∀ c t, ∃ I, Ids (k0_pay2 (F := F) (blk0_0 Va c t)) I) (Vp : Bufs F) (hVp_out : ∀ c, Vp c main_v1 = (dat0 Va c).arrAt 2 (cfg0 (F := F)).N)
    (hVp_ne : ∀ c (b : Ref sig .tc), b ≠ main_v1 → Vp c b = Va c b) :
    Pipeline.RegionSeg (pcfgs (F := F)) adm (pdats Va Vb Vc Vd) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (obl0 Va hV c).loose
  hwaits := Pipeline.hwaits_of_owed_zero _ _ _ _ L lv 0 fun _ _ => rfl
  pre c := iprop(unscopedBufs c (Va c) ∗ Rest c)
  post c := iprop(unscopedBufs c (Vp c) ∗ Rest c)
  X _ := BI.emp
  Y _ := BI.emp
  Z c := Pipeline.unscopedRest (Ix := Unit) (Name := ℕ) (U := UR) (Lvl := ℕ) Cert.KernelIdeal.spec0 c (Va c)
  hentry c := by
    rw [Pipeline.ownSems0_none]
    have hsplit := Pipeline.arrays_of_unscopedBufs (p := 0) (pcfgs (F := F)) adm (pdats Va Vb Vc Vd) (launch0 (F := F)).win (launch0 (F := F)).arr_whole c
      ((pdats Va Vb Vc Vd 0 c).share_full fun _ => rfl) (Va c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb Vc Vd 0 c).Φ 0 = Pipeline.scopedRest Cert.KernelIdeal.spec0 c from rfl]
    iintro ⟨-, -, Hr⟩; iexact Hr
  hout c := by
    rw [Pipeline.ownSems0_none, show (pdats Va Vb Vc Vd 0 c).Φ (Fin.last _) = Pipeline.scopedRest Cert.KernelIdeal.spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR) (Lvl := ℕ) (launch0 (F := F)).win (launch0 (F := F)).arr_whole c
      (pdats Va Vb Vc Vd) ((pdats Va Vb Vc Vd 0 c).share_full fun _ => rfl) (Va c) (Vp c) ((pdats Va Vb Vc Vd 0 c).arrAt · (cfg0 (F := F)).N)
      (fun w => by
        fin_cases w
        · exact ((pdats Va Vb Vc Vd 0 c).arrAt_in 0 rfl _).trans (hVp_ne c main_v0 (by decide)).symm
        · exact ((pdats Va Vb Vc Vd 0 c).arrAt_in 1 rfl _).trans (hVp_ne c main_arg0 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The radius kernel's region, from `Vb` to any `Vp` that has the result's array as written back and is `Vb` elsewhere. -/
def reg1 (hV : ∀ c t, ∃ I, Ids (k1_pay5 (F := F) (blk1_0 Vb c t)) I) (Vp : Bufs F) (hVp_out : ∀ c, Vp c main_v2 = (dat1 Vb c).arrAt 3 (cfg1 (F := F)).N)
    (hVp_ne : ∀ c (b : Ref sig .tc), b ≠ main_v2 → Vp c b = Vb c b) :
    Pipeline.RegionSeg (pcfgs (F := F)) adm (pdats Va Vb Vc Vd) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (obl1 Vb hV c).loose
  hwaits := Pipeline.hwaits_of_owed_zero _ _ _ _ L lv 1 fun _ _ => rfl
  pre c := iprop(unscopedBufs c (Vb c) ∗ Rest c)
  post c := iprop(unscopedBufs c (Vp c) ∗ Rest c)
  X _ := BI.emp
  Y _ := BI.emp
  Z c := Pipeline.unscopedRest (Ix := Unit) (Name := ℕ) (U := UR) (Lvl := ℕ) Cert.KernelIdeal.spec1 c (Vb c)
  hentry c := by
    rw [Pipeline.ownSems0_none]
    have hsplit := Pipeline.arrays_of_unscopedBufs (p := 1) (pcfgs (F := F)) adm (pdats Va Vb Vc Vd) (launch1 (F := F)).win (launch1 (F := F)).arr_whole c
      ((pdats Va Vb Vc Vd 1 c).share_full fun _ => rfl) (Vb c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb Vc Vd 1 c).Φ 0 = Pipeline.scopedRest Cert.KernelIdeal.spec1 c from rfl]
    iintro ⟨-, -, Hr⟩; iexact Hr
  hout c := by
    rw [Pipeline.ownSems0_none, show (pdats Va Vb Vc Vd 1 c).Φ (Fin.last _) = Pipeline.scopedRest Cert.KernelIdeal.spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR) (Lvl := ℕ) (launch1 (F := F)).win (launch1 (F := F)).arr_whole c
      (pdats Va Vb Vc Vd) ((pdats Va Vb Vc Vd 1 c).share_full fun _ => rfl) (Vb c) (Vp c) ((pdats Va Vb Vc Vd 1 c).arrAt · (cfg1 (F := F)).N)
      (fun w => by
        fin_cases w
        · exact ((pdats Va Vb Vc Vd 1 c).arrAt_in 0 rfl _).trans (hVp_ne c main_v0 (by decide)).symm
        · exact ((pdats Va Vb Vc Vd 1 c).arrAt_in 1 rfl _).trans (hVp_ne c main_arg0 (by decide)).symm
        · exact ((pdats Va Vb Vc Vd 1 c).arrAt_in 2 rfl _).trans (hVp_ne c main_v1 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The point kernel's region, from `Vc` to any `Vp` that has the result's array as written back and is `Vc` elsewhere. -/
def reg2 (hV : ∀ c t, ∃ I, Ids (k2_pay6 (F := F) (blk2_0 Vc c t)) I) (Vp : Bufs F) (hVp_out : ∀ c, Vp c main_v7 = (dat2 Vc c).arrAt 9 (cfg2 (F := F)).N)
    (hVp_ne : ∀ c (b : Ref sig .tc), b ≠ main_v7 → Vp c b = Vc c b) :
    Pipeline.RegionSeg (pcfgs (F := F)) adm (pdats Va Vb Vc Vd) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (obl2 Vc hV c).loose
  hwaits := Pipeline.hwaits_of_owed_zero _ _ _ _ L lv 2 fun _ _ => rfl
  pre c := iprop(unscopedBufs c (Vc c) ∗ Rest c)
  post c := iprop(unscopedBufs c (Vp c) ∗ Rest c)
  X _ := BI.emp
  Y _ := BI.emp
  Z c := Pipeline.unscopedRest (Ix := Unit) (Name := ℕ) (U := UR) (Lvl := ℕ) Cert.KernelIdeal.spec2 c (Vc c)
  hentry c := by
    rw [Pipeline.ownSems0_none]
    have hsplit := Pipeline.arrays_of_unscopedBufs (p := 2) (pcfgs (F := F)) adm (pdats Va Vb Vc Vd) (launch2 (F := F)).win (launch2 (F := F)).arr_whole c
      ((pdats Va Vb Vc Vd 2 c).share_full fun _ => rfl) (Vc c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb Vc Vd 2 c).Φ 0 = Pipeline.scopedRest Cert.KernelIdeal.spec2 c from rfl]
    iintro ⟨-, -, Hr⟩; iexact Hr
  hout c := by
    rw [Pipeline.ownSems0_none, show (pdats Va Vb Vc Vd 2 c).Φ (Fin.last _) = Pipeline.scopedRest Cert.KernelIdeal.spec2 c from rfl]
    iintro Hr
    isplitr; · iempintro
    isplitr; · iempintro
    iexact Hr
  hexit c := by
    have hjoin := Pipeline.unscopedBufs_of_arrays (p := 2) (pcfgs (F := F)) adm (Ix := Unit) (Name := ℕ) (U := UR) (Lvl := ℕ) (launch2 (F := F)).win (launch2 (F := F)).arr_whole c
      (pdats Va Vb Vc Vd) ((pdats Va Vb Vc Vd 2 c).share_full fun _ => rfl) (Vc c) (Vp c) ((pdats Va Vb Vc Vd 2 c).arrAt · (cfg2 (F := F)).N)
      (fun w => by
        fin_cases w
        · exact ((pdats Va Vb Vc Vd 2 c).arrAt_in 0 rfl _).trans (hVp_ne c main_v0 (by decide)).symm
        · exact ((pdats Va Vb Vc Vd 2 c).arrAt_in 1 rfl _).trans (hVp_ne c main_arg0 (by decide)).symm
        · exact ((pdats Va Vb Vc Vd 2 c).arrAt_in 2 rfl _).trans (hVp_ne c main_arg1 (by decide)).symm
        · exact ((pdats Va Vb Vc Vd 2 c).arrAt_in 3 rfl _).trans (hVp_ne c main_v1 (by decide)).symm
        · exact ((pdats Va Vb Vc Vd 2 c).arrAt_in 4 rfl _).trans (hVp_ne c main_v2 (by decide)).symm
        · exact ((pdats Va Vb Vc Vd 2 c).arrAt_in 5 rfl _).trans (hVp_ne c main_arg3 (by decide)).symm
        · exact ((pdats Va Vb Vc Vd 2 c).arrAt_in 6 rfl _).trans (hVp_ne c main_v4 (by decide)).symm
        · exact ((pdats Va Vb Vc Vd 2 c).arrAt_in 7 rfl _).trans (hVp_ne c main_arg5 (by decide)).symm
        · exact ((pdats Va Vb Vc Vd 2 c).arrAt_in 8 rfl _).trans (hVp_ne c main_v6 (by decide)).symm
        · exact (hVp_out c).symm)
      (fun b hb => hVp_ne c b fun h => hb (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The head kernel's region, from `Vd` to any `Vp` that has the result's array as written back and is `Vd` elsewhere. -/
def reg3 (Vp : Bufs F) (hVp_out : ∀ c, Vp c main_v14 = (dat3 Vd c).arrAt 8 (cfg3 (F := F)).N)
    (hVp_ne : ∀ c (b : Ref sig .tc), b ≠ main_v14 → Vp c b = Vd c b) :
    Pipeline.RegionSeg (pcfgs (F := F)) adm (pdats Va Vb Vc Vd) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (obl3 Vd c).loose
  hwaits := Pipeline.hwaits_of_owed_zero _ _ _ _ L lv 3 fun _ _ => rfl
  pre c := iprop(unscopedBufs c (Vd c) ∗ Rest c)
  post c := iprop(unscopedBufs c (Vp c) ∗ Rest c)
  X _ := BI.emp
  Y _ := BI.emp
  Z c := Pipeline.unscopedRest (Ix := Unit) (Name := ℕ) (U := UR) (Lvl := ℕ) Cert.KernelIdeal.spec3 c (Vd c)
  hentry c := by
    rw [Pipeline.ownSems0_none]
    have hsplit := Pipeline.arrays_of_unscopedBufs (p := 3) (pcfgs (F := F)) adm (pdats Va Vb Vc Vd) (launch3 (F := F)).win (launch3 (F := F)).arr_whole c
      ((pdats Va Vb Vc Vd 3 c).share_full fun _ => rfl) (Vd c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb Vc Vd 3 c).Φ 0 = Pipeline.scopedRest Cert.KernelIdeal.spec3 c from rfl]
    iintro ⟨-, -, Hr⟩; iexact Hr
  hout c := by
    rw [Pipeline.ownSems0_none, show (pdats Va Vb Vc Vd 3 c).Φ (Fin.last _) = Pipeline.scopedRest Cert.KernelIdeal.spec3 c from rfl]
    iintro Hr
    isplitr; · iempintro
    isplitr; · iempintro
    iexact Hr
  hexit c := by
    have hjoin := Pipeline.unscopedBufs_of_arrays (p := 3) (pcfgs (F := F)) adm (Ix := Unit) (Name := ℕ) (U := UR) (Lvl := ℕ) (launch3 (F := F)).win (launch3 (F := F)).arr_whole c
      (pdats Va Vb Vc Vd) ((pdats Va Vb Vc Vd 3 c).share_full fun _ => rfl) (Vd c) (Vp c) ((pdats Va Vb Vc Vd 3 c).arrAt · (cfg3 (F := F)).N)
      (fun w => by
        fin_cases w
        · exact ((pdats Va Vb Vc Vd 3 c).arrAt_in 0 rfl _).trans (hVp_ne c main_v7 (by decide)).symm
        · exact ((pdats Va Vb Vc Vd 3 c).arrAt_in 1 rfl _).trans (hVp_ne c main_v2 (by decide)).symm
        · exact ((pdats Va Vb Vc Vd 3 c).arrAt_in 2 rfl _).trans (hVp_ne c main_arg7 (by decide)).symm
        · exact ((pdats Va Vb Vc Vd 3 c).arrAt_in 3 rfl _).trans (hVp_ne c main_v9 (by decide)).symm
        · exact ((pdats Va Vb Vc Vd 3 c).arrAt_in 4 rfl _).trans (hVp_ne c main_arg9 (by decide)).symm
        · exact ((pdats Va Vb Vc Vd 3 c).arrAt_in 5 rfl _).trans (hVp_ne c main_v11 (by decide)).symm
        · exact ((pdats Va Vb Vc Vd 3 c).arrAt_in 6 rfl _).trans (hVp_ne c main_arg11 (by decide)).symm
        · exact ((pdats Va Vb Vc Vd 3 c).arrAt_in 7 rfl _).trans (hVp_ne c main_v13 (by decide)).symm
        · exact (hVp_out c).symm)
      (fun b hb => hVp_ne c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.KI

end
-- ==== Proof.Run.lean ====
/-
  The whole program's run: the four regions and the host operations between them, in program order, with the contents
  of every buffer after each.
-/
module

public import proofs.«01_k».proof.Proof.Segs

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation Seg HostSeg RegionSeg)

variable {F : FTy → Type} [FloatOps F]

local notation "𝕄" => MT nD τ sig Unit (Elt F) ℕ UR ℕ

variable (m : (ℓ : Loc nD τ sig) → Buf (Elt F) ℓ)

/-- The references' contents of a valuation. -/
abbrev refs (W : (c : Dev nD) → Valuation τ sig (Elt F)) : Bufs F := fun c b => W c b

/-! ## The contents after each item -/

/-- What region 0 leaves in its result. -/
def wrote2 (c : Dev nD) : Buf (Elt F) ((c : Thread nD τ).loc main_v1) := (dat0 (refs (fun c => V1 m c)) c).arrAt 2 (cfg0 (F := F)).N

/-- The buffers after region 0. -/
def W2 (c : Dev nD) : Valuation τ sig (Elt F) := Function.update ((fun c => V1 m c) c) (Proc.devRef .tc main_v1) (wrote2 m c)

/-- What region 1 leaves in its result. -/
def wrote3 (c : Dev nD) : Buf (Elt F) ((c : Thread nD τ).loc main_v2) := (dat1 (refs (W2 m)) c).arrAt 3 (cfg1 (F := F)).N

/-- The buffers after region 1. -/
def W3 (c : Dev nD) : Valuation τ sig (Elt F) := Function.update ((W2 m) c) (Proc.devRef .tc main_v2) (wrote3 m c)

/-- The buffers after the host operations that follow. -/
def W4 (c : Dev nD) : Valuation τ sig (Elt F) := StableHlo.after hostOps2 (W3 m c)

/-- What region 2 leaves in its result. -/
def wrote5 (c : Dev nD) : Buf (Elt F) ((c : Thread nD τ).loc main_v7) := (dat2 (refs (W4 m)) c).arrAt 9 (cfg2 (F := F)).N

/-- The buffers after region 2. -/
def W5 (c : Dev nD) : Valuation τ sig (Elt F) := Function.update ((W4 m) c) (Proc.devRef .tc main_v7) (wrote5 m c)

/-- The buffers after the host operations that follow. -/
def W6 (c : Dev nD) : Valuation τ sig (Elt F) := StableHlo.after hostOps3 (W5 m c)

/-- What region 3 leaves in its result. -/
def wrote7 (c : Dev nD) : Buf (Elt F) ((c : Thread nD τ).loc main_v14) := (dat3 (refs (W6 m)) c).arrAt 8 (cfg3 (F := F)).N

/-- The buffers after region 3. -/
def W7 (c : Dev nD) : Valuation τ sig (Elt F) := Function.update ((W6 m) c) (Proc.devRef .tc main_v14) (wrote7 m c)

/-- What each item leaves, as the chain above has it. -/
def outs : Outs (F := F)
  | 2, r, c => W2 m c r
  | 3, r, c => W3 m c r
  | 5, r, c => W5 m c r
  | _, r, c => W7 m c r

theorem V2_eq (c : Dev nD) : V2 m (outs m) c = W2 m c := by
  show Function.update (V1 m c) _ (W2 m c main_v1) = _
  unfold W2; rw [Function.update_self]
theorem V3_eq (c : Dev nD) : V3 m (outs m) c = W3 m c := by
  show Function.update (V2 m (outs m) c) _ (W3 m c main_v2) = _
  rw [V2_eq]; unfold W3; rw [Function.update_self]
theorem V4_eq (c : Dev nD) : V4 m (outs m) c = W4 m c := by
  show StableHlo.after hostOps2 (V3 m (outs m) c) = _
  rw [V3_eq]; rfl
theorem V5_eq (c : Dev nD) : V5 m (outs m) c = W5 m c := by
  show Function.update (V4 m (outs m) c) _ (W5 m c main_v7) = _
  rw [V4_eq]; unfold W5; rw [Function.update_self]
theorem V6_eq (c : Dev nD) : V6 m (outs m) c = W6 m c := by
  show StableHlo.after hostOps3 (V5 m (outs m) c) = _
  rw [V5_eq]; rfl
theorem V7_eq (c : Dev nD) : V7 m (outs m) c = W7 m c := by
  show Function.update (V6 m (outs m) c) _ (W7 m c main_v14) = _
  rw [V6_eq]; unfold W7; rw [Function.update_self]

/-- No region and no host operation after the first stretch writes the ids' column. -/
theorem W2_ids (c : Dev nD) : W2 m c main_v0 = V1 m c main_v0 := by
  rw [← V2_eq]; exact V2_of m (outs m) c main_v0 (by decide)
theorem W4_ids (c : Dev nD) : W4 m c main_v0 = V1 m c main_v0 := by
  rw [← V4_eq]; exact (V4_of m (outs m) c main_v0 (by decide)).trans ((V3_of m (outs m) c main_v0 (by decide)).trans (V2_of m (outs m) c main_v0 (by decide)))

/-- The ids' column holds ids in range in every block. -/
abbrev IdsOk : Prop := ∀ (c : Dev nD) (W : Bufs F), W c main_v0 = V1 m c main_v0 →
  ∀ t, (∃ I, Ids (k0_pay2 (F := F) (blk0_0 W c t)) I) ∧ (∃ I, Ids (k1_pay5 (F := F) (blk1_0 W c t)) I) ∧ (∃ I, Ids (k2_pay6 (F := F) (blk2_0 W c t)) I)

variable {m}

/-- The four pipelines' proof data along the chain. -/
abbrev pd (m : (ℓ : Loc nD τ sig) → Buf (Elt F) ℓ) := pdats (F := F) (refs fun c => V1 m c) (refs (W2 m)) (refs (W4 m)) (refs (W6 m))

/-- Region 0 along the chain. -/
def R0 (hV : IdsOk m) : RegionSeg (pcfgs (F := F)) adm (pd m) () defs₀ 𝒱₀ L lv 0 :=
  reg0 (refs fun c => V1 m c) (refs (W2 m)) (refs (W4 m)) (refs (W6 m)) (fun c t => (hV c (refs fun c => V1 m c) rfl t).1) (refs (W2 m))
    (fun c => by show W2 m c _ = _; unfold W2; rw [Function.update_self]; rfl)
    (fun c b hb => by show W2 m c _ = (fun c => V1 m c) c _; unfold W2; rw [Function.update_of_ne (StableHlo.devRef_ne_of_ne hb)])

/-- Region 1 along the chain. -/
def R1 (hV : IdsOk m) : RegionSeg (pcfgs (F := F)) adm (pd m) () defs₀ 𝒱₀ L lv 1 :=
  reg1 (refs fun c => V1 m c) (refs (W2 m)) (refs (W4 m)) (refs (W6 m)) (fun c t => (hV c (refs (W2 m)) (W2_ids m c) t).2.1) (refs (W3 m))
    (fun c => by show W3 m c _ = _; unfold W3; rw [Function.update_self]; rfl)
    (fun c b hb => by show W3 m c _ = (W2 m) c _; unfold W3; rw [Function.update_of_ne (StableHlo.devRef_ne_of_ne hb)])

/-- Region 2 along the chain. -/
def R2 (hV : IdsOk m) : RegionSeg (pcfgs (F := F)) adm (pd m) () defs₀ 𝒱₀ L lv 2 :=
  reg2 (refs fun c => V1 m c) (refs (W2 m)) (refs (W4 m)) (refs (W6 m)) (fun c t => (hV c (refs (W4 m)) (W4_ids m c) t).2.2) (refs (W5 m))
    (fun c => by show W5 m c _ = _; unfold W5; rw [Function.update_self]; rfl)
    (fun c b hb => by show W5 m c _ = (W4 m) c _; unfold W5; rw [Function.update_of_ne (StableHlo.devRef_ne_of_ne hb)])

/-- Region 3 along the chain. -/
def R3 : RegionSeg (pcfgs (F := F)) adm (pd m) () defs₀ 𝒱₀ L lv 3 :=
  reg3 (refs fun c => V1 m c) (refs (W2 m)) (refs (W4 m)) (refs (W6 m))  (refs (W7 m))
    (fun c => by show W7 m c _ = _; unfold W7; rw [Function.update_self]; rfl)
    (fun c b hb => by show W7 m c _ = (W6 m) c _; unfold W7; rw [Function.update_of_ne (StableHlo.devRef_ne_of_ne hb)])

/-- All unscoped buffers at a valuation, in either form. -/
theorem held_eq (c : Dev nD) (W : Valuation τ sig (Elt F)) :
    (StableHlo.held (c : Thread nD τ) (Pipeline.ucRefs τ sig) W : sProp 𝕄) = unscopedBufs c (fun b => W b) :=
  (Pipeline.unscopedBufs_held (Ix := Unit) (Name := ℕ) (U := UR) (Lvl := ℕ) c W).symm

/-- The launch's ghost state: every staging cell's owner and a token for every transfer. -/
def u₀ : UR := initOf (Pipeline.cells (cfgs (F := F)) cellOf_inj) (Pipeline.launchToks (cfgs (F := F)) cellOf_inj)

/-- The program's items in order. -/
abbrev items (hV : IdsOk m) (c : Dev nD) := segs m (outs m) 𝒱₀ L lv (fun _ => Rest) () (pd m) (R0 hV) (R1 hV) (R2 hV) R3 c

set_option backward.isDefEq.respectTransparency.types false in
/-- From any memory whose ids are in range, with every counter at zero, the program ends without a fault, with every
    unscoped buffer as the chain has it and every counter at zero. -/
theorem run_all (hV : IdsOk m) (ρ : Dev nD → PrngReg) :
    θ_run defs (onTc (τ := τ) (main (F := F))) ⟨m, fun _ => 0, ρ⟩ (fun r =>
      (∀ c : Dev nD, ∀ b ∈ Pipeline.ucRefs τ sig, r.2.mem (((c : Thread nD τ)).1, b) = V8 m (outs m) c b) ∧ r.2.sem = fun _ => 0) := by
  refine Pipeline.θ_run_regions_kit_dev_sems (pcfgs (F := F)) adm (pd m) () cellOf_inj EP defs₀ 𝒱₀ L lv m ρ main (items hV)
    (fun c Q => by
      rewrite [main_chain c, Seg.run_eq_chain,
        show (items hV c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [items, segs, Seg.pipes_host, Seg.pipes_region, Seg.pipes_nil]; decide) (fun _ => 0) (fun _ _ => rfl)
    (fun _ => BI.emp) (u₀ (F := F)) ?_
    (T₀ := fun c => iprop(StableHlo.held (c : Thread nD τ) (Pipeline.ucRefs τ sig) (V0 m c) ∗ Rest c))
    (Tₙ := fun c => StableHlo.held (c : Thread nD τ) (Pipeline.ucRefs τ sig) (V8 m (outs m) c))
    (hch := fun c => ⟨.rfl, ?_, ?_, ?_, ?_, ?_, ?_, ?_, .rfl⟩)
    (hinit := ?_) (QY := fun c s => ∀ b ∈ Pipeline.ucRefs τ sig, s.mem (((c : Thread nD τ)).1, b) = V8 m (outs m) c b)
    (hfin := fun c s' => ?_) (hQ := fun _ h hz => ⟨h, funext fun g => hz g (.inr (regions_no_unscoped g.2))⟩)
  · iintro Hu; imodintro
    isplitl [Hu]
    · iapply (show (ownU (u₀ (F := F)) : sProp 𝕄) ⊢ BI.own (EP (initOf (Pipeline.cells (cfgs (F := F)) cellOf_inj) (Pipeline.launchToks (cfgs (F := F)) cellOf_inj))) from .rfl)
      iexact Hu
    iapply (show (BI.emp : sProp 𝕄) ⊢ bigSep Finset.univ (fun _ : Dev nD => (BI.emp : sProp 𝕄)) from by rw [BI.bigSep_emp_const])
    iempintro
  · exact Entails.of_eq (congrArg (fun P => iprop(P ∗ Rest c)) (held_eq c (V1 m c)))
  · exact Entails.of_eq (congrArg (fun P => iprop(P ∗ Rest c)) rfl)
  · exact Entails.of_eq (congrArg (fun P => iprop(P ∗ Rest c)) ((held_eq c (W3 m c)).symm.trans (congrArg _ (V3_eq m c).symm)))
  · exact Entails.of_eq (congrArg (fun P => iprop(P ∗ Rest c)) ((congrArg _ (V4_eq m c)).trans (held_eq c (W4 m c))))
  · exact Entails.of_eq (congrArg (fun P => iprop(P ∗ Rest c)) ((held_eq c (W5 m c)).symm.trans (congrArg _ (V5_eq m c).symm)))
  · exact Entails.of_eq (congrArg (fun P => iprop(P ∗ Rest c)) ((congrArg _ (V6_eq m c)).trans (held_eq c (W6 m c))))
  · exact Entails.of_eq (congrArg (fun P => iprop(P ∗ Rest c)) ((held_eq c (W7 m c)).symm.trans (congrArg _ (V7_eq m c).symm)))
  · iintro ⟨H, -⟩; imodintro
    have h1 : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)
        ⊢ (iprop(StableHlo.held (c : Thread nD τ) (Pipeline.ucRefs τ sig) (V0 m c) ∗ Rest c) : sProp 𝕄) := fun c => by
      rw [held_eq c (V0 m c)]
      iintro ⟨Hb, -, HO, -⟩
      isplitl [Hb]; · iexact Hb
      iexists ∅; iexact HO
    have hs : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ Rest c) : sProp 𝕄) :=
      bigSep_mono fun c _ => h1 c
    iapply hs
    iexact H
  · unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro; exact h
    · iexact HSI

end Cert.Proof.KI

end
-- ==== Proof.PreIds.lean ====
/-
  What the precondition says of the segment ids: each is a number below 10000, and they are in order.
-/
module

public import proofs.«01_k».proof.Pre_segment_ids
public import Idealize.ShloMosaic.Lib.Pipeline.ValueKit

@[expose] public section

set_option maxRecDepth 16384

noncomputable section

namespace Cert.Proof

open Idealize.ShloMosaic Cert.Pre_segment_ids

instance preFacts : Cert.Pre_segment_ids.Facts where
  slices_S320000_S1_0 := by decide
  slices_S320000_S319999_0 := by decide
  concatenates_S1_S319999_S320000_d0 := by decide
  bcast_S_S320000 := by decide

/-- The ids `I` of all points, as the argument `a` holds them: below 10000 and in order. -/
structure AllIds (a : IVec S320000 32) (I : Fin 320000 → ℕ) : Prop where
  eq : ∀ r, a (ix1 r) = BitVec.ofNat 32 (I r)
  lt : ∀ r, I r < 10000
  mono : ∀ r s : Fin 320000, r ≤ s → I r ≤ I s

theorem andi_one : ∀ x y : BitVec 1, IntOp.andi x y = 1#1 ↔ x = 1#1 ∧ y = 1#1 := by decide

theorem sge_one (x y : BitVec 32) : IntOp.cmpi .sge x y = 1#1 ↔ y.toInt ≤ x.toInt := by
  simp only [IntOp.cmpi, BitVec.sle]
  by_cases h : y.toInt ≤ x.toInt <;> simp [h]

theorem slt_one (x y : BitVec 32) : IntOp.cmpi .slt x y = 1#1 ↔ x.toInt < y.toInt := by
  simp only [IntOp.cmpi, BitVec.slt]
  by_cases h : x.toInt < y.toInt <;> simp [h]

variable {F : FTy → Type} [FloatOps F]

/-- The precondition gives the ids. -/
theorem allIds_of_pre {a0 a1 a2 a3 a4 a5 a6 a7 a8 a9 a10 a11 a12}
    (h : Cert.Pre_segment_ids.fn (F := F) a0 a1 a2 a3 a4 a5 a6 a7 a8 a9 a10 a11 a12 = fun _ => 1#1) :
    ∃ I, AllIds a2 I := by
  have h' : ∀ r : Fin 320000, (0 ≤ (a2 (ix1 r)).toInt ∧ (a2 (ix1 r)).toInt < 10000)
      ∧ ∀ (h0 : ¬ r.val < 1), (a2 (ix1 ⟨r.val - 1, by omega⟩)).toInt ≤ (a2 (ix1 r)).toInt := by
    intro r
    have := congrFun h (ix1 r)
    unfold fn at this
    pointwise at this
    rw [andi_one, andi_one, sge_one, slt_one, sge_one] at this
    refine ⟨this.1, fun h0 => ?_⟩
    have h2 := this.2
    rw [dif_neg h0] at h2
    exact h2
  refine ⟨fun r => (a2 (ix1 r)).toInt.toNat, fun r => ?_, fun r => ?_, fun r s hrs => ?_⟩
  · have h1 := (h' r).1.1
    have h2 : ((a2 (ix1 r)).toInt.toNat : ℤ) = (a2 (ix1 r)).toInt := Int.toNat_of_nonneg h1
    apply BitVec.eq_of_toInt_eq
    rw [← BitVec.ofInt_natCast, h2, BitVec.ofInt_toInt]
  · have := (h' r).1; omega
  · obtain ⟨s, hs⟩ := s
    induction s with
    | zero =>
      have : r = ⟨0, hs⟩ := Fin.ext (Nat.le_zero.mp hrs)
      rw [this]
    | succ n ih =>
      rcases Nat.lt_or_ge r.val (n + 1) with hlt | hge
      · have h1 := ih (by omega) (by show r.val ≤ n; omega)
        have h2 := (h' ⟨n + 1, hs⟩).2 (by simp)
        have h3 := (h' ⟨n + 1, hs⟩).1
        refine h1.trans (Int.toNat_le_toNat h2)
      · have : r = ⟨n + 1, hs⟩ := Fin.ext (le_antisymm hrs hge)
        rw [this]

end Cert.Proof

end
-- ==== Proof.Blocks.lean ====
/-
  The blocks of the ids' column: row `r` of block `t` is the id of point `3200 t + r`.
-/
module

public import proofs.«01_k».proof.Proof.Run
public import proofs.«01_k».proof.Proof.PreIds

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.Sem

variable {F : FTy → Type} [FloatOps F]
variable (m : (ℓ : Loc nD τ sig) → Buf (Elt F) ℓ)

/-- The ids' argument on a core. -/
abbrev idsArg (c : Dev nD) : IVec Cert.Pre_segment_ids.S320000 32 := m ((c : Thread nD τ).loc main_arg2)

theorem V1_ids (c : Dev nD) : V1 m c main_v0 = shapeCast S320000x1 (idsArg m c) shapeCasts_S320000_S320000x1 := by
  show StableHlo.after hostOps0 (V0 m c) main_v0 = _
  after_results_simp
  rfl

/-- The point of row `r` in block `t`. -/
def pt (t : ℕ) (r : Fin 3200) : Fin 320000 := ⟨(t * 3200 + r.val) % 320000, Nat.mod_lt _ (by norm_num)⟩

theorem pt_val (t : ℕ) (ht : t < 100) (r : Fin 3200) : (pt t r).val = t * 3200 + r.val := Nat.mod_eq_of_lt (by omega)

theorem index0_0 : ∀ t : Fin grid0.N, win0_0.index t = ![t.val, 0] := by decide +kernel
theorem index1_0 : ∀ t : Fin grid1.N, win1_0.index t = ![t.val, 0] := by decide +kernel
theorem index2_0 : ∀ t : Fin grid2.N, win2_0.index t = ![t.val, 0] := by decide +kernel

variable {m}

theorem k0_pay2_eq (v : Vec F S3200x1 .i32) : k0_pay2 (F := F) v = v := shapeCast_self _ _
theorem k1_pay5_eq (v : Vec F S3200x1 .i32) : k1_pay5 (F := F) v = v := shapeCast_self _ _
theorem k2_pay6_eq (v : Vec F S3200x1 .i32) : k2_pay6 (F := F) v = v := shapeCast_self _ _

theorem ids_cast (c : Dev nD) (W : Bufs F) (h : W c main_v0 = V1 m c main_v0) (j : S320000x1.Idx) :
    (W c main_v0 : IVec S320000x1 32) j = idsArg m c (ix1 (j 0)) := by
  rw [h, V1_ids]
  refine shapeCast_apply _ _ _ _ ?_
  rw [Shape.rowMajor_val_one, Shape.rowMajor_val_two]
  have : (j 1).val < 1 := (j 1).isLt
  show (j 0).val = (j 0).val * 1 + (j 1).val
  omega

/-- Row `r` of block `t` of the ids' column, as pipeline 0 reads it. -/
theorem blk0_ids (c : Dev nD) (W : Bufs F) (h : W c main_v0 = V1 m c main_v0) (t : Fin (cfg0 (F := F)).N) (r : Fin 3200) :
    blk0_0 W c t (rowIdx r) = idsArg m c (ix1 (pt t.val r)) := by
  have ht : t.val < 100 := t.isLt.trans_eq N_0
  unfold blk0_0
  refine (ids_cast c W h (((cfg0.win 0).blk t).view.emb (rowIdx r))).trans ?_
  congr 1
  congr 1
  refine Fin.ext ?_
  rw [pt_val _ ht]
  blk_simp
  show win0_0.index t 0 * 3200 + _ = _
  rw [index0_0]; rfl

/-- The ids of block `t`, as pipeline 0 reads them. -/
theorem ids0 (c : Dev nD) (W : Bufs F) (h : W c main_v0 = V1 m c main_v0) {I : Fin 320000 → ℕ} (hI : AllIds (idsArg m c) I) (t : Fin (cfg0 (F := F)).N) :
    Ids (k0_pay2 (F := F) (blk0_0 W c t)) fun r => I (pt t.val r) where
  eq r := by
    exact (congrFun (k0_pay2_eq _) _).trans ((blk0_ids c W h t r).trans (hI.eq _))
  lt r := hI.lt _

/-- Row `r` of block `t` of the ids' column, as pipeline 1 reads it. -/
theorem blk1_ids (c : Dev nD) (W : Bufs F) (h : W c main_v0 = V1 m c main_v0) (t : Fin (cfg1 (F := F)).N) (r : Fin 3200) :
    blk1_0 W c t (rowIdx r) = idsArg m c (ix1 (pt t.val r)) := by
  have ht : t.val < 100 := t.isLt.trans_eq N_1
  unfold blk1_0
  refine (ids_cast c W h (((cfg1.win 0).blk t).view.emb (rowIdx r))).trans ?_
  congr 1
  congr 1
  refine Fin.ext ?_
  rw [pt_val _ ht]
  blk_simp
  show win1_0.index t 0 * 3200 + _ = _
  rw [index1_0]; rfl

/-- The ids of block `t`, as pipeline 1 reads them. -/
theorem ids1 (c : Dev nD) (W : Bufs F) (h : W c main_v0 = V1 m c main_v0) {I : Fin 320000 → ℕ} (hI : AllIds (idsArg m c) I) (t : Fin (cfg1 (F := F)).N) :
    Ids (k1_pay5 (F := F) (blk1_0 W c t)) fun r => I (pt t.val r) where
  eq r := by
    exact (congrFun (k1_pay5_eq _) _).trans ((blk1_ids c W h t r).trans (hI.eq _))
  lt r := hI.lt _

/-- Row `r` of block `t` of the ids' column, as pipeline 2 reads it. -/
theorem blk2_ids (c : Dev nD) (W : Bufs F) (h : W c main_v0 = V1 m c main_v0) (t : Fin (cfg2 (F := F)).N) (r : Fin 3200) :
    blk2_0 W c t (rowIdx r) = idsArg m c (ix1 (pt t.val r)) := by
  have ht : t.val < 100 := t.isLt.trans_eq N_2
  unfold blk2_0
  refine (ids_cast c W h (((cfg2.win 0).blk t).view.emb (rowIdx r))).trans ?_
  congr 1
  congr 1
  refine Fin.ext ?_
  rw [pt_val _ ht]
  blk_simp
  show win2_0.index t 0 * 3200 + _ = _
  rw [index2_0]; rfl

/-- The ids of block `t`, as pipeline 2 reads them. -/
theorem ids2 (c : Dev nD) (W : Bufs F) (h : W c main_v0 = V1 m c main_v0) {I : Fin 320000 → ℕ} (hI : AllIds (idsArg m c) I) (t : Fin (cfg2 (F := F)).N) :
    Ids (k2_pay6 (F := F) (blk2_0 W c t)) fun r => I (pt t.val r) where
  eq r := by
    exact (congrFun (k2_pay6_eq _) _).trans ((blk2_ids c W h t r).trans (hI.eq _))
  lt r := hI.lt _

/-- The precondition puts the ids of every block in range. -/
theorem idsOk (h : ∀ c, ∃ I, AllIds (idsArg m c) I) : IdsOk m := fun c W hW t => by
  obtain ⟨I, hI⟩ := h c
  exact ⟨⟨_, ids0 c W hW hI t⟩, ⟨_, ids1 c W hW hI t⟩, ⟨_, ids2 c W hW hI t⟩⟩

/-- The run, with the arguments unchanged and every counter at zero. -/
theorem frame (h : ∀ c, ∃ I, AllIds (idsArg m c) I) (ρ : Dev nD → PrngReg) :
    θ_run defs (onTc (τ := τ) (main (F := F))) ⟨m, fun _ => 0, ρ⟩ (fun r => (∀ c : Dev nD,
      r.2.mem ((c.tc : Thread nD τ).loc main_v15) = V8 m (outs m) c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r H => ⟨fun c => ⟨H.1 c (Proc.devRef .tc main_v15) (Finset.mem_filter.mpr ⟨StableHlo.devRef_mem_tcRefs main_v15, by decide⟩),
    (H.1 c (Proc.devRef .tc main_arg0) (Finset.mem_filter.mpr ⟨StableHlo.devRef_mem_tcRefs main_arg0, by decide⟩)).trans (V8_main_arg0 m (outs m) c),
    (H.1 c (Proc.devRef .tc main_arg1) (Finset.mem_filter.mpr ⟨StableHlo.devRef_mem_tcRefs main_arg1, by decide⟩)).trans (V8_main_arg1 m (outs m) c),
    (H.1 c (Proc.devRef .tc main_arg2) (Finset.mem_filter.mpr ⟨StableHlo.devRef_mem_tcRefs main_arg2, by decide⟩)).trans (V8_main_arg2 m (outs m) c),
    (H.1 c (Proc.devRef .tc main_arg3) (Finset.mem_filter.mpr ⟨StableHlo.devRef_mem_tcRefs main_arg3, by decide⟩)).trans (V8_main_arg3 m (outs m) c),
    (H.1 c (Proc.devRef .tc main_arg4) (Finset.mem_filter.mpr ⟨StableHlo.devRef_mem_tcRefs main_arg4, by decide⟩)).trans (V8_main_arg4 m (outs m) c),
    (H.1 c (Proc.devRef .tc main_arg5) (Finset.mem_filter.mpr ⟨StableHlo.devRef_mem_tcRefs main_arg5, by decide⟩)).trans (V8_main_arg5 m (outs m) c),
    (H.1 c (Proc.devRef .tc main_arg6) (Finset.mem_filter.mpr ⟨StableHlo.devRef_mem_tcRefs main_arg6, by decide⟩)).trans (V8_main_arg6 m (outs m) c),
    (H.1 c (Proc.devRef .tc main_arg7) (Finset.mem_filter.mpr ⟨StableHlo.devRef_mem_tcRefs main_arg7, by decide⟩)).trans (V8_main_arg7 m (outs m) c),
    (H.1 c (Proc.devRef .tc main_arg8) (Finset.mem_filter.mpr ⟨StableHlo.devRef_mem_tcRefs main_arg8, by decide⟩)).trans (V8_main_arg8 m (outs m) c),
    (H.1 c (Proc.devRef .tc main_arg9) (Finset.mem_filter.mpr ⟨StableHlo.devRef_mem_tcRefs main_arg9, by decide⟩)).trans (V8_main_arg9 m (outs m) c),
    (H.1 c (Proc.devRef .tc main_arg10) (Finset.mem_filter.mpr ⟨StableHlo.devRef_mem_tcRefs main_arg10, by decide⟩)).trans (V8_main_arg10 m (outs m) c),
    (H.1 c (Proc.devRef .tc main_arg11) (Finset.mem_filter.mpr ⟨StableHlo.devRef_mem_tcRefs main_arg11, by decide⟩)).trans (V8_main_arg11 m (outs m) c),
    (H.1 c (Proc.devRef .tc main_arg12) (Finset.mem_filter.mpr ⟨StableHlo.devRef_mem_tcRefs main_arg12, by decide⟩)).trans (V8_main_arg12 m (outs m) c)⟩, H.2⟩) (run_all (idsOk h) ρ)

end Cert.Proof.KI

end
-- ==== Proof.RefRoute.lean ====
/-
  Where the reference's scatters land, and what its gathers read, for ids that name a segment.
-/
module

public import Idealize.ShloMosaic.Lib.Routing.OpsPair
public import Idealize.ShloMosaic.Lib.Routing.OpsSet
public import proofs.«01_k».proof.Proof.Gen.ReferenceIdeal
public import proofs.«01_k».proof.Proof.PreIds
public import Idealize.ShloMosaic.Lib.Pointwise

@[expose] public section

set_option maxRecDepth 16384

noncomputable section

namespace Cert.Proof.RI

open Cert.ReferenceIdeal
open Idealize.ShloMosaic

open Routing

/-- Update `r` of the count scatter lands at `s` exactly when its id, read signed, is `s`. -/
theorem lands1 (idx : IVec S320000x1 32) (r : Fin 320000) (s : Fin 10000) :
    scatter_S10000_S320000x1_S320000_n_0_0_1.resultIdx? (ix1 r) idx = some (ix1 s) ↔ (idx (ix2 r 0)).toInt = s.val := by
  refine (resultIdx?_ix1 (N := 10000) scatter_S10000_S320000x1_S320000_n_0_0_1 (ix1 r) idx s).trans ?_
  have h1 : scatter_S10000_S320000x1_S320000_n_0_0_1.start (ix1 r) idx 0 = (idx (ix2 r 0)).toInt := by
    unfold ScatterDims.start
    rw [dif_pos (by show (0 : Fin 1) ∈ [0]; simp)]
    congr 2
    funext a
    match a with
    | ⟨0, _⟩ => rfl
    | ⟨1, _⟩ => rfl
  have h2 : scatter_S10000_S320000x1_S320000_n_0_0_1.window (ix1 r) 0 = 0 := rfl
  rw [h1, h2]; simp

/-- Update `(r, k)` of the position scatter lands at `(s, q)` exactly when its id, read signed, is `s` and `k` is `q`. -/
theorem lands3 (idx : IVec S320000x1 32) (r : Fin 320000) (k : Fin 3) (s : Fin 10000) (q : Fin 3) :
    scatter_S10000x3_S320000x1_S320000x3_1_0_0_1.resultIdx? (ix2 r k) idx = some (ix2 s q) ↔ (idx (ix2 r 0)).toInt = s.val ∧ k = q := by
  refine (resultIdx?_ix2 (R := 10000) (C := 3) scatter_S10000x3_S320000x1_S320000x3_1_0_0_1 (ix2 r k) idx s q).trans ?_
  have h1 : scatter_S10000x3_S320000x1_S320000x3_1_0_0_1.start (ix2 r k) idx 0 = (idx (ix2 r 0)).toInt := by
    unfold ScatterDims.start
    rw [dif_pos (by show (0 : Fin 2) ∈ [0]; simp)]
    congr 2
    funext a
    match a with
    | ⟨0, _⟩ => rfl
    | ⟨1, _⟩ => rfl
  have h2 : scatter_S10000x3_S320000x1_S320000x3_1_0_0_1.window (ix2 r k) 0 = 0 := rfl
  have h3 : scatter_S10000x3_S320000x1_S320000x3_1_0_0_1.start (ix2 r k) idx 1 = 0 := rfl
  have h4 : scatter_S10000x3_S320000x1_S320000x3_1_0_0_1.window (ix2 r k) 1 = k.val := rfl
  rw [h1, h2, h3, h4, Fin.ext_iff]
  omega

/-- A scatter at an index: what was there, plus the updates that land on it. -/
theorem scatterAdd_apply {s si u : Shape} {w : ℕ} (d : ScatterDims s si u) (x : FVec Ideal s .f32) (idx : IVec si w) (v : FVec Ideal u .f32) (i : s.Idx) :
    Host.scatterAdd d x idx v i = x i + ∑ j : u.Idx, if d.resultIdx? j idx = some i then v j else 0 := by
  show x i + ∑ j ∈ Finset.univ.filter (fun j => d.resultIdx? j idx = some i), v j = _
  rw [Finset.sum_filter]

/-- A count scatter, at a segment: the sum of the updates of the points whose id is that segment. -/
theorem scatter1_apply (x : FVec Ideal S10000 .f32) (idx : IVec S320000x1 32) (u : FVec Ideal S320000 .f32) (I : Fin 320000 → ℕ)
    (hI : ∀ r, (idx (ix2 r 0)).toInt = I r) (s : Fin 10000) :
    Host.scatterAdd scatter_S10000_S320000x1_S320000_n_0_0_1 x idx u (ix1 s) = x (ix1 s) + ∑ r : Fin 320000, if I r = s.val then u (ix1 r) else 0 := by
  refine (scatterAdd_apply _ x idx u (ix1 s)).trans (congrArg (x (ix1 s) + ·) ?_)
  refine (sum_idx1 (n0 := 320000) _).trans ?_
  refine Finset.sum_congr rfl fun r _ => ?_
  refine if_congr ?_ rfl rfl
  rw [lands1, hI]
  exact Int.natCast_inj

/-- A position scatter, at a segment and a coordinate: the sum of that coordinate over the points whose id is that segment. -/
theorem scatter3_apply (x : FVec Ideal S10000x3 .f32) (idx : IVec S320000x1 32) (u : FVec Ideal S320000x3 .f32) (I : Fin 320000 → ℕ)
    (hI : ∀ r, (idx (ix2 r 0)).toInt = I r) (s : Fin 10000) (q : Fin 3) :
    Host.scatterAdd scatter_S10000x3_S320000x1_S320000x3_1_0_0_1 x idx u (ix2 s q)
      = x (ix2 s q) + ∑ r : Fin 320000, if I r = s.val then u (ix2 r q) else 0 := by
  refine (scatterAdd_apply _ x idx u (ix2 s q)).trans (congrArg (x (ix2 s q) + ·) ?_)
  refine (sum_idx2 (n0 := 320000) (n1 := 3) _).trans ?_
  refine Finset.sum_congr rfl fun r _ => ?_
  have e : ∀ k : Fin 3, (if scatter_S10000x3_S320000x1_S320000x3_1_0_0_1.resultIdx? (ix2 r k) idx = some (ix2 s q) then u (ix2 r k) else 0)
      = if k = q then (if I r = s.val then u (ix2 r k) else 0) else 0 := by
    intro k
    rw [← ite_and]
    refine if_congr ?_ rfl rfl
    rw [lands3, hI, and_comm]
    exact and_congr_right fun _ => Int.natCast_inj
  refine (Finset.sum_congr rfl fun k _ => e k).trans ?_
  rw [Finset.sum_ite_eq' Finset.univ q, if_pos (Finset.mem_univ q)]

/-- A gather of rows of three, at a point. -/
theorem gather3_apply (x : FVec Ideal S10000x3 .f32) (idx : IVec S320000x1 32) (p : Fin 320000) (k : Fin 3) (b : ℕ) (hb : b < 10000)
    (h : idx (ix2 p 0) = BitVec.ofNat 32 b) :
    Host.gather gather_S10000x3_S320000x1_S320000x3_1_0_n_n_0_1_13 x idx (ix2 p k) = x (ix2 ⟨b, hb⟩ k) :=
  gather_row (gather_S10000x3_S320000x1_S320000x3_1_0_n_n_0_1_13) rfl rfl rfl rfl rfl x idx p k ⟨b, hb⟩ h (by norm_num)

/-- A gather of scalars, at a point. -/
theorem gather1_apply (x : FVec Ideal S10000 .f32) (idx : IVec S320000x1 32) (p : Fin 320000) (b : ℕ) (hb : b < 10000)
    (h : idx (ix2 p 0) = BitVec.ofNat 32 b) :
    Host.gather gather_S10000_S320000x1_S320000_n_0_n_n_0_1_1 x idx (ix1 p) = x (ix1 ⟨b, hb⟩) :=
  gather_take1 (gather_S10000_S320000x1_S320000_n_0_n_n_0_1_1) rfl rfl rfl rfl x idx p ⟨b, hb⟩ h (by norm_num)

end Cert.Proof.RI

end
-- ==== Proof.BlockVals.lean ====
/-
  The blocks the grid points read, at coordinates: a block of rows is the array's rows from its start on, a block that is
  the whole array is the array.
-/
module

public import proofs.«01_k».proof.Proof.Blocks

@[expose] public section

set_option maxRecDepth 16384

noncomputable section

namespace Cert.Proof.KI

open Cert.KernelIdeal Cert.KernelIdeal.Gen
open Idealize.ShloMosaic

variable {F : FTy → Type} [FloatOps F] (V : Bufs F)

/-- The segment of row `r` in block `t` of the head. -/
def seg (t : ℕ) (r : Fin 1536) : Fin 10752 := ⟨(t * 1536 + r.val) % 10752, Nat.mod_lt _ (by norm_num)⟩

theorem seg_val (t : ℕ) (ht : t < 7) (r : Fin 1536) : (seg t r).val = t * 1536 + r.val := Nat.mod_eq_of_lt (by omega)

theorem at0_1 : ∀ t : Fin grid0.N, win0_1.index t = ![t.val, 0] := by decide +kernel
theorem val0_1 (c : Dev nD) (t : Fin (cfg0 (F := F)).N) (r : Fin 3200) (k : Fin 3) :
    (blk0_1 V c t : FVec F S3200x3 .f32) (ix2 r k) = (V c main_arg0 : FVec F S320000x3 .f32) (ix2 (pt t.val r) k) := by
  have ht : t.val < 100 := t.isLt.trans_eq N_0
  unfold blk0_1
  show (V c main_arg0 : FVec F S320000x3 .f32) _ = (V c main_arg0 : FVec F S320000x3 .f32) _
  congr 1
  funext a
  refine Fin.ext ?_
  blk_simp
  fin_cases a
  · show win0_1.index t 0 * 3200 + r.val = (pt t.val r).val
    rw [at0_1, pt_val _ ht]; rfl
  · show win0_1.index t 1 * 3 + k.val = k.val
    rw [at0_1]; exact Nat.zero_add _

theorem at1_1 : ∀ t : Fin grid1.N, win1_1.index t = ![t.val, 0] := by decide +kernel
theorem val1_1 (c : Dev nD) (t : Fin (cfg1 (F := F)).N) (r : Fin 3200) (k : Fin 3) :
    (blk1_1 V c t : FVec F S3200x3 .f32) (ix2 r k) = (V c main_arg0 : FVec F S320000x3 .f32) (ix2 (pt t.val r) k) := by
  have ht : t.val < 100 := t.isLt.trans_eq N_1
  unfold blk1_1
  show (V c main_arg0 : FVec F S320000x3 .f32) _ = (V c main_arg0 : FVec F S320000x3 .f32) _
  congr 1
  funext a
  refine Fin.ext ?_
  blk_simp
  fin_cases a
  · show win1_1.index t 0 * 3200 + r.val = (pt t.val r).val
    rw [at1_1, pt_val _ ht]; rfl
  · show win1_1.index t 1 * 3 + k.val = k.val
    rw [at1_1]; exact Nat.zero_add _

theorem at1_2 : ∀ t : Fin grid1.N, win1_2.index t = ![0, 0] := by decide +kernel
theorem val1_2 (c : Dev nD) (t : Fin (cfg1 (F := F)).N) : (blk1_2 V c t : FVec F S10752x4 .f32) = (V c main_v1 : FVec F S10752x4 .f32) := by
  funext j
  unfold blk1_2
  show (V c main_v1 : FVec F S10752x4 .f32) _ = (V c main_v1 : FVec F S10752x4 .f32) j
  congr 1
  funext a
  refine Fin.ext ?_
  blk_simp
  fin_cases a
  · show win1_2.index t 0 * 10752 + _ = _
    rw [at1_2]; exact Nat.zero_add _
  · show win1_2.index t 1 * 4 + _ = _
    rw [at1_2]; exact Nat.zero_add _

theorem at2_1 : ∀ t : Fin grid2.N, win2_1.index t = ![t.val, 0] := by decide +kernel
theorem val2_1 (c : Dev nD) (t : Fin (cfg2 (F := F)).N) (r : Fin 3200) (k : Fin 3) :
    (blk2_1 V c t : FVec F S3200x3 .f32) (ix2 r k) = (V c main_arg0 : FVec F S320000x3 .f32) (ix2 (pt t.val r) k) := by
  have ht : t.val < 100 := t.isLt.trans_eq N_2
  unfold blk2_1
  show (V c main_arg0 : FVec F S320000x3 .f32) _ = (V c main_arg0 : FVec F S320000x3 .f32) _
  congr 1
  funext a
  refine Fin.ext ?_
  blk_simp
  fin_cases a
  · show win2_1.index t 0 * 3200 + r.val = (pt t.val r).val
    rw [at2_1, pt_val _ ht]; rfl
  · show win2_1.index t 1 * 3 + k.val = k.val
    rw [at2_1]; exact Nat.zero_add _

theorem at2_2 : ∀ t : Fin grid2.N, win2_2.index t = ![t.val, 0] := by decide +kernel
theorem val2_2 (c : Dev nD) (t : Fin (cfg2 (F := F)).N) (r : Fin 3200) (k : Fin 16) :
    (blk2_2 V c t : FVec F S3200x16 .f32) (ix2 r k) = (V c main_arg1 : FVec F S320000x16 .f32) (ix2 (pt t.val r) k) := by
  have ht : t.val < 100 := t.isLt.trans_eq N_2
  unfold blk2_2
  show (V c main_arg1 : FVec F S320000x16 .f32) _ = (V c main_arg1 : FVec F S320000x16 .f32) _
  congr 1
  funext a
  refine Fin.ext ?_
  blk_simp
  fin_cases a
  · show win2_2.index t 0 * 3200 + r.val = (pt t.val r).val
    rw [at2_2, pt_val _ ht]; rfl
  · show win2_2.index t 1 * 16 + k.val = k.val
    rw [at2_2]; exact Nat.zero_add _

theorem at2_3 : ∀ t : Fin grid2.N, win2_3.index t = ![0, 0] := by decide +kernel
theorem val2_3 (c : Dev nD) (t : Fin (cfg2 (F := F)).N) : (blk2_3 V c t : FVec F S10752x4 .f32) = (V c main_v1 : FVec F S10752x4 .f32) := by
  funext j
  unfold blk2_3
  show (V c main_v1 : FVec F S10752x4 .f32) _ = (V c main_v1 : FVec F S10752x4 .f32) j
  congr 1
  funext a
  refine Fin.ext ?_
  blk_simp
  fin_cases a
  · show win2_3.index t 0 * 10752 + _ = _
    rw [at2_3]; exact Nat.zero_add _
  · show win2_3.index t 1 * 4 + _ = _
    rw [at2_3]; exact Nat.zero_add _

theorem at2_4 : ∀ t : Fin grid2.N, win2_4.index t = ![0, 0] := by decide +kernel
theorem val2_4 (c : Dev nD) (t : Fin (cfg2 (F := F)).N) : (blk2_4 V c t : FVec F S10752x1 .f32) = (V c main_v2 : FVec F S10752x1 .f32) := by
  funext j
  unfold blk2_4
  show (V c main_v2 : FVec F S10752x1 .f32) _ = (V c main_v2 : FVec F S10752x1 .f32) j
  congr 1
  funext a
  refine Fin.ext ?_
  blk_simp
  fin_cases a
  · show win2_4.index t 0 * 10752 + _ = _
    rw [at2_4]; exact Nat.zero_add _
  · show win2_4.index t 1 * 1 + _ = _
    rw [at2_4]; exact Nat.zero_add _

theorem at2_5 : ∀ t : Fin grid2.N, win2_5.index t = ![0, 0] := by decide +kernel
theorem val2_5 (c : Dev nD) (t : Fin (cfg2 (F := F)).N) : (blk2_5 V c t : FVec F S64x19 .f32) = (V c main_arg3 : FVec F S64x19 .f32) := by
  funext j
  unfold blk2_5
  show (V c main_arg3 : FVec F S64x19 .f32) _ = (V c main_arg3 : FVec F S64x19 .f32) j
  congr 1
  funext a
  refine Fin.ext ?_
  blk_simp
  fin_cases a
  · show win2_5.index t 0 * 64 + _ = _
    rw [at2_5]; exact Nat.zero_add _
  · show win2_5.index t 1 * 19 + _ = _
    rw [at2_5]; exact Nat.zero_add _

theorem at2_6 : ∀ t : Fin grid2.N, win2_6.index t = ![0, 0] := by decide +kernel
theorem val2_6 (c : Dev nD) (t : Fin (cfg2 (F := F)).N) : (blk2_6 V c t : FVec F S8x64 .f32) = (V c main_v4 : FVec F S8x64 .f32) := by
  funext j
  unfold blk2_6
  show (V c main_v4 : FVec F S8x64 .f32) _ = (V c main_v4 : FVec F S8x64 .f32) j
  congr 1
  funext a
  refine Fin.ext ?_
  blk_simp
  fin_cases a
  · show win2_6.index t 0 * 8 + _ = _
    rw [at2_6]; exact Nat.zero_add _
  · show win2_6.index t 1 * 64 + _ = _
    rw [at2_6]; exact Nat.zero_add _

theorem at2_7 : ∀ t : Fin grid2.N, win2_7.index t = ![0, 0] := by decide +kernel
theorem val2_7 (c : Dev nD) (t : Fin (cfg2 (F := F)).N) : (blk2_7 V c t : FVec F S128x64 .f32) = (V c main_arg5 : FVec F S128x64 .f32) := by
  funext j
  unfold blk2_7
  show (V c main_arg5 : FVec F S128x64 .f32) _ = (V c main_arg5 : FVec F S128x64 .f32) j
  congr 1
  funext a
  refine Fin.ext ?_
  blk_simp
  fin_cases a
  · show win2_7.index t 0 * 128 + _ = _
    rw [at2_7]; exact Nat.zero_add _
  · show win2_7.index t 1 * 64 + _ = _
    rw [at2_7]; exact Nat.zero_add _

theorem at2_8 : ∀ t : Fin grid2.N, win2_8.index t = ![0, 0] := by decide +kernel
theorem val2_8 (c : Dev nD) (t : Fin (cfg2 (F := F)).N) : (blk2_8 V c t : FVec F S8x128 .f32) = (V c main_v6 : FVec F S8x128 .f32) := by
  funext j
  unfold blk2_8
  show (V c main_v6 : FVec F S8x128 .f32) _ = (V c main_v6 : FVec F S8x128 .f32) j
  congr 1
  funext a
  refine Fin.ext ?_
  blk_simp
  fin_cases a
  · show win2_8.index t 0 * 8 + _ = _
    rw [at2_8]; exact Nat.zero_add _
  · show win2_8.index t 1 * 128 + _ = _
    rw [at2_8]; exact Nat.zero_add _

theorem at3_0 : ∀ t : Fin grid3.N, win3_0.index t = ![t.val, 0] := by decide +kernel
theorem val3_0 (c : Dev nD) (t : Fin (cfg3 (F := F)).N) (r : Fin 1536) (k : Fin 128) :
    (blk3_0 V c t : FVec F S1536x128 .f32) (ix2 r k) = (V c main_v7 : FVec F S10752x128 .f32) (ix2 (seg t.val r) k) := by
  have ht : t.val < 7 := t.isLt.trans_eq N_3
  unfold blk3_0
  show (V c main_v7 : FVec F S10752x128 .f32) _ = (V c main_v7 : FVec F S10752x128 .f32) _
  congr 1
  funext a
  refine Fin.ext ?_
  blk_simp
  fin_cases a
  · show win3_0.index t 0 * 1536 + r.val = (seg t.val r).val
    rw [at3_0, seg_val _ ht]; rfl
  · show win3_0.index t 1 * 128 + k.val = k.val
    rw [at3_0]; exact Nat.zero_add _

theorem at3_1 : ∀ t : Fin grid3.N, win3_1.index t = ![t.val, 0] := by decide +kernel
theorem val3_1 (c : Dev nD) (t : Fin (cfg3 (F := F)).N) (r : Fin 1536) (k : Fin 1) :
    (blk3_1 V c t : FVec F S1536x1 .f32) (ix2 r k) = (V c main_v2 : FVec F S10752x1 .f32) (ix2 (seg t.val r) k) := by
  have ht : t.val < 7 := t.isLt.trans_eq N_3
  unfold blk3_1
  show (V c main_v2 : FVec F S10752x1 .f32) _ = (V c main_v2 : FVec F S10752x1 .f32) _
  congr 1
  funext a
  refine Fin.ext ?_
  blk_simp
  fin_cases a
  · show win3_1.index t 0 * 1536 + r.val = (seg t.val r).val
    rw [at3_1, seg_val _ ht]; rfl
  · show win3_1.index t 1 * 1 + k.val = k.val
    rw [at3_1]; exact Nat.zero_add _

theorem at3_2 : ∀ t : Fin grid3.N, win3_2.index t = ![0, 0] := by decide +kernel
theorem val3_2 (c : Dev nD) (t : Fin (cfg3 (F := F)).N) : (blk3_2 V c t : FVec F S256x129 .f32) = (V c main_arg7 : FVec F S256x129 .f32) := by
  funext j
  unfold blk3_2
  show (V c main_arg7 : FVec F S256x129 .f32) _ = (V c main_arg7 : FVec F S256x129 .f32) j
  congr 1
  funext a
  refine Fin.ext ?_
  blk_simp
  fin_cases a
  · show win3_2.index t 0 * 256 + _ = _
    rw [at3_2]; exact Nat.zero_add _
  · show win3_2.index t 1 * 129 + _ = _
    rw [at3_2]; exact Nat.zero_add _

theorem at3_3 : ∀ t : Fin grid3.N, win3_3.index t = ![0, 0] := by decide +kernel
theorem val3_3 (c : Dev nD) (t : Fin (cfg3 (F := F)).N) : (blk3_3 V c t : FVec F S8x256 .f32) = (V c main_v9 : FVec F S8x256 .f32) := by
  funext j
  unfold blk3_3
  show (V c main_v9 : FVec F S8x256 .f32) _ = (V c main_v9 : FVec F S8x256 .f32) j
  congr 1
  funext a
  refine Fin.ext ?_
  blk_simp
  fin_cases a
  · show win3_3.index t 0 * 8 + _ = _
    rw [at3_3]; exact Nat.zero_add _
  · show win3_3.index t 1 * 256 + _ = _
    rw [at3_3]; exact Nat.zero_add _

theorem at3_4 : ∀ t : Fin grid3.N, win3_4.index t = ![0, 0] := by decide +kernel
theorem val3_4 (c : Dev nD) (t : Fin (cfg3 (F := F)).N) : (blk3_4 V c t : FVec F S128x256 .f32) = (V c main_arg9 : FVec F S128x256 .f32) := by
  funext j
  unfold blk3_4
  show (V c main_arg9 : FVec F S128x256 .f32) _ = (V c main_arg9 : FVec F S128x256 .f32) j
  congr 1
  funext a
  refine Fin.ext ?_
  blk_simp
  fin_cases a
  · show win3_4.index t 0 * 128 + _ = _
    rw [at3_4]; exact Nat.zero_add _
  · show win3_4.index t 1 * 256 + _ = _
    rw [at3_4]; exact Nat.zero_add _

theorem at3_5 : ∀ t : Fin grid3.N, win3_5.index t = ![0, 0] := by decide +kernel
theorem val3_5 (c : Dev nD) (t : Fin (cfg3 (F := F)).N) : (blk3_5 V c t : FVec F S8x128 .f32) = (V c main_v11 : FVec F S8x128 .f32) := by
  funext j
  unfold blk3_5
  show (V c main_v11 : FVec F S8x128 .f32) _ = (V c main_v11 : FVec F S8x128 .f32) j
  congr 1
  funext a
  refine Fin.ext ?_
  blk_simp
  fin_cases a
  · show win3_5.index t 0 * 8 + _ = _
    rw [at3_5]; exact Nat.zero_add _
  · show win3_5.index t 1 * 128 + _ = _
    rw [at3_5]; exact Nat.zero_add _

theorem at3_6 : ∀ t : Fin grid3.N, win3_6.index t = ![0, 0] := by decide +kernel
theorem val3_6 (c : Dev nD) (t : Fin (cfg3 (F := F)).N) : (blk3_6 V c t : FVec F S40x128 .f32) = (V c main_arg11 : FVec F S40x128 .f32) := by
  funext j
  unfold blk3_6
  show (V c main_arg11 : FVec F S40x128 .f32) _ = (V c main_arg11 : FVec F S40x128 .f32) j
  congr 1
  funext a
  refine Fin.ext ?_
  blk_simp
  fin_cases a
  · show win3_6.index t 0 * 40 + _ = _
    rw [at3_6]; exact Nat.zero_add _
  · show win3_6.index t 1 * 128 + _ = _
    rw [at3_6]; exact Nat.zero_add _

theorem at3_7 : ∀ t : Fin grid3.N, win3_7.index t = ![0, 0] := by decide +kernel
theorem val3_7 (c : Dev nD) (t : Fin (cfg3 (F := F)).N) : (blk3_7 V c t : FVec F S8x40 .f32) = (V c main_v13 : FVec F S8x40 .f32) := by
  funext j
  unfold blk3_7
  show (V c main_v13 : FVec F S8x40 .f32) _ = (V c main_v13 : FVec F S8x40 .f32) j
  congr 1
  funext a
  refine Fin.ext ?_
  blk_simp
  fin_cases a
  · show win3_7.index t 0 * 8 + _ = _
    rw [at3_7]; exact Nat.zero_add _
  · show win3_7.index t 1 * 40 + _ = _
    rw [at3_7]; exact Nat.zero_add _

end Cert.Proof.KI

end
-- ==== Proof.Spec.lean ====
/-
  What the program computes, in plain formulas over the extended reals: segment counts and centres, the radius of each
  segment, the two layers on every point, the maximum over each segment, and the head's three layers.
-/
module

public import Idealize.ShloMosaic.PureOps.Ideal

@[expose] public section

noncomputable section

namespace Cert.Proof

open Idealize.ShloMosaic

/-- The inputs: positions, features, the segment of each point, and the five layers' weights and biases. -/
structure Inp where
  pos : Fin 320000 → Fin 3 → EReal
  x : Fin 320000 → Fin 16 → EReal
  I : Fin 320000 → ℕ
  w1 : Fin 64 → Fin 19 → EReal
  b1 : Fin 64 → EReal
  w2 : Fin 128 → Fin 64 → EReal
  b2 : Fin 128 → EReal
  v1 : Fin 256 → Fin 129 → EReal
  c1 : Fin 256 → EReal
  v2 : Fin 128 → Fin 256 → EReal
  c2 : Fin 128 → EReal
  wh : Fin 40 → Fin 128 → EReal
  bh : Fin 40 → EReal

/-- The small positive number that guards the square root and the division by the radius. -/
abbrev tiny : EReal := Ideal.ofBits .f32 0x2B8CBCCC#32

namespace Inp

variable (D : Inp)

/-- How many points segment `s` has. -/
def cnt (s : ℕ) : EReal := ∑ p, if D.I p = s then 1 else 0

/-- The sum of the positions in segment `s`. -/
def sm (s : ℕ) (k : Fin 3) : EReal := ∑ p, if D.I p = s then D.pos p k else 0

/-- The centre of segment `s`. -/
def cen (s : ℕ) (k : Fin 3) : EReal := Ideal.div (D.sm s k) (max (D.cnt s) 1)

/-- A point's position relative to its segment's centre. -/
def rel (p : Fin 320000) (k : Fin 3) : EReal := D.pos p k - D.cen (D.I p) k

/-- A point's distance from its segment's centre. -/
def dist (p : Fin 320000) : EReal := Ideal.sqrt ((∑ k, D.rel p k * D.rel p k) + tiny)

/-- The radius of segment `s`: the largest distance, `−∞` for an empty segment. -/
def rad (s : ℕ) : EReal := ⨆ p, ⨆ (_ : D.I p = s), D.dist p

/-- The radius, kept away from zero. -/
def scale (s : ℕ) : EReal := max (D.rad s) tiny

/-- A point's input row: its features, then its relative position over its segment's radius. -/
def xin (p : Fin 320000) (j : Fin 19) : EReal :=
  if h : j.val < 16 then D.x p ⟨j.val, h⟩ else Ideal.div (D.rel p ⟨j.val - 16, by omega⟩) (D.scale (D.I p))

/-- The point's first layer. -/
def h1 (p : Fin 320000) (j : Fin 64) : EReal := max ((∑ k, D.xin p k * D.w1 j k) + D.b1 j) 0

/-- The point's second layer. -/
def h2 (p : Fin 320000) (j : Fin 128) : EReal := max ((∑ k, D.h1 p k * D.w2 j k) + D.b2 j) 0

/-- The maximum of the second layer over segment `s`, `−∞` for an empty segment. -/
def xg (s : ℕ) (j : Fin 128) : EReal := ⨆ p, ⨆ (_ : D.I p = s), D.h2 p j

end Inp

/-- A value kept where its magnitude is finite, zero elsewhere. -/
def fin0 (a : EReal) : EReal :=
  if max a (-a) < Ideal.ofBits .f32 0x7F800000#32 then a else 0

namespace Inp

variable (D : Inp)

/-- A segment's input row to the head: the maxima, then twice the radius. -/
def g0 (s : ℕ) (j : Fin 129) : EReal :=
  if h : j.val < 128 then fin0 (D.xg s ⟨j.val, h⟩) else Ideal.ofBits .f32 0x40000000#32 * D.scale s

/-- The head's first layer. -/
def g1 (s : ℕ) (j : Fin 256) : EReal := max ((∑ k, D.g0 s k * D.v1 j k) + D.c1 j) 0

/-- The head's second layer. -/
def g2 (s : ℕ) (j : Fin 128) : EReal := max ((∑ k, D.g1 s k * D.v2 j k) + D.c2 j) 0

/-- The result for segment `s`. -/
def out (s : ℕ) (o : Fin 40) : EReal := (∑ k, D.g2 s k * D.wh o k) + D.bh o

/-- The statistics of segment `s`: the centre, then the count. -/
def stat (s : ℕ) (k : Fin 4) : EReal := if h : k.val < 3 then D.cen s ⟨k.val, h⟩ else D.cnt s

end Inp

end Cert.Proof

end
-- ==== Proof.Glue.lean ====
/-
  The inputs as plain functions, and the host operations between the regions: they spread each bias over eight rows and leave every other buffer as it was.
-/
module

public import proofs.«01_k».proof.Proof.BlockVals
public import proofs.«01_k».proof.Proof.Spec

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.Sem

/-- The inputs from the arguments' arrays and the points' segments. -/
def inpOf (a0 : FVec Ideal S320000x3 .f32) (a1 : FVec Ideal S320000x16 .f32) (I : Fin 320000 → ℕ) (a3 : FVec Ideal S64x19 .f32) (a4 : FVec Ideal S64 .f32)
    (a5 : FVec Ideal S128x64 .f32) (a6 : FVec Ideal S128 .f32) (a7 : FVec Ideal S256x129 .f32) (a8 : FVec Ideal S256 .f32) (a9 : FVec Ideal S128x256 .f32)
    (a10 : FVec Ideal S128 .f32) (a11 : FVec Ideal S40x128 .f32) (a12 : FVec Ideal S40 .f32) : Inp where
  pos p k := a0 (ix2 p k)
  x p k := a1 (ix2 p k)
  I := I
  w1 j k := a3 (ix2 j k)
  b1 j := a4 (ix1 j)
  w2 j k := a5 (ix2 j k)
  b2 j := a6 (ix1 j)
  v1 j k := a7 (ix2 j k)
  c1 j := a8 (ix1 j)
  v2 j k := a9 (ix2 j k)
  c2 j := a10 (ix1 j)
  wh j k := a11 (ix2 j k)
  bh j := a12 (ix1 j)

variable (m : (ℓ : Loc nD τ sig) → Buf (Elt Ideal) ℓ) (c : Dev nD) (I : Fin 320000 → ℕ)

/-- The inputs a core is launched with. -/
def inp : Inp := inpOf (m ((c : Thread nD τ).loc main_arg0)) (m ((c : Thread nD τ).loc main_arg1)) I (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11)) (m ((c : Thread nD τ).loc main_arg12))

theorem V1_arg (r : Ref sig .tc) (h : r ∉ hostOps0_W) : V1 m c r = m ((c : Thread nD τ).loc r) := (V1_of m c r h).trans rfl

theorem W2_of (r : Ref sig .tc) (h : r ∉ ([main_v1] : List (Ref sig .tc))) : W2 m c r = V1 m c r := by
  rw [← V2_eq]; exact V2_of m (outs m) c r h
theorem W3_of (r : Ref sig .tc) (h : r ∉ ([main_v2] : List (Ref sig .tc))) : W3 m c r = W2 m c r := by
  rw [← V3_eq, ← V2_eq]; exact V3_of m (outs m) c r h
theorem W4_of (r : Ref sig .tc) (h : r ∉ hostOps2_W) : W4 m c r = W3 m c r := by
  rw [← V4_eq, ← V3_eq]; exact V4_of m (outs m) c r h
theorem W5_of (r : Ref sig .tc) (h : r ∉ ([main_v7] : List (Ref sig .tc))) : W5 m c r = W4 m c r := by
  rw [← V5_eq, ← V4_eq]; exact V5_of m (outs m) c r h
theorem W6_of (r : Ref sig .tc) (h : r ∉ hostOps3_W) : W6 m c r = W5 m c r := by
  rw [← V6_eq, ← V5_eq]; exact V6_of m (outs m) c r h

theorem W2_v1 : W2 m c main_v1 = wrote2 m c := by unfold W2; rw [Function.update_self]
theorem W3_v2 : W3 m c main_v2 = wrote3 m c := by unfold W3; rw [Function.update_self]
theorem W5_v7 : W5 m c main_v7 = wrote5 m c := by unfold W5; rw [Function.update_self]
theorem W7_v14 : W7 m c main_v14 = wrote7 m c := by unfold W7; rw [Function.update_self]
theorem W2_arg0 : W2 m c main_arg0 = m ((c : Thread nD τ).loc main_arg0) := (W2_of m c main_arg0 (by decide)).trans (V1_arg m c main_arg0 (by decide))
theorem W4_arg0 : W4 m c main_arg0 = m ((c : Thread nD τ).loc main_arg0) := (W4_of m c main_arg0 (by decide)).trans <| (W3_of m c main_arg0 (by decide)).trans <| (W2_of m c main_arg0 (by decide)).trans (V1_arg m c main_arg0 (by decide))
theorem W4_arg1 : W4 m c main_arg1 = m ((c : Thread nD τ).loc main_arg1) := (W4_of m c main_arg1 (by decide)).trans <| (W3_of m c main_arg1 (by decide)).trans <| (W2_of m c main_arg1 (by decide)).trans (V1_arg m c main_arg1 (by decide))
theorem W4_arg2 : W4 m c main_arg2 = m ((c : Thread nD τ).loc main_arg2) := (W4_of m c main_arg2 (by decide)).trans <| (W3_of m c main_arg2 (by decide)).trans <| (W2_of m c main_arg2 (by decide)).trans (V1_arg m c main_arg2 (by decide))
theorem W4_arg3 : W4 m c main_arg3 = m ((c : Thread nD τ).loc main_arg3) := (W4_of m c main_arg3 (by decide)).trans <| (W3_of m c main_arg3 (by decide)).trans <| (W2_of m c main_arg3 (by decide)).trans (V1_arg m c main_arg3 (by decide))
theorem W4_arg4 : W4 m c main_arg4 = m ((c : Thread nD τ).loc main_arg4) := (W4_of m c main_arg4 (by decide)).trans <| (W3_of m c main_arg4 (by decide)).trans <| (W2_of m c main_arg4 (by decide)).trans (V1_arg m c main_arg4 (by decide))
theorem W4_arg5 : W4 m c main_arg5 = m ((c : Thread nD τ).loc main_arg5) := (W4_of m c main_arg5 (by decide)).trans <| (W3_of m c main_arg5 (by decide)).trans <| (W2_of m c main_arg5 (by decide)).trans (V1_arg m c main_arg5 (by decide))
theorem W4_arg6 : W4 m c main_arg6 = m ((c : Thread nD τ).loc main_arg6) := (W4_of m c main_arg6 (by decide)).trans <| (W3_of m c main_arg6 (by decide)).trans <| (W2_of m c main_arg6 (by decide)).trans (V1_arg m c main_arg6 (by decide))
theorem W4_arg7 : W4 m c main_arg7 = m ((c : Thread nD τ).loc main_arg7) := (W4_of m c main_arg7 (by decide)).trans <| (W3_of m c main_arg7 (by decide)).trans <| (W2_of m c main_arg7 (by decide)).trans (V1_arg m c main_arg7 (by decide))
theorem W4_arg8 : W4 m c main_arg8 = m ((c : Thread nD τ).loc main_arg8) := (W4_of m c main_arg8 (by decide)).trans <| (W3_of m c main_arg8 (by decide)).trans <| (W2_of m c main_arg8 (by decide)).trans (V1_arg m c main_arg8 (by decide))
theorem W4_arg9 : W4 m c main_arg9 = m ((c : Thread nD τ).loc main_arg9) := (W4_of m c main_arg9 (by decide)).trans <| (W3_of m c main_arg9 (by decide)).trans <| (W2_of m c main_arg9 (by decide)).trans (V1_arg m c main_arg9 (by decide))
theorem W4_arg10 : W4 m c main_arg10 = m ((c : Thread nD τ).loc main_arg10) := (W4_of m c main_arg10 (by decide)).trans <| (W3_of m c main_arg10 (by decide)).trans <| (W2_of m c main_arg10 (by decide)).trans (V1_arg m c main_arg10 (by decide))
theorem W4_arg11 : W4 m c main_arg11 = m ((c : Thread nD τ).loc main_arg11) := (W4_of m c main_arg11 (by decide)).trans <| (W3_of m c main_arg11 (by decide)).trans <| (W2_of m c main_arg11 (by decide)).trans (V1_arg m c main_arg11 (by decide))
theorem W4_arg12 : W4 m c main_arg12 = m ((c : Thread nD τ).loc main_arg12) := (W4_of m c main_arg12 (by decide)).trans <| (W3_of m c main_arg12 (by decide)).trans <| (W2_of m c main_arg12 (by decide)).trans (V1_arg m c main_arg12 (by decide))
theorem W6_arg7 : W6 m c main_arg7 = m ((c : Thread nD τ).loc main_arg7) := (W6_of m c main_arg7 (by decide)).trans <| (W5_of m c main_arg7 (by decide)).trans (W4_arg7 m c)
theorem W6_arg8 : W6 m c main_arg8 = m ((c : Thread nD τ).loc main_arg8) := (W6_of m c main_arg8 (by decide)).trans <| (W5_of m c main_arg8 (by decide)).trans (W4_arg8 m c)
theorem W6_arg9 : W6 m c main_arg9 = m ((c : Thread nD τ).loc main_arg9) := (W6_of m c main_arg9 (by decide)).trans <| (W5_of m c main_arg9 (by decide)).trans (W4_arg9 m c)
theorem W6_arg10 : W6 m c main_arg10 = m ((c : Thread nD τ).loc main_arg10) := (W6_of m c main_arg10 (by decide)).trans <| (W5_of m c main_arg10 (by decide)).trans (W4_arg10 m c)
theorem W6_arg11 : W6 m c main_arg11 = m ((c : Thread nD τ).loc main_arg11) := (W6_of m c main_arg11 (by decide)).trans <| (W5_of m c main_arg11 (by decide)).trans (W4_arg11 m c)
theorem W6_arg12 : W6 m c main_arg12 = m ((c : Thread nD τ).loc main_arg12) := (W6_of m c main_arg12 (by decide)).trans <| (W5_of m c main_arg12 (by decide)).trans (W4_arg12 m c)

theorem W4_v4 (j : Fin 64) : (W4 m c main_v4 : FVec Ideal S8x64 .f32) (ix2 0 j) = (m ((c : Thread nD τ).loc main_arg4) : FVec Ideal S64 .f32) (ix1 j) := by
  have e : (W4 m c main_v4 : FVec Ideal S8x64 .f32) = broadcastInDim S8x64 ![0, 1] bcast_S1x64_S8x64_0_1 (shapeCast S1x64 (W3 m c main_arg4 : FVec Ideal S64 .f32) shapeCasts_S64_S1x64) := by
    show StableHlo.after hostOps2 (W3 m c) main_v4 = _
    after_results_simp
    rfl
  rw [e, ((W3_of m c main_arg4 (by decide)).trans <| (W2_of m c main_arg4 (by decide)).trans (V1_arg m c main_arg4 (by decide)))]
  pointwise

theorem W4_v6 (j : Fin 128) : (W4 m c main_v6 : FVec Ideal S8x128 .f32) (ix2 0 j) = (m ((c : Thread nD τ).loc main_arg6) : FVec Ideal S128 .f32) (ix1 j) := by
  have e : (W4 m c main_v6 : FVec Ideal S8x128 .f32) = broadcastInDim S8x128 ![0, 1] bcast_S1x128_S8x128_0_1 (shapeCast S1x128 (W3 m c main_arg6 : FVec Ideal S128 .f32) shapeCasts_S128_S1x128) := by
    show StableHlo.after hostOps2 (W3 m c) main_v6 = _
    after_results_simp
    rfl
  rw [e, ((W3_of m c main_arg6 (by decide)).trans <| (W2_of m c main_arg6 (by decide)).trans (V1_arg m c main_arg6 (by decide)))]
  pointwise

theorem W6_v9 (j : Fin 256) : (W6 m c main_v9 : FVec Ideal S8x256 .f32) (ix2 0 j) = (m ((c : Thread nD τ).loc main_arg8) : FVec Ideal S256 .f32) (ix1 j) := by
  have e : (W6 m c main_v9 : FVec Ideal S8x256 .f32) = broadcastInDim S8x256 ![0, 1] bcast_S1x256_S8x256_0_1 (shapeCast S1x256 (W5 m c main_arg8 : FVec Ideal S256 .f32) shapeCasts_S256_S1x256) := by
    show StableHlo.after hostOps3 (W5 m c) main_v9 = _
    after_results_simp
    rfl
  rw [e, ((W5_of m c main_arg8 (by decide)).trans (W4_arg8 m c))]
  pointwise

theorem W6_v11 (j : Fin 128) : (W6 m c main_v11 : FVec Ideal S8x128 .f32) (ix2 0 j) = (m ((c : Thread nD τ).loc main_arg10) : FVec Ideal S128 .f32) (ix1 j) := by
  have e : (W6 m c main_v11 : FVec Ideal S8x128 .f32) = broadcastInDim S8x128 ![0, 1] bcast_S1x128_S8x128_0_1 (shapeCast S1x128 (W5 m c main_arg10 : FVec Ideal S128 .f32) shapeCasts_S128_S1x128) := by
    show StableHlo.after hostOps3 (W5 m c) main_v11 = _
    after_results_simp
    rfl
  rw [e, ((W5_of m c main_arg10 (by decide)).trans (W4_arg10 m c))]
  pointwise

theorem W6_v13 (j : Fin 40) : (W6 m c main_v13 : FVec Ideal S8x40 .f32) (ix2 0 j) = (m ((c : Thread nD τ).loc main_arg12) : FVec Ideal S40 .f32) (ix1 j) := by
  have e : (W6 m c main_v13 : FVec Ideal S8x40 .f32) = broadcastInDim S8x40 ![0, 1] bcast_S1x40_S8x40_0_1 (shapeCast S1x40 (W5 m c main_arg12 : FVec Ideal S40 .f32) shapeCasts_S40_S1x40) := by
    show StableHlo.after hostOps3 (W5 m c) main_v13 = _
    after_results_simp
    rfl
  rw [e, ((W5_of m c main_arg12 (by decide)).trans (W4_arg12 m c))]
  pointwise

end Cert.Proof.KI

end
-- ==== Proof.Pick.lean ====
/-
  Sums against a column of zeros and a one: what a one-hot matrix picks out, over the extended reals.
-/
module

public import Mathlib.Data.EReal.Operations
public import Mathlib.Algebra.BigOperators.Group.Finset.Basic
public import Mathlib.Algebra.BigOperators.Fin

@[expose] public section

namespace Cert.Proof

open scoped BigOperators

/-- A sum of products with an indicator is the sum of the terms it marks. -/
theorem sum_ind {ι : Type} [Fintype ι] (p : ι → Prop) [DecidablePred p] (f : ι → EReal) :
    ∑ r, (if p r then (1 : EReal) else 0) * f r = ∑ r, if p r then f r else 0 :=
  Finset.sum_congr rfl fun r _ => by split <;> simp

/-- A one-hot row over a window of 128 ids picks the entry of the id, or nothing where the id is outside. -/
theorem pick_window (n T : ℕ) (f : Fin 128 → EReal) :
    ∑ j : Fin 128, (if n = T + j.val then (1 : EReal) else 0) * f j
      = if h : T ≤ n ∧ n < T + 128 then f ⟨n - T, by omega⟩ else 0 := by
  rw [sum_ind]
  by_cases h : T ≤ n ∧ n < T + 128
  · rw [dif_pos h, Finset.sum_eq_single ⟨n - T, by omega⟩]
    · rw [if_pos]; show n = T + (n - T); omega
    · intro j _ hj
      rw [if_neg]
      intro h2
      apply hj
      apply Fin.ext
      show j.val = n - T
      omega
    · intro h2; exact absurd (Finset.mem_univ _) h2
  · rw [dif_neg h]
    refine Finset.sum_eq_zero fun j _ => ?_
    rw [if_neg]
    have := j.isLt
    omega

/-- An indicator of one row picks that row. -/
theorem pick_one {ι : Type} [Fintype ι] (p : ι → Prop) [DecidablePred p] (f : ι → EReal) (r : ι) (hr : p r) (hu : ∀ r', p r' → r' = r) :
    ∑ r, (if p r then (1 : EReal) else 0) * f r = f r := by
  rw [sum_ind, Finset.sum_eq_single r]
  · rw [if_pos hr]
  · intro b _ hb; rw [if_neg]; exact fun h => hb (hu b h)
  · intro h2; exact absurd (Finset.mem_univ _) h2

/-- An indicator of no row picks nothing. -/
theorem pick_none {ι : Type} [Fintype ι] (p : ι → Prop) [DecidablePred p] (f : ι → EReal) (hu : ∀ r, ¬ p r) :
    ∑ r, (if p r then (1 : EReal) else 0) * f r = 0 := by
  rw [sum_ind]
  exact Finset.sum_eq_zero fun r _ => if_neg (hu r)

end Cert.Proof

end
-- ==== Proof.Hot.lean ====
/-
  Entries of the kernels' one-hot matrices, and the windows of a table's rows, at an index.
-/
module

public import proofs.«01_k».proof.Proof.Common
public import proofs.«01_k».proof.Proof.Pick
public import Idealize.ShloMosaic.Lib.Pointwise

@[expose] public section

set_option maxRecDepth 16384

noncomputable section

namespace Cert.Proof.KI

open Cert.KernelIdeal Cert.KernelIdeal.Gen
open Idealize.ShloMosaic

theorem rowIdx_ix2 (r : Fin 3200) : rowIdx r = ix2 r 0 := by
  funext a; fin_cases a <;> rfl

theorem ids_ix2 {v4 : IVec S3200x1 32} {I : Fin 3200 → ℕ} (h : Ids v4 I) (r : Fin 3200) : v4 (ix2 r 0) = BitVec.ofNat 32 (I r) := by
  rw [← rowIdx_ix2]; exact h.eq r

theorem ofNat_inj (n m : ℕ) (hn : n < 2 ^ 32) (hm : m < 2 ^ 32) : BitVec.ofNat 32 n = BitVec.ofNat 32 m ↔ n = m := by
  constructor
  · intro h
    have := congrArg BitVec.toNat h
    rw [BitVec.toNat_ofNat, BitVec.toNat_ofNat, Nat.mod_eq_of_lt hn, Nat.mod_eq_of_lt hm] at this
    exact this
  · rintro rfl; rfl

theorem cmpi_eq_one (a b : BitVec 32) : IntOp.cmpi .eq a b = if a = b then 1#1 else 0#1 := by
  show BitVec.ofBool (a == b) = _
  by_cases h : a = b
  · subst h; rw [if_pos rfl, beq_self_eq_true]; rfl
  · rw [if_neg h, beq_false_of_ne h]; rfl

theorem cmpi_ne_one (a b : BitVec 32) : IntOp.cmpi .ne a b = if a = b then 0#1 else 1#1 := by
  show BitVec.ofBool (!(a == b)) = _
  by_cases h : a = b
  · subst h; rw [if_pos rfl, beq_self_eq_true]; rfl
  · rw [if_neg h, beq_false_of_ne h]; rfl

/-- The comparison of an id with a column of a window. -/
theorem hot_bit (n a j : ℕ) (hn : n < 10000) (ha : a < 10000) (hj : j < 128) :
    IntOp.cmpi .eq (BitVec.ofNat 32 n) (IntOp.addi (winBase (BitVec.ofNat 32 a)) (BitVec.ofNat 32 j)) = if n = a / 8 * 8 + j then 1#1 else 0#1 := by
  rw [winBase_eq a ha]
  have : IntOp.addi (BitVec.ofNat 32 (a / 8 * 8)) (BitVec.ofNat 32 j) = BitVec.ofNat 32 (a / 8 * 8 + j) := by
    show BitVec.ofNat 32 (a / 8 * 8) + BitVec.ofNat 32 j = _
    rw [← BitVec.ofNat_add]
  rw [this, cmpi_eq_one]
  simp only [ofNat_inj n (a / 8 * 8 + j) (by omega) (by omega)]

/-- The one-hot entry, as a number. -/
theorem hot_entry (n a j : ℕ) (hn : n < 10000) (ha : a < 10000) (hj : j < 128) :
    FloatOps.sitofp (F := Ideal) .f32 (BitVec.setWidth 32 (IntOp.cmpi .eq (BitVec.ofNat 32 n) (IntOp.addi (winBase (BitVec.ofNat 32 a)) (BitVec.ofNat 32 j))))
      = if n = a / 8 * 8 + j then (1 : EReal) else 0 := by
  rw [hot_bit n a j hn ha hj]
  split
  · show (((1#32 : BitVec 32).toInt : ℝ) : EReal) = 1
    norm_num
  · show (((0#32 : BitVec 32).toInt : ℝ) : EReal) = 0
    norm_num

section Window

variable {α : Type} {C : ℕ}

/-- A window of 128 rows of a table, at an entry. -/
theorem window_row (X : (⟨2, ![10752, C]⟩ : Shape).Idx → α) (T : ℕ) (off : Fin 2 → ℕ) (hoff : off = ![T, 0])
    (inb : ∀ a, off a + (![128, C] : Fin 2 → ℕ) a ≤ (![10752, C] : Fin 2 → ℕ) a) (j : Fin 128) (k : Fin C) (hT : T + 128 ≤ 10752) :
    VecWindow.window X off ![128, C] inb (ix2 j k) = X (ix2 ⟨T + j.val, by omega⟩ k) := by
  subst hoff
  show X _ = X _
  congr 1
  funext a
  apply Fin.ext
  fin_cases a
  · show T + 1 * j.val = T + j.val; omega
  · show 0 + 1 * k.val = k.val; omega

/-- A table with a window of 128 rows put, at an entry. -/
theorem put_row (X : (⟨2, ![10752, C]⟩ : Shape).Idx → α) (T : ℕ) (off : Fin 2 → ℕ) (hoff : off = ![T, 0])
    (w : (⟨2, ![128, C]⟩ : Shape).Idx → α) (s : Fin 10752) (k : Fin C) :
    VecWindow.put X off ![128, C] w (ix2 s k)
      = if h : T ≤ s.val ∧ s.val < T + 128 then w (ix2 ⟨s.val - T, by omega⟩ k) else X (ix2 s k) := by
  subst hoff
  unfold VecWindow.put
  by_cases h : T ≤ s.val ∧ s.val < T + 128
  · rw [dif_pos h, dif_pos]
    · congr 1
      funext a
      apply Fin.ext
      fin_cases a
      · rfl
      · show k.val - 0 = k.val; omega
    · intro a
      fin_cases a
      · exact h
      · exact ⟨Nat.zero_le _, by show k.val < 0 + C; omega⟩
  · rw [dif_neg h, dif_neg]
    intro h2
    exact h (h2 0)

end Window

/-- The offsets of the windows. -/
theorem off_eq (a : ℕ) (ha : a < 10000) : (![(winBase (BitVec.ofNat 32 a)).toNat, 0] : Fin 2 → ℕ) = ![a / 8 * 8, 0] := by
  rw [winBase_toNat a ha]

end Cert.Proof.KI

end
-- ==== Proof.StepMax.lean ====
/-
  The loops on the running maxima: one step at an entry, and the whole loop, which takes into every segment's row the
  row of the block that leads the segment there. A maximum is described by the bounds above it.
-/
module

public import proofs.«01_k».proof.Proof.Loop1
public import proofs.«01_k».proof.Proof.Loop2
public import proofs.«01_k».proof.Proof.Hot

@[expose] public section

set_option maxRecDepth 16384

noncomputable section

namespace Cert.Proof.KI

open Cert.KernelIdeal Cert.KernelIdeal.Gen
open Idealize.ShloMosaic

/-- A loop whose step takes into the rows of its window the marked rows of the block with the row's id takes into every
    row the marked rows with its id. -/
theorem max_loop {C : ℕ} {v4 : IVec S3200x1 32} {I : Fin 3200 → ℕ} (h : Ids v4 I) (mk : Fin 3200 → Prop)
    (step : BitVec 32 → ((⟨2, ![10752, C]⟩ : Shape).Idx → EReal) → (⟨2, ![10752, C]⟩ : Shape).Idx → EReal) (d : Fin 3200 → Fin C → EReal)
    (hstep : ∀ a, a < 10000 → ∀ X s k b, step (BitVec.ofNat 32 a) X (ix2 s k) ≤ b
      ↔ X (ix2 s k) ≤ b ∧ (a / 8 * 8 ≤ s.val ∧ s.val < a / 8 * 8 + 128 → ∀ r, I r = s.val → mk r → d r k ≤ b))
    (X : (⟨2, ![10752, C]⟩ : Shape).Idx → EReal) (s : Fin 10752) (k : Fin C) (b : EReal) :
    loopAll v4 step X (ix2 s k) ≤ b ↔ X (ix2 s k) ≤ b ∧ ∀ r, I r = s.val → mk r → d r k ≤ b := by
  have := loopAll_ind h step
    (fun T Y => ∀ (s : Fin 10752) (k : Fin C) (b : EReal), Y (ix2 s k) ≤ b ↔ X (ix2 s k) ≤ b ∧ (s.val < T → ∀ r, I r = s.val → mk r → d r k ≤ b))
    (fun a ha Y hY s k b => ?_) (fun T T' Y hT hI hY s k b => ?_) X (fun s k b => ⟨fun h => ⟨h, fun h2 => absurd h2 (by omega)⟩, fun h => h.1⟩) s k b
  · rw [this]
    exact ⟨fun h => ⟨h.1, h.2 (by have := s.isLt; omega)⟩, fun h => ⟨h.1, fun _ => h.2⟩⟩
  · rw [hstep a ha, hY]
    constructor
    · rintro ⟨⟨h1, h2⟩, h3⟩
      refine ⟨h1, fun h4 => ?_⟩
      by_cases h5 : s.val < a / 8 * 8
      · exact h2 h5
      · exact h3 ⟨by omega, h4⟩
    · rintro ⟨h1, h2⟩
      exact ⟨⟨h1, fun h3 => h2 (by omega)⟩, fun h3 => h2 h3.2⟩
  · rw [hY]
    constructor
    · rintro ⟨h1, h2⟩
      refine ⟨h1, fun h3 r hr => ?_⟩
      rcases hI r with h4 | h4
      · exact h2 (by omega) r hr
      · omega
    · rintro ⟨h1, h2⟩
      exact ⟨h1, fun h3 => h2 (by omega)⟩

/-- The entry of the one-hot matrix that marks a segment's leading row. -/
theorem lead_entry (n a j : ℕ) (p : Prop) [Decidable p] (hn : n < 10000) (ha : a < 10000) (hj : j < 128) :
    Scalar.select (IntOp.andi (IntOp.cmpi .eq (BitVec.ofNat 32 n) (IntOp.addi (winBase (BitVec.ofNat 32 a)) (BitVec.ofNat 32 j))) (if p then 1#1 else 0#1)) (1 : EReal) 0
      = if n = a / 8 * 8 + j ∧ p then (1 : EReal) else 0 := by
  rw [hot_bit n a j hn ha hj]
  by_cases h1 : n = a / 8 * 8 + j
  · by_cases h2 : p
    · rw [if_pos h1, if_pos h2, if_pos ⟨h1, h2⟩]; rfl
    · rw [if_pos h1, if_neg h2, if_neg (fun h => h2 h.2)]; rfl
  · by_cases h2 : p
    · rw [if_neg h1, if_pos h2, if_neg (fun h => h1 h.1)]; rfl
    · rw [if_neg h1, if_neg h2, if_neg (fun h => h1 h.1)]; rfl

theorem ofBits_neg_inf : Ideal.ofBits .f32 0xFF800000#32 = (⊥ : EReal) := by
  simp [Ideal.ofBits, Ideal.ieee]

/-- The update of an entry: the value of the one row marked, or minus infinity where none is. -/
theorem upd_le {ι : Type} [Fintype ι] (p : ι → Prop) [DecidablePred p] (hu : ∀ r r', p r → p r' → r = r') (f g : ι → EReal) (hg : ∀ r, g r = 1) (b : EReal) :
    Scalar.select (Ideal.cmp .ogt (∑ r, (if p r then (1 : EReal) else 0) * g r) 0) (∑ r, (if p r then (1 : EReal) else 0) * f r) (⊥ : EReal) ≤ b
      ↔ ∀ r, p r → f r ≤ b := by
  by_cases h : ∃ r, p r
  · obtain ⟨r, hr⟩ := h
    rw [pick_one p f r hr fun r' h' => hu r' r h' hr, pick_one p g r hr fun r' h' => hu r' r h' hr, hg]
    have : Ideal.cmp .ogt (1 : EReal) 0 = 1#1 := by simp [Ideal.cmp]
    rw [this]
    show f r ≤ b ↔ _
    exact ⟨fun h r' h' => by rw [hu r' r h' hr]; exact h, fun h => h r hr⟩
  · have h' : ∀ r, ¬ p r := fun r hr => h ⟨r, hr⟩
    rw [pick_none p f h', pick_none p g h']
    have : Ideal.cmp .ogt (0 : EReal) 0 = 0#1 := by simp [Ideal.cmp]
    rw [this]
    show (⊥ : EReal) ≤ b ↔ _
    exact ⟨fun _ r hr => absurd hr (h' r), fun _ => bot_le⟩

section Rad

variable {v4 : IVec S3200x1 32} {I : Fin 3200 → ℕ} (h : Ids v4 I) (v23 : IVec S3200x1 1) (mk : Fin 3200 → Prop) [DecidablePred mk]
  (hmk : ∀ r, v23 (ix2 r 0) = if mk r then 1#1 else 0#1) (hu : ∀ r r', I r = I r' → mk r → mk r' → r = r')

include h hmk hu

theorem k1_pay16_le (d : FVec Ideal S3200x2 .f32) (hd : ∀ r, d (ix2 r 1) = (1 : EReal)) (a : ℕ) (ha : a < 10000) (w : FVec Ideal S128x1 .f32)
    (j : Fin 128) (b : EReal) :
    (k1_pay16 v4 v23 d (BitVec.ofNat 32 a) w (ix2 j 0) : EReal) ≤ b
      ↔ (w (ix2 j 0) : EReal) ≤ b ∧ ∀ r, I r = a / 8 * 8 + j.val → mk r → (d (ix2 r 0) : EReal) ≤ b := by
  let hot : FVec Ideal S3200x128 .f32 := select (andi (cmpi .eq (broadcastTo S3200x128 v4 broadcasts_S3200x1_S3200x128) (broadcastTo S3200x128 (addi (broadcast S1x128 (winBase (BitVec.ofNat 32 a))) (iota .tc S1x128 32 [1] iota_S1x128_d1_w32)) broadcasts_S1x128_S3200x128)) (broadcastTo S3200x128 v23 broadcasts_S3200x1_S3200x128)) (broadcast S3200x128 (Scalar.ofBits .f32 0x3F800000#32)) (broadcast S3200x128 (Scalar.ofBits .f32 0x00000000#32))
  have hhot : ∀ r, hot (ix2 r j) = if I r = a / 8 * 8 + j.val ∧ mk r then (1 : EReal) else 0 := fun r => by
    unfold hot
    pointwise
    rw [ids_ix2 h, hmk]
    exact lead_entry _ _ _ _ (h.lt r) ha j.isLt
  have e : k1_pay16 v4 v23 d (BitVec.ofNat 32 a) w (ix2 j 0) = max (w (ix2 j 0))
      (Scalar.select (Ideal.cmp .ogt (∑ r, hot (ix2 r j) * d (ix2 r 1)) 0) (∑ r, hot (ix2 r j) * d (ix2 r 0)) (⊥ : EReal)) := by
    show (maximumf (shapeCast S128x1 w shapeCasts_S128x1_S128x1) (select (cmpf .ogt (extractStridedSlice S128x1 ![0, 1] (matmul dot_S3200x128_S3200x2_S128x2_0_0_1_1_n_n none hot d (constant S128x2 .f32 0x00000000#32)) slices_S128x2_o0_1_S128x1) (broadcast S128x1 (Scalar.ofBits .f32 0x00000000#32))) (extractStridedSlice S128x1 ![0, 0] (matmul dot_S3200x128_S3200x2_S128x2_0_0_1_1_n_n none hot d (constant S128x2 .f32 0x00000000#32)) slices_S128x2_o0_0_S128x1) (broadcast S128x1 (Scalar.ofBits .f32 0xFF800000#32)))) (ix2 j 0) = _
    generalize hot = hh
    rw [← ofBits_neg_inf]
    pointwise
  rw [e, max_le_iff]
  simp only [hhot]
  rw [upd_le (fun r => I r = a / 8 * 8 + j.val ∧ mk r) (fun r r' h1 h2 => hu r r' (h1.1.trans h2.1.symm) h1.2 h2.2) _ _ hd]
  exact and_congr_right fun _ => ⟨fun h r h1 h2 => h r ⟨h1, h2⟩, fun h r h1 => h r h1.1 h1.2⟩

/-- The running radii after a block: the leading rows taken in. -/
theorem loop6_le (d : FVec Ideal S3200x2 .f32) (hd : ∀ r, d (ix2 r 1) = (1 : EReal)) (X : FVec Ideal S10752x1 .f32) (s : Fin 10752) (b : EReal) :
    (loopAll v4 (step6 v4 v23 d) X (ix2 s 0) : EReal) ≤ b ↔ (X (ix2 s 0) : EReal) ≤ b ∧ ∀ r, I r = s.val → mk r → (d (ix2 r 0) : EReal) ≤ b := by
  refine max_loop (C := 1) h mk (step6 v4 v23 d) (fun r _ => d (ix2 r 0)) (fun a ha X s k b => ?_) X s 0 b
  obtain rfl : k = 0 := Fin.ext (by omega)
  unfold step6
  rw [dif_pos (chk1_2 a ha)]
  have e := put_row X (a / 8 * 8) _ (off_eq a ha) (k1_pay16 v4 v23 d (BitVec.ofNat 32 a) (VecWindow.window X (k1_off2 (BitVec.ofNat 32 a)) S128x1.size (k1_off2_inb _ (chk1_2 a ha)))) s 0
  refine (show _ ↔ _ from (iff_of_eq (congrArg (· ≤ b) e))).trans ?_
  by_cases hs : a / 8 * 8 ≤ s.val ∧ s.val < a / 8 * 8 + 128
  · rw [dif_pos hs, k1_pay16_le h v23 mk hmk hu d hd a ha]
    have e2 : (⟨a / 8 * 8 + (s.val - a / 8 * 8), by omega⟩ : Fin 10752) = s := Fin.ext (by show a / 8 * 8 + (s.val - a / 8 * 8) = s.val; omega)
    have e3 := window_row X (a / 8 * 8) _ (off_eq a ha) (k1_off2_inb _ (chk1_2 a ha)) ⟨s.val - a / 8 * 8, by omega⟩ 0 (by omega)
    rw [e2] at e3
    have e4 : a / 8 * 8 + (s.val - a / 8 * 8) = s.val := by omega
    refine and_congr (iff_of_eq (congrArg (· ≤ b) e3)) ?_
    rw [show (a / 8 * 8 + (⟨s.val - a / 8 * 8, by omega⟩ : Fin 128).val) = s.val from e4]
    exact ⟨fun h _ => h, fun h => h hs⟩
  · rw [dif_neg hs]
    exact ⟨fun h => ⟨h, fun h2 => absurd h2 hs⟩, fun h => h.1⟩

theorem k2_pay18_le (d : FVec Ideal S3200x129 .f32) (hd : ∀ r, d (ix2 r 128) = (1 : EReal)) (a : ℕ) (ha : a < 10000) (w : FVec Ideal S128x128 .f32)
    (j : Fin 128) (k : Fin 128) (b : EReal) :
    (k2_pay18 v4 v23 d (BitVec.ofNat 32 a) w (ix2 j k) : EReal) ≤ b
      ↔ (w (ix2 j k) : EReal) ≤ b ∧ ∀ r, I r = a / 8 * 8 + j.val → mk r → (d (ix2 r ⟨k.val, by omega⟩) : EReal) ≤ b := by
  let hot : FVec Ideal S3200x128 .f32 := select (andi (cmpi .eq (broadcastTo S3200x128 v4 broadcasts_S3200x1_S3200x128) (broadcastTo S3200x128 (addi (broadcast S1x128 (winBase (BitVec.ofNat 32 a))) (iota .tc S1x128 32 [1] iota_S1x128_d1_w32)) broadcasts_S1x128_S3200x128)) (broadcastTo S3200x128 v23 broadcasts_S3200x1_S3200x128)) (broadcast S3200x128 (Scalar.ofBits .f32 0x3F800000#32)) (broadcast S3200x128 (Scalar.ofBits .f32 0x00000000#32))
  have hhot : ∀ r, hot (ix2 r j) = if I r = a / 8 * 8 + j.val ∧ mk r then (1 : EReal) else 0 := fun r => by
    unfold hot
    pointwise
    rw [ids_ix2 h, hmk]
    exact lead_entry _ _ _ _ (h.lt r) ha j.isLt
  have e : k2_pay18 v4 v23 d (BitVec.ofNat 32 a) w (ix2 j k) = max (w (ix2 j k))
      (Scalar.select (Ideal.cmp .ogt (∑ r, hot (ix2 r j) * d (ix2 r 128)) 0) (∑ r, hot (ix2 r j) * d (ix2 r ⟨k.val, by omega⟩)) (⊥ : EReal)) := by
    show (maximumf (shapeCast S128x128 w shapeCasts_S128x128_S128x128) (select (broadcastTo S128x128 (shapeCast S128x1 (cmpf .ogt (extractStridedSlice S128x1 ![0, 128] (matmul dot_S3200x128_S3200x129_S128x129_0_0_1_1_n_n none hot d (constant S128x129 .f32 0x00000000#32)) slices_S128x129_o0_128_S128x1) (broadcast S128x1 (Scalar.ofBits .f32 0x00000000#32))) shapeCasts_S128x1_S128x1) broadcasts_S128x1_S128x128) (extractStridedSlice S128x128 ![0, 0] (matmul dot_S3200x128_S3200x129_S128x129_0_0_1_1_n_n none hot d (constant S128x129 .f32 0x00000000#32)) slices_S128x129_o0_0_S128x128) (broadcast S128x128 (Scalar.ofBits .f32 0xFF800000#32)))) (ix2 j k) = _
    generalize hot = hh
    rw [← ofBits_neg_inf]
    pointwise
  rw [e, max_le_iff]
  simp only [hhot]
  rw [upd_le (fun r => I r = a / 8 * 8 + j.val ∧ mk r) (fun r r' h1 h2 => hu r r' (h1.1.trans h2.1.symm) h1.2 h2.2) _ _ hd]
  exact and_congr_right fun _ => ⟨fun h r h1 h2 => h r ⟨h1, h2⟩, fun h r h1 => h r h1.1 h1.2⟩

/-- The running maxima of the features after a block: the leading rows taken in. -/
theorem loop8_le (d : FVec Ideal S3200x129 .f32) (hd : ∀ r, d (ix2 r 128) = (1 : EReal)) (X : FVec Ideal S10752x128 .f32) (s : Fin 10752) (k : Fin 128) (b : EReal) :
    (loopAll v4 (step8 v4 v23 d) X (ix2 s k) : EReal) ≤ b
      ↔ (X (ix2 s k) : EReal) ≤ b ∧ ∀ r, I r = s.val → mk r → (d (ix2 r ⟨k.val, by omega⟩) : EReal) ≤ b := by
  refine max_loop (C := 128) h mk (step8 v4 v23 d) (fun r k => d (ix2 r ⟨k.val, by omega⟩)) (fun a ha X s k b => ?_) X s k b
  unfold step8
  rw [dif_pos (chk2_2 a ha)]
  have e := put_row X (a / 8 * 8) _ (off_eq a ha) (k2_pay18 v4 v23 d (BitVec.ofNat 32 a) (VecWindow.window X (k2_off3 (BitVec.ofNat 32 a)) S128x128.size (k2_off3_inb _ (chk2_2 a ha)))) s k
  refine (show _ ↔ _ from (iff_of_eq (congrArg (· ≤ b) e))).trans ?_
  by_cases hs : a / 8 * 8 ≤ s.val ∧ s.val < a / 8 * 8 + 128
  · rw [dif_pos hs, k2_pay18_le h v23 mk hmk hu d hd a ha]
    have e2 : (⟨a / 8 * 8 + (s.val - a / 8 * 8), by omega⟩ : Fin 10752) = s := Fin.ext (by show a / 8 * 8 + (s.val - a / 8 * 8) = s.val; omega)
    have e3 := window_row X (a / 8 * 8) _ (off_eq a ha) (k2_off3_inb _ (chk2_2 a ha)) ⟨s.val - a / 8 * 8, by omega⟩ k (by omega)
    rw [e2] at e3
    have e4 : a / 8 * 8 + (s.val - a / 8 * 8) = s.val := by omega
    refine and_congr (iff_of_eq (congrArg (· ≤ b) e3)) ?_
    rw [show (a / 8 * 8 + (⟨s.val - a / 8 * 8, by omega⟩ : Fin 128).val) = s.val from e4]
    exact ⟨fun h _ => h, fun h => h hs⟩
  · rw [dif_neg hs]
    exact ⟨fun h => ⟨h, fun h2 => absurd h2 hs⟩, fun h => h.1⟩

end Rad

end Cert.Proof.KI

end
-- ==== Proof.RefSegs.lean ====
/-
  The reference's segment part at an index: counts, centres, distances, radii, and the points' input rows.
-/
module

public import proofs.«01_k».proof.Proof.RefRoute
public import proofs.«01_k».proof.Proof.Glue
public import proofs.«01_k».proof.Proof.Hot
public import proofs.«01_k».proof.Proof.StepMax

@[expose] public section

set_option maxRecDepth 16384

noncomputable section

namespace Cert.Proof.RI

open Cert.ReferenceIdeal
open Idealize.ShloMosaic

open Cert.ReferenceIdeal.Gen

/-! ## The arrays -/

/-- The ids as a column. -/
def colA (a2 : IVec S320000 32) : IVec S320000x1 32 := broadcastInDim S320000x1 ![0] bcast_S320000_S320000x1_0 a2

/-- The ids, a negative one moved up by the number of segments, as a column. -/
def wrapA (a2 : IVec S320000 32) : IVec S320000x1 32 :=
  broadcastInDim S320000x1 ![0] bcast_S320000_S320000x1_0
    (select (cmpi .slt a2 (broadcastInDim S320000 ![] bcast_S_S320000 (constantI S_ 32 0#32)))
      (addi a2 (broadcastInDim S320000 ![] bcast_S_S320000 (constantI S_ 32 10000#32))) a2)

/-- The counts. -/
def cntA (a2 : IVec S320000 32) : FVec Ideal S10000 .f32 :=
  Host.scatterAdd scatter_S10000_S320000x1_S320000_n_0_0_1 (broadcastInDim S10000 ![] bcast_S_S10000 (constant S_ .f32 0x00000000#32)) (colA a2)
    (broadcastInDim S320000 ![] bcast_S_S320000 (constant S_ .f32 0x3F800000#32))

/-- The sums of the positions. -/
def smA (a0 : FVec Ideal S320000x3 .f32) (a2 : IVec S320000 32) : FVec Ideal S10000x3 .f32 :=
  Host.scatterAdd scatter_S10000x3_S320000x1_S320000x3_1_0_0_1 (broadcastInDim S10000x3 ![] bcast_S_S10000x3 (constant S_ .f32 0x00000000#32)) (colA a2) a0

/-- The centres. -/
def cenA (a0 : FVec Ideal S320000x3 .f32) (a2 : IVec S320000 32) : FVec Ideal S10000x3 .f32 :=
  Host.divf (smA a0 a2) (broadcastInDim S10000x3 ![0, 1] bcast_S10000x1_S10000x3_0_1 (broadcastInDim S10000x1 ![0] bcast_S10000_S10000x1_0
    (maximumf (cntA a2) (broadcastInDim S10000 ![] bcast_S_S10000 (constant S_ .f32 0x3F800000#32)))))

/-- The positions relative to the centres. -/
def relA (a0 : FVec Ideal S320000x3 .f32) (a2 : IVec S320000 32) : FVec Ideal S320000x3 .f32 :=
  subf a0 (Host.gather gather_S10000x3_S320000x1_S320000x3_1_0_n_n_0_1_13 (cenA a0 a2) (wrapA a2))

/-- The distances. -/
def distA (a0 : FVec Ideal S320000x3 .f32) (a2 : IVec S320000 32) : FVec Ideal S320000 .f32 :=
  Host.sqrt (addf (Host.reduceAdd (mulf (relA a0 a2) (relA a0 a2)) (constant S_ .f32 0x00000000#32) reducesTo_S320000x3_S320000_d1 h_S_)
    (broadcastInDim S320000 ![] bcast_S_S320000 (constant S_ .f32 0x2B8CBCCC#32)))

/-- Which point is in which segment. -/
def maskA (a2 : IVec S320000 32) : IVec S10000x320000 1 :=
  cmpi .eq (broadcastInDim S10000x320000 ![0, 1] bcast_S10000x1_S10000x320000_0_1 (broadcastInDim S10000x1 ![0] bcast_S10000_S10000x1_0 (iotaInDim S10000 32 0)))
    (broadcastInDim S10000x320000 ![0, 1] bcast_S1x320000_S10000x320000_0_1 (broadcastInDim S1x320000 ![1] bcast_S320000_S1x320000_1 a2))

/-- Each segment's row of distances, `−∞` off the segment. -/
def selA (a0 : FVec Ideal S320000x3 .f32) (a2 : IVec S320000 32) : FVec Ideal S10000x320000 .f32 :=
  select (maskA a2) (broadcastInDim S10000x320000 ![0, 1] bcast_S1x320000_S10000x320000_0_1 (broadcastInDim S1x320000 ![1] bcast_S320000_S1x320000_1 (distA a0 a2)))
    (broadcastInDim S10000x320000 ![] bcast_S_S10000x320000 (constant S_ .f32 0xFF800000#32))

/-- The radii, kept away from zero. -/
def scaleA (a0 : FVec Ideal S320000x3 .f32) (a2 : IVec S320000 32) : FVec Ideal S10000 .f32 :=
  maximumf (Host.reduce FloatOps.maximumf (selA a0 a2) (constant S_ .f32 0xFF800000#32) reducesTo_S10000x320000_S10000_d1 h_S_)
    (broadcastInDim S10000 ![] bcast_S_S10000 (constant S_ .f32 0x2B8CBCCC#32))

/-- The relative positions over the radii. -/
def normA (a0 : FVec Ideal S320000x3 .f32) (a2 : IVec S320000 32) : FVec Ideal S320000x3 .f32 :=
  Host.divf (relA a0 a2) (broadcastInDim S320000x3 ![0, 1] bcast_S320000x1_S320000x3_0_1 (broadcastInDim S320000x1 ![0] bcast_S320000_S320000x1_0
    (Host.gather gather_S10000_S320000x1_S320000_n_0_n_n_0_1_1 (scaleA a0 a2) (wrapA a2))))

/-- The points' input rows. -/
def xinA (a0 : FVec Ideal S320000x3 .f32) (a1 : FVec Ideal S320000x16 .f32) (a2 : IVec S320000 32) : FVec Ideal S320000x19 .f32 :=
  concatenate S320000x19 1 [⟨S320000x16, a1⟩, ⟨S320000x3, normA a0 a2⟩] concatenates_S320000x16_S320000x3_S320000x19_d1

/-! ## Their entries -/

/-- The maximum of a family that is `−∞` off a set is the supremum over the set. -/
theorem fold_sel {n : ℕ} (P : Fin n → Prop) [DecidablePred P] (f g : Fin n → EReal) (hg : ∀ p, g p = if P p then f p else ⊥) :
    Finset.univ.fold max (⊥ : EReal) g = ⨆ p, ⨆ (_ : P p), f p := by
  have h : Finset.univ.fold max (⊥ : EReal) g = Finset.univ.sup g := rfl
  rw [h, Finset.sup_univ_eq_iSup]
  refine iSup_congr fun p => ?_
  rw [hg]
  by_cases hp : P p
  · rw [if_pos hp, iSup_pos hp]
  · rw [if_neg hp, iSup_neg hp]

theorem ofNat_toInt (n : ℕ) (h : n < 10000) : (BitVec.ofNat 32 n).toInt = n := by
  rw [BitVec.toInt_eq_toNat_of_lt] <;> rw [BitVec.toNat_ofNat, Nat.mod_eq_of_lt (by omega)]
  omega

variable {a0 : FVec Ideal S320000x3 .f32} {a1 : FVec Ideal S320000x16 .f32} {a2 : IVec S320000 32} {I : Fin 320000 → ℕ}

theorem colA_apply (hI : AllIds a2 I) (p : Fin 320000) : (colA a2 (ix2 p 0)).toInt = I p := by
  have h : colA a2 (ix2 p 0) = a2 (ix1 p) := by unfold colA; pointwise
  rw [h, hI.eq, ofNat_toInt _ (hI.lt p)]

theorem wrapA_apply (hI : AllIds a2 I) (p : Fin 320000) : wrapA a2 (ix2 p 0) = BitVec.ofNat 32 (I p) := by
  have h : wrapA a2 (ix2 p 0) = Scalar.select (IntOp.cmpi .slt (a2 (ix1 p)) 0#32) (IntOp.addi (a2 (ix1 p)) 10000#32) (a2 (ix1 p)) := by
    unfold wrapA; pointwise
  have hl := hI.lt p
  rw [h, Routing.wrap_of_lt, hI.eq]
  rw [hI.eq, BitVec.toNat_ofNat, Nat.mod_eq_of_lt (by omega)]
  show I p < 2147483648
  omega

theorem maskA_apply (hI : AllIds a2 I) (s : Fin 10000) (p : Fin 320000) : maskA a2 (ix2 s p) = if I p = s.val then 1#1 else 0#1 := by
  have h : maskA a2 (ix2 s p) = IntOp.cmpi .eq (BitVec.ofNat 32 s.val) (a2 (ix1 p)) := by unfold maskA; pointwise
  have hl := hI.lt p
  rw [h, KI.cmpi_eq_one, hI.eq]
  refine if_congr ?_ rfl rfl
  rw [KI.ofNat_inj _ _ (by omega) (by omega)]
  exact eq_comm

variable {D : Inp}

theorem cntA_apply (hI : AllIds a2 D.I) (s : Fin 10000) : cntA a2 (ix1 s) = D.cnt s.val := by
  unfold cntA
  rw [scatter1_apply _ _ _ D.I (colA_apply hI)]
  have e0 : (broadcastInDim S10000 ![] bcast_S_S10000 (constant S_ .f32 0x00000000#32) : FVec Ideal S10000 .f32) (ix1 s) = 0 := by pointwise
  have e1 : ∀ r, (broadcastInDim S320000 ![] bcast_S_S320000 (constant S_ .f32 0x3F800000#32) : FVec Ideal S320000 .f32) (ix1 r) = 1 := by intro r; pointwise
  rw [e0, zero_add]
  exact Finset.sum_congr rfl fun r _ => by rw [e1]

theorem smA_apply (hI : AllIds a2 D.I) (h0 : ∀ p k, a0 (ix2 p k) = D.pos p k) (s : Fin 10000) (k : Fin 3) : smA a0 a2 (ix2 s k) = D.sm s.val k := by
  unfold smA
  rw [scatter3_apply _ _ _ D.I (colA_apply hI)]
  have e0 : (broadcastInDim S10000x3 ![] bcast_S_S10000x3 (constant S_ .f32 0x00000000#32) : FVec Ideal S10000x3 .f32) (ix2 s k) = 0 := by pointwise
  rw [e0, zero_add]
  exact Finset.sum_congr rfl fun r _ => by rw [h0]

theorem cenA_apply (hI : AllIds a2 D.I) (h0 : ∀ p k, a0 (ix2 p k) = D.pos p k) (s : Fin 10000) (k : Fin 3) : cenA a0 a2 (ix2 s k) = D.cen s.val k := by
  have h : cenA a0 a2 (ix2 s k) = Ideal.div (smA a0 a2 (ix2 s k)) (max (cntA a2 (ix1 s)) 1) := by
    unfold cenA; pointwise
  rw [h, smA_apply hI h0,
    cntA_apply hI]
  rfl

theorem relA_apply (hI : AllIds a2 D.I) (h0 : ∀ p k, a0 (ix2 p k) = D.pos p k) (p : Fin 320000) (k : Fin 3) : relA a0 a2 (ix2 p k) = D.rel p k := by
  have h : relA a0 a2 (ix2 p k)
      = a0 (ix2 p k) - Host.gather gather_S10000x3_S320000x1_S320000x3_1_0_n_n_0_1_13 (cenA a0 a2) (wrapA a2) (ix2 p k) := rfl
  rw [h, gather3_apply _ _ p k (D.I p) (hI.lt p) (wrapA_apply hI p),
    cenA_apply hI h0, h0]
  rfl

theorem distA_apply (hI : AllIds a2 D.I) (h0 : ∀ p k, a0 (ix2 p k) = D.pos p k) (p : Fin 320000) : distA a0 a2 (ix1 p) = D.dist p := by
  have h : distA a0 a2 (ix1 p) = Ideal.sqrt ((∑ k : Fin 3, relA a0 a2 (ix2 p k) * relA a0 a2 (ix2 p k)) + tiny) := by
    unfold distA; generalize relA a0 a2 = v; pointwise
  rw [h]
  simp only [relA_apply hI h0]
  rfl

theorem selA_apply (hI : AllIds a2 D.I) (h0 : ∀ p k, a0 (ix2 p k) = D.pos p k) (s : Fin 10000) (p : Fin 320000) : selA a0 a2 (ix2 s p) = if D.I p = s.val then D.dist p else ⊥ := by
  have h : selA a0 a2 (ix2 s p) = Scalar.select (maskA a2 (ix2 s p)) (distA a0 a2 (ix1 p)) (Ideal.ofBits .f32 0xFF800000#32) := by
    unfold selA; generalize maskA a2 = v; generalize distA a0 a2 = w; pointwise
  rw [h, maskA_apply hI, KI.ofBits_neg_inf,
    distA_apply hI h0]
  by_cases hs : D.I p = s.val
  · rw [if_pos hs, if_pos hs]; rfl
  · rw [if_neg hs, if_neg hs]; rfl

end Cert.Proof.RI

end
-- ==== Proof.RefRows.lean ====
/-
  The reference's radii and input rows at an index.
-/
module

public import proofs.«01_k».proof.Proof.RefSegs

@[expose] public section

set_option maxRecDepth 16384

noncomputable section

namespace Cert.Proof.RI

open Cert.ReferenceIdeal
open Idealize.ShloMosaic

open Cert.ReferenceIdeal.Gen

/-- A maximum along the points, at a segment. -/
theorem reduce2_apply (v : FVec Ideal S10000x320000 .f32) (i : FVec Ideal S_ .f32) (b : EReal) (hb : i (Shape.Idx.first h_S_) = b) (s : Fin 10000) :
    Host.reduce FloatOps.maximumf v i reducesTo_S10000x320000_S10000_d1 h_S_ (ix1 s) = Finset.univ.fold max b fun p : Fin 320000 => v (ix2 s p) := by
  subst hb
  pointwise

theorem guard_apply (v : FVec Ideal S10000 .f32) (s : Fin 10000) :
    maximumf v (broadcastInDim S10000 ![] bcast_S_S10000 (constant S_ .f32 0x2B8CBCCC#32)) (ix1 s) = max (v (ix1 s)) tiny := by pointwise

theorem over_apply (r : FVec Ideal S320000x3 .f32) (v : FVec Ideal S320000 .f32) (p : Fin 320000) (k : Fin 3) :
    Host.divf r (broadcastInDim S320000x3 ![0, 1] bcast_S320000x1_S320000x3_0_1 (broadcastInDim S320000x1 ![0] bcast_S320000_S320000x1_0 v)) (ix2 p k)
      = Ideal.div (r (ix2 p k)) (v (ix1 p)) := by pointwise

theorem rows_apply (a1 : FVec Ideal S320000x16 .f32) (v : FVec Ideal S320000x3 .f32) (p : Fin 320000) (j : Fin 19) :
    concatenate S320000x19 1 [⟨S320000x16, a1⟩, ⟨S320000x3, v⟩] concatenates_S320000x16_S320000x3_S320000x19_d1 (ix2 p j)
      = if h : j.val < 16 then a1 (ix2 p ⟨j.val, h⟩) else v (ix2 p ⟨j.val - 16, by omega⟩) := by pointwise

variable {a0 : FVec Ideal S320000x3 .f32} {a1 : FVec Ideal S320000x16 .f32} {a2 : IVec S320000 32} {D : Inp}

/-- The radii are `D.scale`. -/
theorem scaleA_apply (hI : AllIds a2 D.I) (h0 : ∀ p k, a0 (ix2 p k) = D.pos p k) (s : Fin 10000) : scaleA a0 a2 (ix1 s) = D.scale s.val := by
  unfold scaleA
  refine (guard_apply _ s).trans ?_
  unfold Inp.scale
  refine congrArg (max · tiny) ?_
  refine (reduce2_apply _ _ ⊥ KI.ofBits_neg_inf s).trans ?_
  exact fold_sel (fun p => D.I p = s.val) D.dist _ (fun p => selA_apply hI h0 s p)

/-- The relative positions over the radii. -/
theorem normA_apply (hI : AllIds a2 D.I) (h0 : ∀ p k, a0 (ix2 p k) = D.pos p k) (p : Fin 320000) (k : Fin 3) :
    normA a0 a2 (ix2 p k) = Ideal.div (D.rel p k) (D.scale (D.I p)) := by
  unfold normA
  refine (over_apply _ _ p k).trans ?_
  rw [gather1_apply _ _ p (D.I p) (hI.lt p) (wrapA_apply hI p), relA_apply hI h0, scaleA_apply hI h0]

/-- The points' input rows are `D.xin`. -/
theorem xinA_apply (hI : AllIds a2 D.I) (h0 : ∀ p k, a0 (ix2 p k) = D.pos p k) (h1 : ∀ p k, a1 (ix2 p k) = D.x p k) (p : Fin 320000) (j : Fin 19) :
    xinA a0 a1 a2 (ix2 p j) = D.xin p j := by
  unfold xinA
  refine (rows_apply _ _ p j).trans ?_
  simp only [normA_apply hI h0, h1]
  rfl

end Cert.Proof.RI

end
-- ==== Proof.RefHead.lean ====
/-
  The reference's layers, its maxima over the segments, and its result, at an index.
-/
module

public import proofs.«01_k».proof.Proof.RefRows

@[expose] public section

set_option maxRecDepth 16384

noncomputable section

namespace Cert.Proof.RI

open Cert.ReferenceIdeal
open Idealize.ShloMosaic

open Cert.ReferenceIdeal.Gen

/-! ## The layers -/

/-- The points' first layer, of the rows `v`. -/
def dense1 (v : FVec Ideal S320000x19 .f32) (w : FVec Ideal S64x19 .f32) (b : FVec Ideal S64 .f32) : FVec Ideal S320000x64 .f32 :=
  maximumf (addf (Host.dotGeneral dot_S320000x19_S19x64_S320000x64_1_0_0_1_n_n none v (transpose S19x64 [1, 0] w transposes_S64x19_S19x64_1_0))
      (broadcastInDim S320000x64 ![0, 1] bcast_S1x64_S320000x64_0_1 (broadcastInDim S1x64 ![1] bcast_S64_S1x64_1 b)))
    (broadcastInDim S320000x64 ![] bcast_S_S320000x64 (constant S_ .f32 0x00000000#32))

theorem dense1_apply (v : FVec Ideal S320000x19 .f32) (w : FVec Ideal S64x19 .f32) (b : FVec Ideal S64 .f32) (p : Fin 320000) (j : Fin 64) :
    dense1 v w b (ix2 p j) = max ((∑ k, v (ix2 p k) * w (ix2 j k)) + b (ix1 j)) 0 := by
  unfold dense1; pointwise

/-- The points' second layer, of the rows `v`. -/
def dense2 (v : FVec Ideal S320000x64 .f32) (w : FVec Ideal S128x64 .f32) (b : FVec Ideal S128 .f32) : FVec Ideal S320000x128 .f32 :=
  maximumf (addf (Host.dotGeneral dot_S320000x64_S64x128_S320000x128_1_0_0_1_n_n none v (transpose S64x128 [1, 0] w transposes_S128x64_S64x128_1_0))
      (broadcastInDim S320000x128 ![0, 1] bcast_S1x128_S320000x128_0_1 (broadcastInDim S1x128 ![1] bcast_S128_S1x128_1 b)))
    (broadcastInDim S320000x128 ![] bcast_S_S320000x128 (constant S_ .f32 0x00000000#32))

theorem dense2_apply (v : FVec Ideal S320000x64 .f32) (w : FVec Ideal S128x64 .f32) (b : FVec Ideal S128 .f32) (p : Fin 320000) (j : Fin 128) :
    dense2 v w b (ix2 p j) = max ((∑ k, v (ix2 p k) * w (ix2 j k)) + b (ix1 j)) 0 := by
  unfold dense2; pointwise

/-- The head's first layer, of the rows `v`. -/
def dense3 (v : FVec Ideal S10000x129 .f32) (w : FVec Ideal S256x129 .f32) (b : FVec Ideal S256 .f32) : FVec Ideal S10000x256 .f32 :=
  maximumf (addf (Host.dotGeneral dot_S10000x129_S129x256_S10000x256_1_0_0_1_n_n none v (transpose S129x256 [1, 0] w transposes_S256x129_S129x256_1_0))
      (broadcastInDim S10000x256 ![0, 1] bcast_S1x256_S10000x256_0_1 (broadcastInDim S1x256 ![1] bcast_S256_S1x256_1 b)))
    (broadcastInDim S10000x256 ![] bcast_S_S10000x256 (constant S_ .f32 0x00000000#32))

theorem dense3_apply (v : FVec Ideal S10000x129 .f32) (w : FVec Ideal S256x129 .f32) (b : FVec Ideal S256 .f32) (p : Fin 10000) (j : Fin 256) :
    dense3 v w b (ix2 p j) = max ((∑ k, v (ix2 p k) * w (ix2 j k)) + b (ix1 j)) 0 := by
  unfold dense3; pointwise

/-- The head's second layer, of the rows `v`. -/
def dense4 (v : FVec Ideal S10000x256 .f32) (w : FVec Ideal S128x256 .f32) (b : FVec Ideal S128 .f32) : FVec Ideal S10000x128 .f32 :=
  maximumf (addf (Host.dotGeneral dot_S10000x256_S256x128_S10000x128_1_0_0_1_n_n none v (transpose S256x128 [1, 0] w transposes_S128x256_S256x128_1_0))
      (broadcastInDim S10000x128 ![0, 1] bcast_S1x128_S10000x128_0_1 (broadcastInDim S1x128 ![1] bcast_S128_S1x128_1 b)))
    (broadcastInDim S10000x128 ![] bcast_S_S10000x128 (constant S_ .f32 0x00000000#32))

theorem dense4_apply (v : FVec Ideal S10000x256 .f32) (w : FVec Ideal S128x256 .f32) (b : FVec Ideal S128 .f32) (p : Fin 10000) (j : Fin 128) :
    dense4 v w b (ix2 p j) = max ((∑ k, v (ix2 p k) * w (ix2 j k)) + b (ix1 j)) 0 := by
  unfold dense4; pointwise

/-- The head's third layer, of the rows `v`. -/
def dense5 (v : FVec Ideal S10000x128 .f32) (w : FVec Ideal S40x128 .f32) (b : FVec Ideal S40 .f32) : FVec Ideal S10000x40 .f32 :=
  addf (Host.dotGeneral dot_S10000x128_S128x40_S10000x40_1_0_0_1_n_n none v (transpose S128x40 [1, 0] w transposes_S40x128_S128x40_1_0))
      (broadcastInDim S10000x40 ![0, 1] bcast_S1x40_S10000x40_0_1 (broadcastInDim S1x40 ![1] bcast_S40_S1x40_1 b))

theorem dense5_apply (v : FVec Ideal S10000x128 .f32) (w : FVec Ideal S40x128 .f32) (b : FVec Ideal S40 .f32) (p : Fin 10000) (j : Fin 40) :
    dense5 v w b (ix2 p j) = (∑ k, v (ix2 p k) * w (ix2 j k)) + b (ix1 j) := by
  unfold dense5; pointwise

/-! ## The maxima over the segments -/

/-- Each segment's rows of the points' second layer `h`, `−∞` off the segment. -/
def sel3A (m : IVec S10000x320000 1) (h : FVec Ideal S320000x128 .f32) : FVec Ideal S10000x320000x128 .f32 :=
  select (broadcastInDim S10000x320000x128 ![0, 1, 2] bcast_S10000x320000x1_S10000x320000x128_0_1_2 (broadcastInDim S10000x320000x1 ![0, 1] bcast_S10000x320000_S10000x320000x1_0_1 m))
    (broadcastInDim S10000x320000x128 ![0, 1, 2] bcast_S1x320000x128_S10000x320000x128_0_1_2 (broadcastInDim S1x320000x128 ![1, 2] bcast_S320000x128_S1x320000x128_1_2 h))
    (broadcastInDim S10000x320000x128 ![] bcast_S_S10000x320000x128 (constant S_ .f32 0xFF800000#32))

theorem sel3A_apply (m : IVec S10000x320000 1) (h : FVec Ideal S320000x128 .f32) (s : Fin 10000) (p : Fin 320000) (j : Fin 128) :
    sel3A m h (ix3 s p j) = Scalar.select (m (ix2 s p)) (h (ix2 p j)) (Ideal.ofBits .f32 0xFF800000#32) := by
  unfold sel3A; pointwise

/-- Each segment's maximum of the rows `v`. -/
def max3A (v : FVec Ideal S10000x320000x128 .f32) : FVec Ideal S10000x128 .f32 :=
  Host.reduce FloatOps.maximumf v (constant S_ .f32 0xFF800000#32) reducesTo_S10000x320000x128_S10000x128_d1 h_S_

/-- A maximum along the points, at a segment and a channel. -/
theorem reduce3_apply (v : FVec Ideal S10000x320000x128 .f32) (i : FVec Ideal S_ .f32) (b : EReal) (hb : i (Shape.Idx.first h_S_) = b) (s : Fin 10000)
    (j : Fin 128) :
    Host.reduce FloatOps.maximumf v i reducesTo_S10000x320000x128_S10000x128_d1 h_S_ (ix2 s j) = Finset.univ.fold max b fun p : Fin 320000 => v (ix3 s p j) := by
  subst hb
  pointwise

/-- The maxima where finite, zero elsewhere. -/
def finA (v : FVec Ideal S10000x128 .f32) : FVec Ideal S10000x128 .f32 :=
  select (cmpf .olt (Host.absf v) (broadcastInDim S10000x128 ![] bcast_S_S10000x128 (constant S_ .f32 0x7F800000#32))) v
    (broadcastInDim S10000x128 ![] bcast_S_S10000x128 (constant S_ .f32 0x00000000#32))

theorem finA_apply (v : FVec Ideal S10000x128 .f32) (s : Fin 10000) (j : Fin 128) : finA v (ix2 s j) = fin0 (v (ix2 s j)) := by
  unfold finA
  pointwise
  unfold fin0
  rfl

/-- The head's input rows: the maxima `v`, then twice the radii `r`. -/
def g0A (v : FVec Ideal S10000x128 .f32) (r : FVec Ideal S10000 .f32) : FVec Ideal S10000x129 .f32 :=
  concatenate S10000x129 1 [⟨S10000x128, finA v⟩,
    ⟨S10000x1, broadcastInDim S10000x1 ![0] bcast_S10000_S10000x1_0 (mulf (broadcastInDim S10000 ![] bcast_S_S10000 (constant S_ .f32 0x40000000#32)) r)⟩]
    concatenates_S10000x128_S10000x1_S10000x129_d1

theorem g0A_apply (v : FVec Ideal S10000x128 .f32) (r : FVec Ideal S10000 .f32) (s : Fin 10000) (j : Fin 129) :
    g0A v r (ix2 s j) = if h : j.val < 128 then finA v (ix2 s ⟨j.val, h⟩) else Ideal.ofBits .f32 0x40000000#32 * r (ix1 s) := by
  unfold g0A; generalize finA v = w; pointwise

/-! ## The result -/

/-- The reference's result, of its arguments' arrays. -/
def outA (a0 : FVec Ideal S320000x3 .f32) (a1 : FVec Ideal S320000x16 .f32) (a2 : IVec S320000 32) (a3 : FVec Ideal S64x19 .f32) (a4 : FVec Ideal S64 .f32)
    (a5 : FVec Ideal S128x64 .f32) (a6 : FVec Ideal S128 .f32) (a7 : FVec Ideal S256x129 .f32) (a8 : FVec Ideal S256 .f32) (a9 : FVec Ideal S128x256 .f32)
    (a10 : FVec Ideal S128 .f32) (a11 : FVec Ideal S40x128 .f32) (a12 : FVec Ideal S40 .f32) : FVec Ideal S10000x40 .f32 :=
  dense5 (dense4 (dense3 (g0A (max3A (sel3A (maskA a2) (dense2 (dense1 (xinA a0 a1 a2) a3 a4) a5 a6))) (scaleA a0 a2)) a7 a8) a9 a10) a11 a12

variable {a0 : FVec Ideal S320000x3 .f32} {a1 : FVec Ideal S320000x16 .f32} {a2 : IVec S320000 32} {D : Inp}

theorem max3A_apply {h : FVec Ideal S320000x128 .f32} (hI : AllIds a2 D.I) (hh : ∀ p j, h (ix2 p j) = D.h2 p j) (s : Fin 10000) (j : Fin 128) :
    max3A (sel3A (maskA a2) h) (ix2 s j) = D.xg s.val j := by
  unfold max3A
  refine (reduce3_apply _ _ ⊥ KI.ofBits_neg_inf s j).trans ?_
  refine fold_sel (fun p => D.I p = s.val) (fun p => D.h2 p j) _ fun p => ?_
  rw [sel3A_apply, maskA_apply hI, KI.ofBits_neg_inf, hh]
  by_cases hs : D.I p = s.val
  · rw [if_pos hs, if_pos hs]; rfl
  · rw [if_neg hs, if_neg hs]; rfl

variable {a3 : FVec Ideal S64x19 .f32} {a4 : FVec Ideal S64 .f32} {a5 : FVec Ideal S128x64 .f32} {a6 : FVec Ideal S128 .f32} {a7 : FVec Ideal S256x129 .f32}
  {a8 : FVec Ideal S256 .f32} {a9 : FVec Ideal S128x256 .f32} {a10 : FVec Ideal S128 .f32} {a11 : FVec Ideal S40x128 .f32} {a12 : FVec Ideal S40 .f32}

/-- At a segment and an output the reference's result is `out` of the inputs. -/
theorem outA_apply {I : Fin 320000 → ℕ} (hI : AllIds a2 I) (s : Fin 10000) (o : Fin 40) :
    outA a0 a1 a2 a3 a4 a5 a6 a7 a8 a9 a10 a11 a12 (ix2 s o) = (KI.inpOf a0 a1 I a3 a4 a5 a6 a7 a8 a9 a10 a11 a12).out s.val o := by
  set D := KI.inpOf a0 a1 I a3 a4 a5 a6 a7 a8 a9 a10 a11 a12 with hD
  have hI' : AllIds a2 D.I := hI
  have h0 : ∀ p k, a0 (ix2 p k) = D.pos p k := fun _ _ => rfl
  have h1 : ∀ p k, a1 (ix2 p k) = D.x p k := fun _ _ => rfl
  have d1 : ∀ p j, dense1 (xinA a0 a1 a2) a3 a4 (ix2 p j) = D.h1 p j := fun p j => by
    rw [dense1_apply]; simp only [xinA_apply hI' h0 h1]; rfl
  have d2 : ∀ p j, dense2 (dense1 (xinA a0 a1 a2) a3 a4) a5 a6 (ix2 p j) = D.h2 p j := fun p j => by
    rw [dense2_apply]; simp only [d1]; rfl
  have e0 : ∀ s j, g0A (max3A (sel3A (maskA a2) (dense2 (dense1 (xinA a0 a1 a2) a3 a4) a5 a6))) (scaleA a0 a2) (ix2 s j) = D.g0 s.val j := fun s j => by
    rw [g0A_apply]; simp only [finA_apply, max3A_apply hI' d2, scaleA_apply hI' h0]; rfl
  unfold outA
  rw [dense5_apply]
  simp only [dense4_apply, dense3_apply, e0]
  rfl

end Cert.Proof.RI

end
-- ==== Proof.StepGather.lean ====
/-
  The gather loops: one step at an entry, and the whole loop, which leaves in every row of the block the table's row of
  the row's id.
-/
module

public import proofs.«01_k».proof.Proof.Loop1
public import proofs.«01_k».proof.Proof.Loop2
public import proofs.«01_k».proof.Proof.Hot

@[expose] public section

set_option maxRecDepth 16384

noncomputable section

namespace Cert.Proof.KI

open Cert.KernelIdeal Cert.KernelIdeal.Gen
open Idealize.ShloMosaic

/-- A loop whose step adds to each row the value of its id where the id is in the step's window leaves every row its
    value. -/
theorem gather_loop {C : ℕ} {v4 : IVec S3200x1 32} {I : Fin 3200 → ℕ} (h : Ids v4 I)
    (step : BitVec 32 → ((⟨2, ![3200, C]⟩ : Shape).Idx → EReal) → (⟨2, ![3200, C]⟩ : Shape).Idx → EReal) (G : Fin 3200 → Fin C → EReal)
    (hstep : ∀ a, a < 10000 → ∀ acc r k, step (BitVec.ofNat 32 a) acc (ix2 r k)
      = acc (ix2 r k) + if a / 8 * 8 ≤ I r ∧ I r < a / 8 * 8 + 128 then G r k else 0)
    (z : (⟨2, ![3200, C]⟩ : Shape).Idx → EReal) (hz : ∀ r k, z (ix2 r k) = 0) (r : Fin 3200) (k : Fin C) :
    loopAll v4 step z (ix2 r k) = G r k := by
  have := loopAll_ind h step
    (fun T Y => ∀ (r : Fin 3200) (k : Fin C), Y (ix2 r k) = if I r < T then G r k else 0)
    (fun a ha Y hY r k => ?_) (fun T T' Y hT hI hY r k => ?_) z (fun r k => by rw [if_neg (by omega), hz]) r k
  · rw [if_pos (by have := h.lt r; omega)] at this
    exact this
  · rw [hstep a ha, hY]
    by_cases h1 : I r < a / 8 * 8
    · rw [if_pos h1, if_neg (by omega), if_pos (by omega), add_zero]
    · rw [if_neg h1]
      by_cases h2 : I r < a / 8 * 8 + 128
      · rw [if_pos (by omega), if_pos h2, zero_add]
      · rw [if_neg (by omega), if_neg h2, zero_add]
  · rw [hY]
    rcases hI r with h3 | h3
    · rw [if_pos h3, if_pos (by omega)]
    · rw [if_neg (by omega), if_neg (by omega)]

/-- The row of a table that an id names. -/
def rowOf (n : ℕ) : Fin 10752 := ⟨n % 10752, Nat.mod_lt _ (by norm_num)⟩

theorem rowOf_val (n : ℕ) (h : n < 10752) : (rowOf n).val = n := Nat.mod_eq_of_lt h

theorem k1_pay1_apply {v4 : IVec S3200x1 32} {I : Fin 3200 → ℕ} (h : Ids v4 I) (a : ℕ) (ha : a < 10000) (acc : FVec Ideal S3200x4 .f32)
    (w : FVec Ideal S128x4 .f32) (r : Fin 3200) (k : Fin 4) :
    k1_pay1 v4 (BitVec.ofNat 32 a) acc w (ix2 r k)
      = acc (ix2 r k) + if h : a / 8 * 8 ≤ I r ∧ I r < a / 8 * 8 + 128 then w (ix2 ⟨I r - a / 8 * 8, by omega⟩ k) else 0 := by
  show (addf acc (matmul dot_S3200x128_S128x4_S3200x4_1_0_0_1_n_n none (sitofp .f32 (extui 32 (cmpi .eq (broadcastTo S3200x128 v4 broadcasts_S3200x1_S3200x128) (broadcastTo S3200x128 (addi (broadcast S1x128 (winBase (BitVec.ofNat 32 a))) (iota .tc S1x128 32 [1] iota_S1x128_d1_w32)) broadcasts_S1x128_S3200x128)) natLt_1_32)) (shapeCast S128x4 w shapeCasts_S128x4_S128x4) (constant S3200x4 .f32 0x00000000#32))) (ix2 r k) = _
  pointwise
  refine congrArg (acc (ix2 r k) + ·) ?_
  refine (Finset.sum_congr rfl fun j _ => ?_).trans (pick_window (I r) (a / 8 * 8) fun j => w (ix2 j k))
  rw [ids_ix2 h, hot_entry _ _ _ (h.lt r) ha j.isLt]

/-- The gather of the statistics. -/
theorem loop5_apply {v4 : IVec S3200x1 32} {I : Fin 3200 → ℕ} (h : Ids v4 I) (S : FVec Ideal S10752x4 .f32) (r : Fin 3200) (k : Fin 4) :
    loopAll v4 (step5 v4 S) (k1_pay6 (F := Ideal)) (ix2 r k) = S (ix2 (rowOf (I r)) k) := by
  refine gather_loop h (step5 v4 S) (fun r k => S (ix2 (rowOf (I r)) k)) (fun a ha acc r k => ?_) _ (fun r k => ?_) r k
  · unfold step5
    rw [dif_pos (chk1_1 a ha), k1_pay1_apply h a ha]
    refine congrArg (acc (ix2 r k) + ·) ?_
    by_cases hs : a / 8 * 8 ≤ I r ∧ I r < a / 8 * 8 + 128
    · rw [dif_pos hs, if_pos hs]
      refine (window_row S (a / 8 * 8) _ (off_eq a ha) _ _ k (by omega)).trans ?_
      congr 2
      apply Fin.ext
      rw [rowOf_val _ (by have := h.lt r; omega)]
      show a / 8 * 8 + (I r - a / 8 * 8) = I r
      omega
    · rw [dif_neg hs, if_neg hs]
  · unfold k1_pay6
    pointwise

/-- The least radius a centred position is divided by. -/
abbrev eps : EReal := Ideal.ofBits .f32 0x2B8CBCCC#32

theorem k2_pay16_apply {v4 : IVec S3200x1 32} {I : Fin 3200 → ℕ} (h : Ids v4 I) (a : ℕ) (ha : a < 10000) (acc : FVec Ideal S3200x4 .f32)
    (w : FVec Ideal S128x4 .f32) (u : FVec Ideal S128x1 .f32) (r : Fin 3200) (k : Fin 4) :
    k2_pay16 v4 (BitVec.ofNat 32 a) acc w u (ix2 r k)
      = acc (ix2 r k) + if h : a / 8 * 8 ≤ I r ∧ I r < a / 8 * 8 + 128 then
          (if k.val < 3 then w (ix2 ⟨I r - a / 8 * 8, by omega⟩ k) else max (u (ix2 ⟨I r - a / 8 * 8, by omega⟩ 0)) eps) else 0 := by
  show (addf acc (matmul dot_S3200x128_S128x4_S3200x4_1_0_0_1_n_n none (sitofp .f32 (extui 32 (cmpi .eq (broadcastTo S3200x128 v4 broadcasts_S3200x1_S3200x128) (broadcastTo S3200x128 (addi (broadcast S1x128 (winBase (BitVec.ofNat 32 a))) (iota .tc S1x128 32 [1] iota_S1x128_d1_w32)) broadcasts_S1x128_S3200x128)) natLt_1_32)) (concatenate S128x4 1 [⟨S128x3, extractStridedSlice S128x3 ![0, 0] (shapeCast S128x4 w shapeCasts_S128x4_S128x4) slices_S128x4_o0_0_S128x3⟩, ⟨S128x1, maximumf (shapeCast S128x1 u shapeCasts_S128x1_S128x1) (broadcast S128x1 (Scalar.ofBits .f32 0x2B8CBCCC#32))⟩] concatenates_S128x3_S128x1_S128x4_d1) (constant S3200x4 .f32 0x00000000#32))) (ix2 r k) = _
  generalize hc : concatenate S128x4 1 [⟨S128x3, extractStridedSlice S128x3 ![0, 0] (shapeCast S128x4 w shapeCasts_S128x4_S128x4) slices_S128x4_o0_0_S128x3⟩, ⟨S128x1, maximumf (shapeCast S128x1 u shapeCasts_S128x1_S128x1) (broadcast S128x1 (Scalar.ofBits .f32 0x2B8CBCCC#32))⟩] concatenates_S128x3_S128x1_S128x4_d1 = cc
  have hv : ∀ j : Fin 128, cc (ix2 j k) = if k.val < 3 then w (ix2 j k) else max (u (ix2 j 0)) eps := fun j => by
    subst hc
    pointwise
    split
    · rfl
    · exact congrArg (fun i => max (u (ix2 j i)) eps) (Subsingleton.elim _ _)
  pointwise
  refine congrArg (acc (ix2 r k) + ·) ?_
  refine (Finset.sum_congr rfl fun j _ => ?_).trans (pick_window (I r) (a / 8 * 8) fun j => if k.val < 3 then w (ix2 j k) else max (u (ix2 j 0)) eps)
  rw [ids_ix2 h, hot_entry _ _ _ (h.lt r) ha j.isLt, hv]

/-- The gather of the centres and the radii. -/
theorem loop7_apply {v4 : IVec S3200x1 32} {I : Fin 3200 → ℕ} (h : Ids v4 I) (S : FVec Ideal S10752x4 .f32) (R : FVec Ideal S10752x1 .f32)
    (r : Fin 3200) (k : Fin 4) :
    loopAll v4 (step7 v4 S R) (k2_pay7 (F := Ideal)) (ix2 r k)
      = if k.val < 3 then S (ix2 (rowOf (I r)) k) else max (R (ix2 (rowOf (I r)) 0)) eps := by
  refine gather_loop h (step7 v4 S R) (fun r k => if k.val < 3 then S (ix2 (rowOf (I r)) k) else max (R (ix2 (rowOf (I r)) 0)) eps) (fun a ha acc r k => ?_) _ (fun r k => ?_) r k
  · unfold step7
    rw [dif_pos (chk2_1 a ha), k2_pay16_apply h a ha]
    refine congrArg (acc (ix2 r k) + ·) ?_
    by_cases hs : a / 8 * 8 ≤ I r ∧ I r < a / 8 * 8 + 128
    · rw [dif_pos hs, if_pos hs]
      have e : (⟨a / 8 * 8 + (I r - a / 8 * 8), by omega⟩ : Fin 10752) = rowOf (I r) := by
        apply Fin.ext
        rw [rowOf_val _ (by have := h.lt r; omega)]
        show a / 8 * 8 + (I r - a / 8 * 8) = I r
        omega
      have e1 : ∀ inb k, VecWindow.window S (k2_off1 (BitVec.ofNat 32 a)) S128x4.size inb (ix2 ⟨I r - a / 8 * 8, by omega⟩ k) = S (ix2 (rowOf (I r)) k) := fun inb k => by
        refine (window_row S (a / 8 * 8) _ (off_eq a ha) _ _ k (by omega)).trans ?_
        rw [← e]
      have e2 : ∀ inb, VecWindow.window R (k2_off2 (BitVec.ofNat 32 a)) S128x1.size inb (ix2 ⟨I r - a / 8 * 8, by omega⟩ 0) = R (ix2 (rowOf (I r)) 0) := fun inb => by
        refine (window_row R (a / 8 * 8) _ (off_eq a ha) _ _ 0 (by omega)).trans ?_
        rw [← e]
      split
      · exact e1 _ k
      · exact congrArg (max · eps) (e2 _)
    · rw [dif_neg hs, if_neg hs]
  · unfold k2_pay7
    pointwise

end Cert.Proof.KI

end
-- ==== Proof.StepAdd.lean ====
/-
  The statistics loop: one step at an entry, and the whole loop, which adds to every segment's row the rows of the block
  that carry its id.
-/
module

public import proofs.«01_k».proof.Proof.Loop0
public import proofs.«01_k».proof.Proof.Hot

@[expose] public section

set_option maxRecDepth 16384

noncomputable section

namespace Cert.Proof.KI

open Cert.KernelIdeal Cert.KernelIdeal.Gen
open Idealize.ShloMosaic

theorem k0_pay6_apply {v4 : IVec S3200x1 32} {I : Fin 3200 → ℕ} (h : Ids v4 I) (v7 : FVec Ideal S3200x4 .f32) (a : ℕ) (ha : a < 10000)
    (w : FVec Ideal S128x4 .f32) (j : Fin 128) (k : Fin 4) :
    k0_pay6 v4 v7 (BitVec.ofNat 32 a) w (ix2 j k) = w (ix2 j k) + ∑ r, if I r = a / 8 * 8 + j.val then v7 (ix2 r k) else 0 := by
  show (addf (shapeCast S128x4 w shapeCasts_S128x4_S128x4) (matmul dot_S3200x128_S3200x4_S128x4_0_0_1_1_n_n none (sitofp .f32 (extui 32 (cmpi .eq (broadcastTo S3200x128 v4 broadcasts_S3200x1_S3200x128) (broadcastTo S3200x128 (addi (broadcast S1x128 (winBase (BitVec.ofNat 32 a))) (iota .tc S1x128 32 [1] iota_S1x128_d1_w32)) broadcasts_S1x128_S3200x128)) natLt_1_32)) v7 (constant S128x4 .f32 0x00000000#32))) (ix2 j k) = _
  pointwise
  refine congrArg (w (ix2 j k) + ·) ?_
  refine (Finset.sum_congr rfl fun r _ => ?_).trans (sum_ind (fun r => I r = a / 8 * 8 + j.val) fun r => v7 (ix2 r k))
  rw [ids_ix2 h, hot_entry _ _ _ (h.lt r) ha j.isLt]

theorem step0_apply {v4 : IVec S3200x1 32} {I : Fin 3200 → ℕ} (h : Ids v4 I) (v7 : FVec Ideal S3200x4 .f32) (a : ℕ) (ha : a < 10000)
    (X : FVec Ideal S10752x4 .f32) (s : Fin 10752) (k : Fin 4) :
    step0 v4 v7 (BitVec.ofNat 32 a) X (ix2 s k)
      = if a / 8 * 8 ≤ s.val ∧ s.val < a / 8 * 8 + 128 then X (ix2 s k) + ∑ r, if I r = s.val then v7 (ix2 r k) else 0 else X (ix2 s k) := by
  unfold step0
  rw [dif_pos (chk0_1 a ha)]
  refine (put_row X (a / 8 * 8) _ (off_eq a ha) _ s k).trans ?_
  by_cases hs : a / 8 * 8 ≤ s.val ∧ s.val < a / 8 * 8 + 128
  · rw [dif_pos hs, if_pos hs, k0_pay6_apply h v7 a ha]
    have e : a / 8 * 8 + (s.val - a / 8 * 8) = s.val := by omega
    refine congrArg₂ (· + ·) ?_ ?_
    · refine (window_row X (a / 8 * 8) _ (off_eq a ha) _ _ k (by omega)).trans ?_
      congr 2
      exact Fin.ext e
    · refine Finset.sum_congr rfl fun r _ => ?_
      simp only [e]
  · rw [dif_neg hs, if_neg hs]

/-- The whole loop adds to row `s` the block's rows whose id is `s`. -/
theorem loop0_apply {v4 : IVec S3200x1 32} {I : Fin 3200 → ℕ} (h : Ids v4 I) (v7 : FVec Ideal S3200x4 .f32) (X : FVec Ideal S10752x4 .f32)
    (s : Fin 10752) (k : Fin 4) :
    loopAll v4 (step0 v4 v7) X (ix2 s k) = X (ix2 s k) + ∑ r, if I r = s.val then v7 (ix2 r k) else 0 := by
  have := loopAll_ind h (step0 v4 v7)
    (fun T Y => ∀ (s : Fin 10752) (k : Fin 4), Y (ix2 s k) = if s.val < T then X (ix2 s k) + ∑ r, (if I r = s.val then v7 (ix2 r k) else 0) else X (ix2 s k))
    (fun a ha Y hY s k => ?_) (fun T T' Y hT hI hY s k => ?_) X (fun s k => by rw [if_neg (by omega)]) s k
  · rw [if_pos (by have := s.isLt; omega)] at this
    exact this
  · rw [step0_apply h v7 a ha, hY]
    by_cases h1 : s.val < a / 8 * 8
    · rw [if_neg (by omega), if_pos h1, if_pos (by omega)]
    · rw [if_neg h1]
      by_cases h2 : s.val < a / 8 * 8 + 128
      · rw [if_pos (by omega), if_pos h2]
      · rw [if_neg (by omega), if_neg h2]
  · rw [hY]
    by_cases h1 : s.val < T
    · rw [if_pos h1, if_pos (by omega)]
    · rw [if_neg h1]
      by_cases h2 : s.val < T'
      · rw [if_pos h2, Finset.sum_eq_zero, add_zero]
        intro r _
        rw [if_neg]
        rcases hI r with h3 | h3 <;> omega
      · rw [if_neg h2]

end Cert.Proof.KI

end
-- ==== Proof.Val0.lean ====
/-
  The statistics region: after every block the table holds each segment's sums so far, and at the end the centres and counts.
-/
module

public import proofs.«01_k».proof.Proof.BlockVals
public import proofs.«01_k».proof.Proof.StepGather
public import proofs.«01_k».proof.Proof.Spec
public import proofs.«01_k».proof.Proof.StepAdd

@[expose] public section

set_option maxRecDepth 16384

noncomputable section

namespace Cert.Proof.KI

open Cert.KernelIdeal Cert.KernelIdeal.Gen
open Idealize.ShloMosaic

theorem coord0 : ∀ t : Fin grid0.N, (atPoint ((grid0.coords t) 0).val 0#32 ↔ t.val = 0) ∧ (atPoint ((grid0.coords t) 0).val 99#32 ↔ t.val = 99) := by decide +kernel

/-- The columns that a block adds: the positions, then a one. -/
def col (v5 : Fin 3 → EReal) (k : Fin 4) : EReal := if h : k.val < 3 then v5 ⟨k.val, h⟩ else 1

theorem k0_pay3_apply (v5 : FVec Ideal S3200x3 .f32) (r : Fin 3200) (k : Fin 4) :
    k0_pay3 (F := Ideal) v5 (ix2 r k) = col (fun a => v5 (ix2 r a)) k := by
  unfold k0_pay3 col
  by_cases hk : k.val < 3
  · pointwise [hk]
  · obtain rfl : k = 3 := Fin.ext (by have := k.isLt; show k.val = 3; omega)
    pointwise [hk]

theorem k0_pay5_apply (v : FVec Ideal S10752x4 .f32) (s : Fin 10752) (k : Fin 4) :
    k0_pay5 (F := Ideal) v (ix2 s k) = if h : k.val < 3 then Ideal.div (v (ix2 s k)) (max (v (ix2 s 3)) 1) else v (ix2 s 3) := by
  unfold k0_pay5
  by_cases hk : k.val < 3
  · pointwise [hk]
  · obtain rfl : k = 3 := Fin.ext (by have := k.isLt; show k.val = 3; omega)
    pointwise [hk]

theorem k0_pay1_apply (j : S10752x4.Idx) : k0_pay1 (F := Ideal) j = 0 := by
  unfold k0_pay1
  pointwise

/-- The sum of a column over the points of segment `s` in the first `n` blocks. -/
def part (D : Inp) (n : ℕ) (s : ℕ) (k : Fin 4) : EReal :=
  ∑ t ∈ Finset.range n, ∑ r : Fin 3200, if D.I (pt t r) = s then col (D.pos (pt t r)) k else 0

variable (D : Inp) (V : Bufs Ideal) (c : Dev nD)
variable (hids : ∀ t, Ids (k0_pay2 (F := Ideal) (blk0_0 V c t)) fun r => D.I (pt t.val r))
variable (hpos : ∀ p k, (V c main_arg0 : FVec Ideal S320000x3 .f32) (ix2 p k) = D.pos p k)

include hids hpos

/-- One block added to the table. -/
theorem add0 (t : Fin (cfg0 (F := Ideal)).N) (X : FVec Ideal S10752x4 .f32) (s : Fin 10752) (k : Fin 4) :
    loopAll (k0_pay2 (F := Ideal) (blk0_0 V c t)) (step0 (k0_pay2 (F := Ideal) (blk0_0 V c t)) (k0_pay3 (F := Ideal) (blk0_1 V c t))) X (ix2 s k)
      = X (ix2 s k) + ∑ r : Fin 3200, if D.I (pt t.val r) = s.val then col (D.pos (pt t.val r)) k else 0 := by
  rw [loop0_apply (hids t)]
  congr 1
  refine Finset.sum_congr rfl fun r _ => ?_
  have : k0_pay3 (F := Ideal) (blk0_1 V c t) (ix2 r k) = col (D.pos (pt t.val r)) k := by
    refine (k0_pay3_apply _ r k).trans ?_
    congr 1
    funext a
    exact (val0_1 V c t r a).trans (hpos _ _)
  rw [this]

/-- The table after the first `n` blocks, before the last one. -/
theorem acc0_apply (n : ℕ) (hn : n ≤ 99) (s : Fin 10752) (k : Fin 4) : acc0 V c n (ix2 s k) = part D n s.val k := by
  induction n with
  | zero => exact (k0_pay1_apply (ix2 s k)).trans (by unfold part; rw [Finset.sum_range_zero])
  | succ n ih =>
    have hN : n < (cfg0 (F := Ideal)).N := by rw [show (cfg0 (F := Ideal)).N = 100 from N_0]; omega
    have e : acc0 V c (n + 1) = upd0 V c ⟨n, hN⟩ (acc0 V c n) := accW_succ _ _ (⟨n, hN⟩ : Fin (cfg0 (F := Ideal)).N)
    have h99 : ¬ atPoint ((grid0.coords ⟨n, hN⟩) 0).val 99#32 := fun h => by have := (coord0 ⟨n, hN⟩).2.mp h; simp only at this; omega
    rw [e]
    unfold upd0 out0 init0
    simp only [if_neg h99]
    rw [add0 D V c hids hpos ⟨n, hN⟩]
    unfold part
    rw [Finset.sum_range_succ]
    congr 1
    rw [show (∑ t ∈ Finset.range n, _) = part D n s.val k from rfl, ← ih (by omega)]
    by_cases h0 : n = 0
    · subst h0
      rw [if_pos ((coord0 ⟨0, hN⟩).1.mpr rfl)]
      rfl
    · rw [if_neg fun h => h0 ((coord0 ⟨n, hN⟩).1.mp h)]

/-- The table after the last block. -/
theorem acc0_last (s : Fin 10752) (k : Fin 4) :
    acc0 V c 100 (ix2 s k) = if h : k.val < 3 then Ideal.div (part D 100 s.val k) (max (part D 100 s.val 3) 1) else part D 100 s.val 3 := by
  have hN : 99 < (cfg0 (F := Ideal)).N := by rw [show (cfg0 (F := Ideal)).N = 100 from N_0]; omega
  have e : acc0 V c (99 + 1) = upd0 V c ⟨99, hN⟩ (acc0 V c 99) := accW_succ _ _ (⟨99, hN⟩ : Fin (cfg0 (F := Ideal)).N)
  have h99 : atPoint ((grid0.coords ⟨99, hN⟩) 0).val 99#32 := (coord0 ⟨99, hN⟩).2.mpr rfl
  have h0 : ¬ atPoint ((grid0.coords ⟨99, hN⟩) 0).val 0#32 := fun h => by have := (coord0 ⟨99, hN⟩).1.mp h; simp only at this; omega
  rw [e]
  unfold upd0 out0 init0
  simp only [if_pos h99, if_neg h0]
  have key : ∀ k, loopAll (k0_pay2 (F := Ideal) (blk0_0 V c ⟨99, hN⟩)) (step0 (k0_pay2 (F := Ideal) (blk0_0 V c ⟨99, hN⟩)) (k0_pay3 (F := Ideal) (blk0_1 V c ⟨99, hN⟩))) (acc0 V c 99) (ix2 s k) = part D 100 s.val k := by
    intro k
    rw [add0 D V c hids hpos ⟨99, hN⟩, acc0_apply D V c hids hpos 99 le_rfl]
    exact (Finset.sum_range_succ _ 99).symm
  rw [k0_pay5_apply, key, key]

end Cert.Proof.KI

end
-- ==== Proof.PointSums.lean ====
/-
  The points block by block: every point is a row of one block, and a sum over the blocks and rows is a sum over the points.
-/
module

public import proofs.«01_k».proof.Proof.Blocks

@[expose] public section

set_option maxRecDepth 16384

noncomputable section

namespace Cert.Proof.KI

open Cert.KernelIdeal Cert.KernelIdeal.Gen
open Idealize.ShloMosaic

theorem pt_eq (t : Fin 100) (r : Fin 3200) : (finProdFinEquiv (t, r) : Fin (100 * 3200)) = pt t.val r := by
  refine Fin.ext ?_
  rw [pt_val _ t.isLt]
  show r.val + 3200 * t.val = _
  omega

/-- Every point is a row of a block. -/
theorem pt_surj (p : Fin 320000) : ∃ t < 100, ∃ r, p = pt t r := by
  obtain ⟨⟨t, r⟩, h⟩ := (finProdFinEquiv (m := 100) (n := 3200)).surjective p
  exact ⟨t.val, t.isLt, r, h.symm.trans (pt_eq t r)⟩

/-- A sum over the blocks' rows is a sum over the points. -/
theorem sum_pt (f : Fin 320000 → EReal) : ∑ t ∈ Finset.range 100, ∑ r, f (pt t r) = ∑ p, f p := by
  rw [Finset.sum_range, ← Fintype.sum_prod_type' fun (t : Fin 100) (r : Fin 3200) => f (pt t.val r)]
  refine Fintype.sum_equiv (finProdFinEquiv (m := 100) (n := 3200)) _ _ fun x => ?_
  rw [← pt_eq]

/-- A bound on every row of every block is a bound on every point. -/
theorem all_pt (P : Fin 320000 → Prop) : (∀ t < 100, ∀ r, P (pt t r)) ↔ ∀ p, P p :=
  ⟨fun h p => by obtain ⟨t, ht, r, rfl⟩ := pt_surj p; exact h t ht r, fun h _ _ _ => h _⟩

end Cert.Proof.KI

end
-- ==== Proof.Arr0.lean ====
/-
  What the statistics region leaves: the centre and the count of every segment.
-/
module

public import proofs.«01_k».proof.Proof.Val0
public import proofs.«01_k».proof.Proof.PointSums

@[expose] public section

set_option maxRecDepth 16384

noncomputable section

namespace Cert.Proof.KI

open Cert.KernelIdeal Cert.KernelIdeal.Gen
open Idealize.ShloMosaic

theorem part_pos (D : Inp) (s : ℕ) (k : Fin 4) (h : k.val < 3) : part D 100 s k = D.sm s ⟨k.val, h⟩ := by
  unfold part Inp.sm
  rw [← sum_pt]
  simp only [col, dif_pos h]

theorem part_one (D : Inp) (s : ℕ) : part D 100 s 3 = D.cnt s := by
  unfold part Inp.cnt
  rw [← sum_pt]
  rfl

theorem last0 : 99 < (cfg0 (F := Ideal)).N := lt_of_lt_of_eq (by decide : 99 < 100) (show (cfg0 (F := Ideal)).N = 100 from N_0).symm

variable (D : Inp) (V : Bufs Ideal) (c : Dev nD)
variable (hids : ∀ t, Ids (k0_pay2 (F := Ideal) (blk0_0 V c t)) fun r => D.I (pt t.val r))
variable (hpos : ∀ p k, (V c main_arg0 : FVec Ideal S320000x3 .f32) (ix2 p k) = D.pos p k)

include hids hpos

theorem acc0_stat (s : Fin 10752) (k : Fin 4) : acc0 V c 100 (ix2 s k) = D.stat s.val k := by
  rw [acc0_last D V c hids hpos, part_one]
  unfold Inp.stat Inp.cen
  by_cases h : k.val < 3
  · rw [dif_pos h, dif_pos h, part_pos D s.val k h]
  · rw [dif_neg h, dif_neg h]

/-- The table the region leaves. -/
theorem arr0 : (dat0 V c).arrAt 2 (cfg0 (F := Ideal)).N = fun j : S10752x4.Idx => D.stat (j 0).val (j 1) := by
  refine (dat0 V c).arrAt_eq_of_after_last 2 ⟨99, last0⟩ (by decide +kernel) _ fun j => ?_
  blk_simp
  idx_vars j
  exact acc0_stat D V c hids hpos _ _

end Cert.Proof.KI

end
-- ==== Proof.SuffixMath.lean ====
/-
  The largest value over the rest of a row's segment, by doubling, and the rows that lead a segment; over sorted ids.
  A maximum is described by the bounds above it.
-/
module

public import Mathlib.Data.EReal.Basic

@[expose] public section

namespace Cert.Proof

/-- `x r` is the largest of `f` over the rows from `r` on, fewer than `w` further, that carry the id of `r`. -/
def SufOk (I : Fin 3200 → ℕ) (f : Fin 3200 → EReal) (w : ℕ) (x : Fin 3200 → EReal) : Prop :=
  ∀ r b, x r ≤ b ↔ ∀ r' : Fin 3200, r.val ≤ r'.val → r'.val < r.val + w → I r' = I r → f r' ≤ b

theorem SufOk.one (I : Fin 3200 → ℕ) (f : Fin 3200 → EReal) : SufOk I f 1 f := fun r b => by
  constructor
  · intro h r' h1 h2 _
    have : r' = r := Fin.ext (by omega)
    rw [this]; exact h
  · intro h
    exact h r (le_refl _) (by omega) rfl

/-- One doubling: where the row `w` further carries the same id its maximum is taken in. -/
theorem SufOk.double {I : Fin 3200 → ℕ} (hI : ∀ r r' : Fin 3200, r.val ≤ r'.val → I r ≤ I r') {f x y : Fin 3200 → EReal} {w : ℕ} (hx : SufOk I f w x)
    (hy : ∀ r : Fin 3200, y r = if h : r.val + w < 3200 then (if I r = I ⟨r.val + w, h⟩ then max (x r) (x ⟨r.val + w, h⟩) else x r) else x r) :
    SufOk I f (w + w) y := fun r b => by
  rw [hy]
  by_cases h : r.val + w < 3200
  · rw [dif_pos h]
    by_cases h2 : I r = I ⟨r.val + w, h⟩
    · rw [if_pos h2, max_le_iff, hx r, hx ⟨r.val + w, h⟩]
      constructor
      · rintro ⟨h3, h4⟩ r' h5 h6 h7
        by_cases h8 : r'.val < r.val + w
        · exact h3 r' h5 h8 h7
        · exact h4 r' (by show r.val + w ≤ _; omega) (by show _ < r.val + w + w; omega) (h7.trans h2)
      · intro h3
        exact ⟨fun r' h5 h6 h7 => h3 r' h5 (by omega) h7, fun r' h5 h6 h7 => h3 r' (by have : r.val + w ≤ r'.val := h5; omega)
          (by have : r'.val < r.val + w + w := h6; omega) (h7.trans h2.symm)⟩
    · rw [if_neg h2, hx r]
      constructor
      · intro h3 r' h5 h6 h7
        by_cases h8 : r'.val < r.val + w
        · exact h3 r' h5 h8 h7
        · exfalso
          apply h2
          have a1 := hI r ⟨r.val + w, h⟩ (by show _ ≤ r.val + w; omega)
          have a2 := hI ⟨r.val + w, h⟩ r' (by show r.val + w ≤ _; omega)
          omega
      · intro h3 r' h5 h6 h7
        exact h3 r' h5 (by omega) h7
  · rw [dif_neg h, hx r]
    constructor
    · intro h3 r' h5 h6 h7
      exact h3 r' h5 (by have := r'.isLt; omega) h7
    · intro h3 r' h5 h6 h7
      exact h3 r' h5 (by omega) h7

/-- Row `r` is the first of the block, or the row before it carries another id. -/
def Lead (I : Fin 3200 → ℕ) (r : Fin 3200) : Prop := r.val = 0 ∨ I r ≠ I ⟨r.val - 1, by omega⟩

instance (I : Fin 3200 → ℕ) : DecidablePred (Lead I) := fun r => by unfold Lead; infer_instance

section

variable {I : Fin 3200 → ℕ} (hI : ∀ r r' : Fin 3200, r.val ≤ r'.val → I r ≤ I r')

include hI

theorem lead_le {r r' : Fin 3200} (h : I r = I r') (h' : Lead I r') : r'.val ≤ r.val := by
  by_contra hlt
  rcases h' with h1 | h1
  · omega
  · apply h1
    have a1 := hI r ⟨r'.val - 1, by omega⟩ (by show _ ≤ r'.val - 1; omega)
    have a2 := hI ⟨r'.val - 1, by omega⟩ r' (by show r'.val - 1 ≤ _; omega)
    omega

/-- A segment has one leading row in a block. -/
theorem lead_unique (r r' : Fin 3200) (h : I r = I r') (h1 : Lead I r) (h2 : Lead I r') : r = r' :=
  Fin.ext (le_antisymm (lead_le hI h.symm h1) (lead_le hI h h2))

omit hI in
/-- Every row has its segment's leading row at or above it. -/
theorem lead_exists : ∀ (n : ℕ) (r : Fin 3200), r.val = n → ∃ r', Lead I r' ∧ I r' = I r := by
  intro n
  induction n with
  | zero => intro r hr; exact ⟨r, Or.inl hr, rfl⟩
  | succ n ih =>
    intro r hr
    by_cases h : I r = I ⟨r.val - 1, by omega⟩
    · obtain ⟨r', h1, h2⟩ := ih ⟨r.val - 1, by omega⟩ (by show r.val - 1 = n; omega)
      exact ⟨r', h1, h2.trans h.symm⟩
    · exact ⟨r, Or.inr h, rfl⟩

/-- The maxima at the leading rows are the maxima of the segments. -/
theorem lead_max {f x : Fin 3200 → EReal} {w : ℕ} (hw : 3200 ≤ w) (hx : SufOk I f w x) (s : ℕ) (b : EReal) :
    (∀ r, I r = s → Lead I r → x r ≤ b) ↔ ∀ r, I r = s → f r ≤ b := by
  constructor
  · intro h r hr
    obtain ⟨r', h1, h2⟩ := lead_exists r.val r rfl
    refine (hx r' b).mp (h r' (h2.trans hr) h1) r (lead_le hI h2.symm h1) (by have := r.isLt; omega) h2.symm
  · intro h r hr _
    exact (hx r b).mpr fun r' _ _ h3 => h r' (h3.trans hr)

end

end Cert.Proof

end
-- ==== Proof.SuffixSteps.lean ====
/-
  The twelve doublings of the suffix maximum as the kernels print them, and the leading rows.
-/
module

public import proofs.«01_k».proof.Proof.Body1
public import proofs.«01_k».proof.Proof.Body2
public import proofs.«01_k».proof.Proof.Hot
public import proofs.«01_k».proof.Proof.StepMax
public import proofs.«01_k».proof.Proof.SuffixMath

@[expose] public section

set_option maxRecDepth 16384

noncomputable section

namespace Cert.Proof.KI

open Cert.KernelIdeal Cert.KernelIdeal.Gen
open Idealize.ShloMosaic

/-- The choice a doubling makes at a row, on the words of the two ids. -/
theorem dbl (n : ℕ) (hn : n < 10000) (c : Prop) [Decidable c] (m : c → ℕ) (hm : ∀ h, m h < 10000) (x : EReal) (y : c → EReal) :
    Scalar.select (IntOp.cmpi .eq (BitVec.ofNat 32 n) (if h : c then BitVec.ofNat 32 (m h) else 4294967294#32)) (max x (if h : c then y h else (⊥ : EReal))) x
      = if h : c then (if n = m h then max x (y h) else x) else x := by
  by_cases h : c
  · simp only [dif_pos h]
    rw [cmpi_eq_one]
    simp only [ofNat_inj n (m h) (by omega) (by have := hm h; omega)]
    by_cases h2 : n = m h
    · rw [if_pos h2, if_pos h2]; rfl
    · rw [if_neg h2, if_neg h2]; rfl
  · simp only [dif_neg h]
    rw [cmpi_eq_one, if_neg]
    · rfl
    · intro h2
      have := congrArg BitVec.toNat h2
      rw [BitVec.toNat_ofNat, Nat.mod_eq_of_lt (by omega)] at this
      have h3 : (4294967294#32 : BitVec 32).toNat = 4294967294 := by decide
      omega

variable {v4 : IVec S3200x1 32} {I : Fin 3200 → ℕ} {f : Fin 3200 → EReal}

/-- The doubling by 1, over 1 column. -/
def rad1 {F : FTy → Type} [FloatOps F] (v4 : IVec S3200x1 32) (x : FVec F S3200x1 .f32) : FVec F S3200x1 .f32 :=
  select (cmpi .eq v4 (concatenate S3200x1 0 [⟨S3199x1, extractStridedSlice S3199x1 ![1, 0] v4 slices_S3200x1_o1_0_S3199x1⟩, ⟨S1x1, broadcast S1x1 4294967294#32⟩] concatenates_S3199x1_S1x1_S3200x1_d0)) (maximumf x (concatenate S3200x1 0 [⟨S3199x1, extractStridedSlice S3199x1 ![1, 0] x slices_S3200x1_o1_0_S3199x1⟩, ⟨S1x1, broadcast S1x1 (Scalar.ofBits .f32 0xFF800000#32)⟩] concatenates_S3199x1_S1x1_S3200x1_d0)) x

theorem rad1_ok (h : Ids v4 I) (hI : ∀ r r' : Fin 3200, r.val ≤ r'.val → I r ≤ I r') (x : FVec Ideal S3200x1 .f32)
    (hx : SufOk I f 1 fun r => x (ix2 r 0)) : SufOk I f 2 fun r => rad1 v4 x (ix2 r 0) := by
  refine SufOk.double hI hx fun r => ?_
  unfold rad1
  pointwise
  rw [ofBits_neg_inf]
  simp only [ids_ix2 h]
  have e : ∀ h', (⟨1 + r.val, h'⟩ : Fin 3200) = ⟨r.val + 1, by omega⟩ := fun _ => Fin.ext (by show 1 + r.val = r.val + 1; omega)
  refine (dbl (I r) (h.lt r) (r.val < 3199) (fun h' => I ⟨1 + r.val, by omega⟩) (fun _ => h.lt _) (x (ix2 r 0)) fun h' => x (ix2 ⟨1 + r.val, by omega⟩ 0)).trans ?_
  simp only [e]
  by_cases hc : r.val < 3199
  · rw [dif_pos hc, dif_pos (by omega)]
  · rw [dif_neg hc, dif_neg (by omega)]

/-- The doubling by 2, over 1 column. -/
def rad2 {F : FTy → Type} [FloatOps F] (v4 : IVec S3200x1 32) (x : FVec F S3200x1 .f32) : FVec F S3200x1 .f32 :=
  select (cmpi .eq v4 (concatenate S3200x1 0 [⟨S3198x1, extractStridedSlice S3198x1 ![2, 0] v4 slices_S3200x1_o2_0_S3198x1⟩, ⟨S2x1, broadcast S2x1 4294967294#32⟩] concatenates_S3198x1_S2x1_S3200x1_d0)) (maximumf x (concatenate S3200x1 0 [⟨S3198x1, extractStridedSlice S3198x1 ![2, 0] x slices_S3200x1_o2_0_S3198x1⟩, ⟨S2x1, broadcast S2x1 (Scalar.ofBits .f32 0xFF800000#32)⟩] concatenates_S3198x1_S2x1_S3200x1_d0)) x

theorem rad2_ok (h : Ids v4 I) (hI : ∀ r r' : Fin 3200, r.val ≤ r'.val → I r ≤ I r') (x : FVec Ideal S3200x1 .f32)
    (hx : SufOk I f 2 fun r => x (ix2 r 0)) : SufOk I f 4 fun r => rad2 v4 x (ix2 r 0) := by
  refine SufOk.double hI hx fun r => ?_
  unfold rad2
  pointwise
  rw [ofBits_neg_inf]
  simp only [ids_ix2 h]
  have e : ∀ h', (⟨2 + r.val, h'⟩ : Fin 3200) = ⟨r.val + 2, by omega⟩ := fun _ => Fin.ext (by show 2 + r.val = r.val + 2; omega)
  refine (dbl (I r) (h.lt r) (r.val < 3198) (fun h' => I ⟨2 + r.val, by omega⟩) (fun _ => h.lt _) (x (ix2 r 0)) fun h' => x (ix2 ⟨2 + r.val, by omega⟩ 0)).trans ?_
  simp only [e]
  by_cases hc : r.val < 3198
  · rw [dif_pos hc, dif_pos (by omega)]
  · rw [dif_neg hc, dif_neg (by omega)]

/-- The doubling by 4, over 1 column. -/
def rad4 {F : FTy → Type} [FloatOps F] (v4 : IVec S3200x1 32) (x : FVec F S3200x1 .f32) : FVec F S3200x1 .f32 :=
  select (cmpi .eq v4 (concatenate S3200x1 0 [⟨S3196x1, extractStridedSlice S3196x1 ![4, 0] v4 slices_S3200x1_o4_0_S3196x1⟩, ⟨S4x1, broadcast S4x1 4294967294#32⟩] concatenates_S3196x1_S4x1_S3200x1_d0)) (maximumf x (concatenate S3200x1 0 [⟨S3196x1, extractStridedSlice S3196x1 ![4, 0] x slices_S3200x1_o4_0_S3196x1⟩, ⟨S4x1, broadcast S4x1 (Scalar.ofBits .f32 0xFF800000#32)⟩] concatenates_S3196x1_S4x1_S3200x1_d0)) x

theorem rad4_ok (h : Ids v4 I) (hI : ∀ r r' : Fin 3200, r.val ≤ r'.val → I r ≤ I r') (x : FVec Ideal S3200x1 .f32)
    (hx : SufOk I f 4 fun r => x (ix2 r 0)) : SufOk I f 8 fun r => rad4 v4 x (ix2 r 0) := by
  refine SufOk.double hI hx fun r => ?_
  unfold rad4
  pointwise
  rw [ofBits_neg_inf]
  simp only [ids_ix2 h]
  have e : ∀ h', (⟨4 + r.val, h'⟩ : Fin 3200) = ⟨r.val + 4, by omega⟩ := fun _ => Fin.ext (by show 4 + r.val = r.val + 4; omega)
  refine (dbl (I r) (h.lt r) (r.val < 3196) (fun h' => I ⟨4 + r.val, by omega⟩) (fun _ => h.lt _) (x (ix2 r 0)) fun h' => x (ix2 ⟨4 + r.val, by omega⟩ 0)).trans ?_
  simp only [e]
  by_cases hc : r.val < 3196
  · rw [dif_pos hc, dif_pos (by omega)]
  · rw [dif_neg hc, dif_neg (by omega)]

/-- The doubling by 8, over 1 column. -/
def rad8 {F : FTy → Type} [FloatOps F] (v4 : IVec S3200x1 32) (x : FVec F S3200x1 .f32) : FVec F S3200x1 .f32 :=
  select (cmpi .eq v4 (concatenate S3200x1 0 [⟨S3192x1, extractStridedSlice S3192x1 ![8, 0] v4 slices_S3200x1_o8_0_S3192x1⟩, ⟨S8x1, broadcast S8x1 4294967294#32⟩] concatenates_S3192x1_S8x1_S3200x1_d0)) (maximumf x (concatenate S3200x1 0 [⟨S3192x1, extractStridedSlice S3192x1 ![8, 0] x slices_S3200x1_o8_0_S3192x1⟩, ⟨S8x1, broadcast S8x1 (Scalar.ofBits .f32 0xFF800000#32)⟩] concatenates_S3192x1_S8x1_S3200x1_d0)) x

theorem rad8_ok (h : Ids v4 I) (hI : ∀ r r' : Fin 3200, r.val ≤ r'.val → I r ≤ I r') (x : FVec Ideal S3200x1 .f32)
    (hx : SufOk I f 8 fun r => x (ix2 r 0)) : SufOk I f 16 fun r => rad8 v4 x (ix2 r 0) := by
  refine SufOk.double hI hx fun r => ?_
  unfold rad8
  pointwise
  rw [ofBits_neg_inf]
  simp only [ids_ix2 h]
  have e : ∀ h', (⟨8 + r.val, h'⟩ : Fin 3200) = ⟨r.val + 8, by omega⟩ := fun _ => Fin.ext (by show 8 + r.val = r.val + 8; omega)
  refine (dbl (I r) (h.lt r) (r.val < 3192) (fun h' => I ⟨8 + r.val, by omega⟩) (fun _ => h.lt _) (x (ix2 r 0)) fun h' => x (ix2 ⟨8 + r.val, by omega⟩ 0)).trans ?_
  simp only [e]
  by_cases hc : r.val < 3192
  · rw [dif_pos hc, dif_pos (by omega)]
  · rw [dif_neg hc, dif_neg (by omega)]

/-- The doubling by 16, over 1 column. -/
def rad16 {F : FTy → Type} [FloatOps F] (v4 : IVec S3200x1 32) (x : FVec F S3200x1 .f32) : FVec F S3200x1 .f32 :=
  select (cmpi .eq v4 (concatenate S3200x1 0 [⟨S3184x1, extractStridedSlice S3184x1 ![16, 0] v4 slices_S3200x1_o16_0_S3184x1⟩, ⟨S16x1, broadcast S16x1 4294967294#32⟩] concatenates_S3184x1_S16x1_S3200x1_d0)) (maximumf x (concatenate S3200x1 0 [⟨S3184x1, extractStridedSlice S3184x1 ![16, 0] x slices_S3200x1_o16_0_S3184x1⟩, ⟨S16x1, broadcast S16x1 (Scalar.ofBits .f32 0xFF800000#32)⟩] concatenates_S3184x1_S16x1_S3200x1_d0)) x

theorem rad16_ok (h : Ids v4 I) (hI : ∀ r r' : Fin 3200, r.val ≤ r'.val → I r ≤ I r') (x : FVec Ideal S3200x1 .f32)
    (hx : SufOk I f 16 fun r => x (ix2 r 0)) : SufOk I f 32 fun r => rad16 v4 x (ix2 r 0) := by
  refine SufOk.double hI hx fun r => ?_
  unfold rad16
  pointwise
  rw [ofBits_neg_inf]
  simp only [ids_ix2 h]
  have e : ∀ h', (⟨16 + r.val, h'⟩ : Fin 3200) = ⟨r.val + 16, by omega⟩ := fun _ => Fin.ext (by show 16 + r.val = r.val + 16; omega)
  refine (dbl (I r) (h.lt r) (r.val < 3184) (fun h' => I ⟨16 + r.val, by omega⟩) (fun _ => h.lt _) (x (ix2 r 0)) fun h' => x (ix2 ⟨16 + r.val, by omega⟩ 0)).trans ?_
  simp only [e]
  by_cases hc : r.val < 3184
  · rw [dif_pos hc, dif_pos (by omega)]
  · rw [dif_neg hc, dif_neg (by omega)]

/-- The doubling by 32, over 1 column. -/
def rad32 {F : FTy → Type} [FloatOps F] (v4 : IVec S3200x1 32) (x : FVec F S3200x1 .f32) : FVec F S3200x1 .f32 :=
  select (cmpi .eq v4 (concatenate S3200x1 0 [⟨S3168x1, extractStridedSlice S3168x1 ![32, 0] v4 slices_S3200x1_o32_0_S3168x1⟩, ⟨S32x1, broadcast S32x1 4294967294#32⟩] concatenates_S3168x1_S32x1_S3200x1_d0)) (maximumf x (concatenate S3200x1 0 [⟨S3168x1, extractStridedSlice S3168x1 ![32, 0] x slices_S3200x1_o32_0_S3168x1⟩, ⟨S32x1, broadcast S32x1 (Scalar.ofBits .f32 0xFF800000#32)⟩] concatenates_S3168x1_S32x1_S3200x1_d0)) x

theorem rad32_ok (h : Ids v4 I) (hI : ∀ r r' : Fin 3200, r.val ≤ r'.val → I r ≤ I r') (x : FVec Ideal S3200x1 .f32)
    (hx : SufOk I f 32 fun r => x (ix2 r 0)) : SufOk I f 64 fun r => rad32 v4 x (ix2 r 0) := by
  refine SufOk.double hI hx fun r => ?_
  unfold rad32
  pointwise
  rw [ofBits_neg_inf]
  simp only [ids_ix2 h]
  have e : ∀ h', (⟨32 + r.val, h'⟩ : Fin 3200) = ⟨r.val + 32, by omega⟩ := fun _ => Fin.ext (by show 32 + r.val = r.val + 32; omega)
  refine (dbl (I r) (h.lt r) (r.val < 3168) (fun h' => I ⟨32 + r.val, by omega⟩) (fun _ => h.lt _) (x (ix2 r 0)) fun h' => x (ix2 ⟨32 + r.val, by omega⟩ 0)).trans ?_
  simp only [e]
  by_cases hc : r.val < 3168
  · rw [dif_pos hc, dif_pos (by omega)]
  · rw [dif_neg hc, dif_neg (by omega)]

/-- The doubling by 64, over 1 column. -/
def rad64 {F : FTy → Type} [FloatOps F] (v4 : IVec S3200x1 32) (x : FVec F S3200x1 .f32) : FVec F S3200x1 .f32 :=
  select (cmpi .eq v4 (concatenate S3200x1 0 [⟨S3136x1, extractStridedSlice S3136x1 ![64, 0] v4 slices_S3200x1_o64_0_S3136x1⟩, ⟨S64x1, broadcast S64x1 4294967294#32⟩] concatenates_S3136x1_S64x1_S3200x1_d0)) (maximumf x (concatenate S3200x1 0 [⟨S3136x1, extractStridedSlice S3136x1 ![64, 0] x slices_S3200x1_o64_0_S3136x1⟩, ⟨S64x1, broadcast S64x1 (Scalar.ofBits .f32 0xFF800000#32)⟩] concatenates_S3136x1_S64x1_S3200x1_d0)) x

theorem rad64_ok (h : Ids v4 I) (hI : ∀ r r' : Fin 3200, r.val ≤ r'.val → I r ≤ I r') (x : FVec Ideal S3200x1 .f32)
    (hx : SufOk I f 64 fun r => x (ix2 r 0)) : SufOk I f 128 fun r => rad64 v4 x (ix2 r 0) := by
  refine SufOk.double hI hx fun r => ?_
  unfold rad64
  pointwise
  rw [ofBits_neg_inf]
  simp only [ids_ix2 h]
  have e : ∀ h', (⟨64 + r.val, h'⟩ : Fin 3200) = ⟨r.val + 64, by omega⟩ := fun _ => Fin.ext (by show 64 + r.val = r.val + 64; omega)
  refine (dbl (I r) (h.lt r) (r.val < 3136) (fun h' => I ⟨64 + r.val, by omega⟩) (fun _ => h.lt _) (x (ix2 r 0)) fun h' => x (ix2 ⟨64 + r.val, by omega⟩ 0)).trans ?_
  simp only [e]
  by_cases hc : r.val < 3136
  · rw [dif_pos hc, dif_pos (by omega)]
  · rw [dif_neg hc, dif_neg (by omega)]

/-- The doubling by 128, over 1 column. -/
def rad128 {F : FTy → Type} [FloatOps F] (v4 : IVec S3200x1 32) (x : FVec F S3200x1 .f32) : FVec F S3200x1 .f32 :=
  select (cmpi .eq v4 (concatenate S3200x1 0 [⟨S3072x1, extractStridedSlice S3072x1 ![128, 0] v4 slices_S3200x1_o128_0_S3072x1⟩, ⟨S128x1, broadcast S128x1 4294967294#32⟩] concatenates_S3072x1_S128x1_S3200x1_d0)) (maximumf x (concatenate S3200x1 0 [⟨S3072x1, extractStridedSlice S3072x1 ![128, 0] x slices_S3200x1_o128_0_S3072x1⟩, ⟨S128x1, broadcast S128x1 (Scalar.ofBits .f32 0xFF800000#32)⟩] concatenates_S3072x1_S128x1_S3200x1_d0)) x

theorem rad128_ok (h : Ids v4 I) (hI : ∀ r r' : Fin 3200, r.val ≤ r'.val → I r ≤ I r') (x : FVec Ideal S3200x1 .f32)
    (hx : SufOk I f 128 fun r => x (ix2 r 0)) : SufOk I f 256 fun r => rad128 v4 x (ix2 r 0) := by
  refine SufOk.double hI hx fun r => ?_
  unfold rad128
  pointwise
  rw [ofBits_neg_inf]
  simp only [ids_ix2 h]
  have e : ∀ h', (⟨128 + r.val, h'⟩ : Fin 3200) = ⟨r.val + 128, by omega⟩ := fun _ => Fin.ext (by show 128 + r.val = r.val + 128; omega)
  refine (dbl (I r) (h.lt r) (r.val < 3072) (fun h' => I ⟨128 + r.val, by omega⟩) (fun _ => h.lt _) (x (ix2 r 0)) fun h' => x (ix2 ⟨128 + r.val, by omega⟩ 0)).trans ?_
  simp only [e]
  by_cases hc : r.val < 3072
  · rw [dif_pos hc, dif_pos (by omega)]
  · rw [dif_neg hc, dif_neg (by omega)]

/-- The doubling by 256, over 1 column. -/
def rad256 {F : FTy → Type} [FloatOps F] (v4 : IVec S3200x1 32) (x : FVec F S3200x1 .f32) : FVec F S3200x1 .f32 :=
  select (cmpi .eq v4 (concatenate S3200x1 0 [⟨S2944x1, extractStridedSlice S2944x1 ![256, 0] v4 slices_S3200x1_o256_0_S2944x1⟩, ⟨S256x1, broadcast S256x1 4294967294#32⟩] concatenates_S2944x1_S256x1_S3200x1_d0)) (maximumf x (concatenate S3200x1 0 [⟨S2944x1, extractStridedSlice S2944x1 ![256, 0] x slices_S3200x1_o256_0_S2944x1⟩, ⟨S256x1, broadcast S256x1 (Scalar.ofBits .f32 0xFF800000#32)⟩] concatenates_S2944x1_S256x1_S3200x1_d0)) x

theorem rad256_ok (h : Ids v4 I) (hI : ∀ r r' : Fin 3200, r.val ≤ r'.val → I r ≤ I r') (x : FVec Ideal S3200x1 .f32)
    (hx : SufOk I f 256 fun r => x (ix2 r 0)) : SufOk I f 512 fun r => rad256 v4 x (ix2 r 0) := by
  refine SufOk.double hI hx fun r => ?_
  unfold rad256
  pointwise
  rw [ofBits_neg_inf]
  simp only [ids_ix2 h]
  have e : ∀ h', (⟨256 + r.val, h'⟩ : Fin 3200) = ⟨r.val + 256, by omega⟩ := fun _ => Fin.ext (by show 256 + r.val = r.val + 256; omega)
  refine (dbl (I r) (h.lt r) (r.val < 2944) (fun h' => I ⟨256 + r.val, by omega⟩) (fun _ => h.lt _) (x (ix2 r 0)) fun h' => x (ix2 ⟨256 + r.val, by omega⟩ 0)).trans ?_
  simp only [e]
  by_cases hc : r.val < 2944
  · rw [dif_pos hc, dif_pos (by omega)]
  · rw [dif_neg hc, dif_neg (by omega)]

/-- The doubling by 512, over 1 column. -/
def rad512 {F : FTy → Type} [FloatOps F] (v4 : IVec S3200x1 32) (x : FVec F S3200x1 .f32) : FVec F S3200x1 .f32 :=
  select (cmpi .eq v4 (concatenate S3200x1 0 [⟨S2688x1, extractStridedSlice S2688x1 ![512, 0] v4 slices_S3200x1_o512_0_S2688x1⟩, ⟨S512x1, broadcast S512x1 4294967294#32⟩] concatenates_S2688x1_S512x1_S3200x1_d0)) (maximumf x (concatenate S3200x1 0 [⟨S2688x1, extractStridedSlice S2688x1 ![512, 0] x slices_S3200x1_o512_0_S2688x1⟩, ⟨S512x1, broadcast S512x1 (Scalar.ofBits .f32 0xFF800000#32)⟩] concatenates_S2688x1_S512x1_S3200x1_d0)) x

theorem rad512_ok (h : Ids v4 I) (hI : ∀ r r' : Fin 3200, r.val ≤ r'.val → I r ≤ I r') (x : FVec Ideal S3200x1 .f32)
    (hx : SufOk I f 512 fun r => x (ix2 r 0)) : SufOk I f 1024 fun r => rad512 v4 x (ix2 r 0) := by
  refine SufOk.double hI hx fun r => ?_
  unfold rad512
  pointwise
  rw [ofBits_neg_inf]
  simp only [ids_ix2 h]
  have e : ∀ h', (⟨512 + r.val, h'⟩ : Fin 3200) = ⟨r.val + 512, by omega⟩ := fun _ => Fin.ext (by show 512 + r.val = r.val + 512; omega)
  refine (dbl (I r) (h.lt r) (r.val < 2688) (fun h' => I ⟨512 + r.val, by omega⟩) (fun _ => h.lt _) (x (ix2 r 0)) fun h' => x (ix2 ⟨512 + r.val, by omega⟩ 0)).trans ?_
  simp only [e]
  by_cases hc : r.val < 2688
  · rw [dif_pos hc, dif_pos (by omega)]
  · rw [dif_neg hc, dif_neg (by omega)]

/-- The doubling by 1024, over 1 column. -/
def rad1024 {F : FTy → Type} [FloatOps F] (v4 : IVec S3200x1 32) (x : FVec F S3200x1 .f32) : FVec F S3200x1 .f32 :=
  select (cmpi .eq v4 (concatenate S3200x1 0 [⟨S2176x1, extractStridedSlice S2176x1 ![1024, 0] v4 slices_S3200x1_o1024_0_S2176x1⟩, ⟨S1024x1, broadcast S1024x1 4294967294#32⟩] concatenates_S2176x1_S1024x1_S3200x1_d0)) (maximumf x (concatenate S3200x1 0 [⟨S2176x1, extractStridedSlice S2176x1 ![1024, 0] x slices_S3200x1_o1024_0_S2176x1⟩, ⟨S1024x1, broadcast S1024x1 (Scalar.ofBits .f32 0xFF800000#32)⟩] concatenates_S2176x1_S1024x1_S3200x1_d0)) x

theorem rad1024_ok (h : Ids v4 I) (hI : ∀ r r' : Fin 3200, r.val ≤ r'.val → I r ≤ I r') (x : FVec Ideal S3200x1 .f32)
    (hx : SufOk I f 1024 fun r => x (ix2 r 0)) : SufOk I f 2048 fun r => rad1024 v4 x (ix2 r 0) := by
  refine SufOk.double hI hx fun r => ?_
  unfold rad1024
  pointwise
  rw [ofBits_neg_inf]
  simp only [ids_ix2 h]
  have e : ∀ h', (⟨1024 + r.val, h'⟩ : Fin 3200) = ⟨r.val + 1024, by omega⟩ := fun _ => Fin.ext (by show 1024 + r.val = r.val + 1024; omega)
  refine (dbl (I r) (h.lt r) (r.val < 2176) (fun h' => I ⟨1024 + r.val, by omega⟩) (fun _ => h.lt _) (x (ix2 r 0)) fun h' => x (ix2 ⟨1024 + r.val, by omega⟩ 0)).trans ?_
  simp only [e]
  by_cases hc : r.val < 2176
  · rw [dif_pos hc, dif_pos (by omega)]
  · rw [dif_neg hc, dif_neg (by omega)]

/-- The doubling by 2048, over 1 column. -/
def rad2048 {F : FTy → Type} [FloatOps F] (v4 : IVec S3200x1 32) (x : FVec F S3200x1 .f32) : FVec F S3200x1 .f32 :=
  select (cmpi .eq v4 (concatenate S3200x1 0 [⟨S1152x1, extractStridedSlice S1152x1 ![2048, 0] v4 slices_S3200x1_o2048_0_S1152x1⟩, ⟨S2048x1, broadcast S2048x1 4294967294#32⟩] concatenates_S1152x1_S2048x1_S3200x1_d0)) (maximumf x (concatenate S3200x1 0 [⟨S1152x1, extractStridedSlice S1152x1 ![2048, 0] x slices_S3200x1_o2048_0_S1152x1⟩, ⟨S2048x1, broadcast S2048x1 (Scalar.ofBits .f32 0xFF800000#32)⟩] concatenates_S1152x1_S2048x1_S3200x1_d0)) x

theorem rad2048_ok (h : Ids v4 I) (hI : ∀ r r' : Fin 3200, r.val ≤ r'.val → I r ≤ I r') (x : FVec Ideal S3200x1 .f32)
    (hx : SufOk I f 2048 fun r => x (ix2 r 0)) : SufOk I f 4096 fun r => rad2048 v4 x (ix2 r 0) := by
  refine SufOk.double hI hx fun r => ?_
  unfold rad2048
  pointwise
  rw [ofBits_neg_inf]
  simp only [ids_ix2 h]
  have e : ∀ h', (⟨2048 + r.val, h'⟩ : Fin 3200) = ⟨r.val + 2048, by omega⟩ := fun _ => Fin.ext (by show 2048 + r.val = r.val + 2048; omega)
  refine (dbl (I r) (h.lt r) (r.val < 1152) (fun h' => I ⟨2048 + r.val, by omega⟩) (fun _ => h.lt _) (x (ix2 r 0)) fun h' => x (ix2 ⟨2048 + r.val, by omega⟩ 0)).trans ?_
  simp only [e]
  by_cases hc : r.val < 1152
  · rw [dif_pos hc, dif_pos (by omega)]
  · rw [dif_neg hc, dif_neg (by omega)]

/-- The doubling by 1, over 128 columns. -/
def pnt1 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S3199x1, extractStridedSlice S3199x1 ![1, 0] v4 slices_S3200x1_o1_0_S3199x1⟩, ⟨S1x1, broadcast S1x1 4294967294#32⟩] concatenates_S3199x1_S1x1_S3200x1_d0)) shapeCasts_S3200x1_S3200x1) broadcasts_S3200x1_S3200x128) (maximumf x (concatenate S3200x128 0 [⟨S3199x128, extractStridedSlice S3199x128 ![1, 0] x slices_S3200x128_o1_0_S3199x128⟩, ⟨S1x128, broadcast S1x128 (Scalar.ofBits .f32 0xFF800000#32)⟩] concatenates_S3199x128_S1x128_S3200x128_d0)) x

theorem pnt1_ok (h : Ids v4 I) (hI : ∀ r r' : Fin 3200, r.val ≤ r'.val → I r ≤ I r') (x : FVec Ideal S3200x128 .f32) (k : Fin 128)
    (hx : SufOk I f 1 fun r => x (ix2 r k)) : SufOk I f 2 fun r => pnt1 v4 x (ix2 r k) := by
  refine SufOk.double hI hx fun r => ?_
  unfold pnt1
  pointwise
  rw [ofBits_neg_inf]
  simp only [ids_ix2 h]
  have e : ∀ h', (⟨1 + r.val, h'⟩ : Fin 3200) = ⟨r.val + 1, by omega⟩ := fun _ => Fin.ext (by show 1 + r.val = r.val + 1; omega)
  refine (dbl (I r) (h.lt r) (r.val < 3199) (fun h' => I ⟨1 + r.val, by omega⟩) (fun _ => h.lt _) (x (ix2 r k)) fun h' => x (ix2 ⟨1 + r.val, by omega⟩ k)).trans ?_
  simp only [e]
  by_cases hc : r.val < 3199
  · rw [dif_pos hc, dif_pos (by omega)]
  · rw [dif_neg hc, dif_neg (by omega)]

/-- The doubling by 2, over 128 columns. -/
def pnt2 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S3198x1, extractStridedSlice S3198x1 ![2, 0] v4 slices_S3200x1_o2_0_S3198x1⟩, ⟨S2x1, broadcast S2x1 4294967294#32⟩] concatenates_S3198x1_S2x1_S3200x1_d0)) shapeCasts_S3200x1_S3200x1) broadcasts_S3200x1_S3200x128) (maximumf x (concatenate S3200x128 0 [⟨S3198x128, extractStridedSlice S3198x128 ![2, 0] x slices_S3200x128_o2_0_S3198x128⟩, ⟨S2x128, broadcast S2x128 (Scalar.ofBits .f32 0xFF800000#32)⟩] concatenates_S3198x128_S2x128_S3200x128_d0)) x

theorem pnt2_ok (h : Ids v4 I) (hI : ∀ r r' : Fin 3200, r.val ≤ r'.val → I r ≤ I r') (x : FVec Ideal S3200x128 .f32) (k : Fin 128)
    (hx : SufOk I f 2 fun r => x (ix2 r k)) : SufOk I f 4 fun r => pnt2 v4 x (ix2 r k) := by
  refine SufOk.double hI hx fun r => ?_
  unfold pnt2
  pointwise
  rw [ofBits_neg_inf]
  simp only [ids_ix2 h]
  have e : ∀ h', (⟨2 + r.val, h'⟩ : Fin 3200) = ⟨r.val + 2, by omega⟩ := fun _ => Fin.ext (by show 2 + r.val = r.val + 2; omega)
  refine (dbl (I r) (h.lt r) (r.val < 3198) (fun h' => I ⟨2 + r.val, by omega⟩) (fun _ => h.lt _) (x (ix2 r k)) fun h' => x (ix2 ⟨2 + r.val, by omega⟩ k)).trans ?_
  simp only [e]
  by_cases hc : r.val < 3198
  · rw [dif_pos hc, dif_pos (by omega)]
  · rw [dif_neg hc, dif_neg (by omega)]

/-- The doubling by 4, over 128 columns. -/
def pnt4 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S3196x1, extractStridedSlice S3196x1 ![4, 0] v4 slices_S3200x1_o4_0_S3196x1⟩, ⟨S4x1, broadcast S4x1 4294967294#32⟩] concatenates_S3196x1_S4x1_S3200x1_d0)) shapeCasts_S3200x1_S3200x1) broadcasts_S3200x1_S3200x128) (maximumf x (concatenate S3200x128 0 [⟨S3196x128, extractStridedSlice S3196x128 ![4, 0] x slices_S3200x128_o4_0_S3196x128⟩, ⟨S4x128, broadcast S4x128 (Scalar.ofBits .f32 0xFF800000#32)⟩] concatenates_S3196x128_S4x128_S3200x128_d0)) x

theorem pnt4_ok (h : Ids v4 I) (hI : ∀ r r' : Fin 3200, r.val ≤ r'.val → I r ≤ I r') (x : FVec Ideal S3200x128 .f32) (k : Fin 128)
    (hx : SufOk I f 4 fun r => x (ix2 r k)) : SufOk I f 8 fun r => pnt4 v4 x (ix2 r k) := by
  refine SufOk.double hI hx fun r => ?_
  unfold pnt4
  pointwise
  rw [ofBits_neg_inf]
  simp only [ids_ix2 h]
  have e : ∀ h', (⟨4 + r.val, h'⟩ : Fin 3200) = ⟨r.val + 4, by omega⟩ := fun _ => Fin.ext (by show 4 + r.val = r.val + 4; omega)
  refine (dbl (I r) (h.lt r) (r.val < 3196) (fun h' => I ⟨4 + r.val, by omega⟩) (fun _ => h.lt _) (x (ix2 r k)) fun h' => x (ix2 ⟨4 + r.val, by omega⟩ k)).trans ?_
  simp only [e]
  by_cases hc : r.val < 3196
  · rw [dif_pos hc, dif_pos (by omega)]
  · rw [dif_neg hc, dif_neg (by omega)]

/-- The doubling by 8, over 128 columns. -/
def pnt8 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S3192x1, extractStridedSlice S3192x1 ![8, 0] v4 slices_S3200x1_o8_0_S3192x1⟩, ⟨S8x1, broadcast S8x1 4294967294#32⟩] concatenates_S3192x1_S8x1_S3200x1_d0)) shapeCasts_S3200x1_S3200x1) broadcasts_S3200x1_S3200x128) (maximumf x (concatenate S3200x128 0 [⟨S3192x128, extractStridedSlice S3192x128 ![8, 0] x slices_S3200x128_o8_0_S3192x128⟩, ⟨S8x128, broadcast S8x128 (Scalar.ofBits .f32 0xFF800000#32)⟩] concatenates_S3192x128_S8x128_S3200x128_d0)) x

theorem pnt8_ok (h : Ids v4 I) (hI : ∀ r r' : Fin 3200, r.val ≤ r'.val → I r ≤ I r') (x : FVec Ideal S3200x128 .f32) (k : Fin 128)
    (hx : SufOk I f 8 fun r => x (ix2 r k)) : SufOk I f 16 fun r => pnt8 v4 x (ix2 r k) := by
  refine SufOk.double hI hx fun r => ?_
  unfold pnt8
  pointwise
  rw [ofBits_neg_inf]
  simp only [ids_ix2 h]
  have e : ∀ h', (⟨8 + r.val, h'⟩ : Fin 3200) = ⟨r.val + 8, by omega⟩ := fun _ => Fin.ext (by show 8 + r.val = r.val + 8; omega)
  refine (dbl (I r) (h.lt r) (r.val < 3192) (fun h' => I ⟨8 + r.val, by omega⟩) (fun _ => h.lt _) (x (ix2 r k)) fun h' => x (ix2 ⟨8 + r.val, by omega⟩ k)).trans ?_
  simp only [e]
  by_cases hc : r.val < 3192
  · rw [dif_pos hc, dif_pos (by omega)]
  · rw [dif_neg hc, dif_neg (by omega)]

/-- The doubling by 16, over 128 columns. -/
def pnt16 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S3184x1, extractStridedSlice S3184x1 ![16, 0] v4 slices_S3200x1_o16_0_S3184x1⟩, ⟨S16x1, broadcast S16x1 4294967294#32⟩] concatenates_S3184x1_S16x1_S3200x1_d0)) shapeCasts_S3200x1_S3200x1) broadcasts_S3200x1_S3200x128) (maximumf x (concatenate S3200x128 0 [⟨S3184x128, extractStridedSlice S3184x128 ![16, 0] x slices_S3200x128_o16_0_S3184x128⟩, ⟨S16x128, broadcast S16x128 (Scalar.ofBits .f32 0xFF800000#32)⟩] concatenates_S3184x128_S16x128_S3200x128_d0)) x

theorem pnt16_ok (h : Ids v4 I) (hI : ∀ r r' : Fin 3200, r.val ≤ r'.val → I r ≤ I r') (x : FVec Ideal S3200x128 .f32) (k : Fin 128)
    (hx : SufOk I f 16 fun r => x (ix2 r k)) : SufOk I f 32 fun r => pnt16 v4 x (ix2 r k) := by
  refine SufOk.double hI hx fun r => ?_
  unfold pnt16
  pointwise
  rw [ofBits_neg_inf]
  simp only [ids_ix2 h]
  have e : ∀ h', (⟨16 + r.val, h'⟩ : Fin 3200) = ⟨r.val + 16, by omega⟩ := fun _ => Fin.ext (by show 16 + r.val = r.val + 16; omega)
  refine (dbl (I r) (h.lt r) (r.val < 3184) (fun h' => I ⟨16 + r.val, by omega⟩) (fun _ => h.lt _) (x (ix2 r k)) fun h' => x (ix2 ⟨16 + r.val, by omega⟩ k)).trans ?_
  simp only [e]
  by_cases hc : r.val < 3184
  · rw [dif_pos hc, dif_pos (by omega)]
  · rw [dif_neg hc, dif_neg (by omega)]

/-- The doubling by 32, over 128 columns. -/
def pnt32 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S3168x1, extractStridedSlice S3168x1 ![32, 0] v4 slices_S3200x1_o32_0_S3168x1⟩, ⟨S32x1, broadcast S32x1 4294967294#32⟩] concatenates_S3168x1_S32x1_S3200x1_d0)) shapeCasts_S3200x1_S3200x1) broadcasts_S3200x1_S3200x128) (maximumf x (concatenate S3200x128 0 [⟨S3168x128, extractStridedSlice S3168x128 ![32, 0] x slices_S3200x128_o32_0_S3168x128⟩, ⟨S32x128, broadcast S32x128 (Scalar.ofBits .f32 0xFF800000#32)⟩] concatenates_S3168x128_S32x128_S3200x128_d0)) x

theorem pnt32_ok (h : Ids v4 I) (hI : ∀ r r' : Fin 3200, r.val ≤ r'.val → I r ≤ I r') (x : FVec Ideal S3200x128 .f32) (k : Fin 128)
    (hx : SufOk I f 32 fun r => x (ix2 r k)) : SufOk I f 64 fun r => pnt32 v4 x (ix2 r k) := by
  refine SufOk.double hI hx fun r => ?_
  unfold pnt32
  pointwise
  rw [ofBits_neg_inf]
  simp only [ids_ix2 h]
  have e : ∀ h', (⟨32 + r.val, h'⟩ : Fin 3200) = ⟨r.val + 32, by omega⟩ := fun _ => Fin.ext (by show 32 + r.val = r.val + 32; omega)
  refine (dbl (I r) (h.lt r) (r.val < 3168) (fun h' => I ⟨32 + r.val, by omega⟩) (fun _ => h.lt _) (x (ix2 r k)) fun h' => x (ix2 ⟨32 + r.val, by omega⟩ k)).trans ?_
  simp only [e]
  by_cases hc : r.val < 3168
  · rw [dif_pos hc, dif_pos (by omega)]
  · rw [dif_neg hc, dif_neg (by omega)]

/-- The doubling by 64, over 128 columns. -/
def pnt64 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S3136x1, extractStridedSlice S3136x1 ![64, 0] v4 slices_S3200x1_o64_0_S3136x1⟩, ⟨S64x1, broadcast S64x1 4294967294#32⟩] concatenates_S3136x1_S64x1_S3200x1_d0)) shapeCasts_S3200x1_S3200x1) broadcasts_S3200x1_S3200x128) (maximumf x (concatenate S3200x128 0 [⟨S3136x128, extractStridedSlice S3136x128 ![64, 0] x slices_S3200x128_o64_0_S3136x128⟩, ⟨S64x128, broadcast S64x128 (Scalar.ofBits .f32 0xFF800000#32)⟩] concatenates_S3136x128_S64x128_S3200x128_d0)) x

theorem pnt64_ok (h : Ids v4 I) (hI : ∀ r r' : Fin 3200, r.val ≤ r'.val → I r ≤ I r') (x : FVec Ideal S3200x128 .f32) (k : Fin 128)
    (hx : SufOk I f 64 fun r => x (ix2 r k)) : SufOk I f 128 fun r => pnt64 v4 x (ix2 r k) := by
  refine SufOk.double hI hx fun r => ?_
  unfold pnt64
  pointwise
  rw [ofBits_neg_inf]
  simp only [ids_ix2 h]
  have e : ∀ h', (⟨64 + r.val, h'⟩ : Fin 3200) = ⟨r.val + 64, by omega⟩ := fun _ => Fin.ext (by show 64 + r.val = r.val + 64; omega)
  refine (dbl (I r) (h.lt r) (r.val < 3136) (fun h' => I ⟨64 + r.val, by omega⟩) (fun _ => h.lt _) (x (ix2 r k)) fun h' => x (ix2 ⟨64 + r.val, by omega⟩ k)).trans ?_
  simp only [e]
  by_cases hc : r.val < 3136
  · rw [dif_pos hc, dif_pos (by omega)]
  · rw [dif_neg hc, dif_neg (by omega)]

/-- The doubling by 128, over 128 columns. -/
def pnt128 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S3072x1, extractStridedSlice S3072x1 ![128, 0] v4 slices_S3200x1_o128_0_S3072x1⟩, ⟨S128x1, broadcast S128x1 4294967294#32⟩] concatenates_S3072x1_S128x1_S3200x1_d0)) shapeCasts_S3200x1_S3200x1) broadcasts_S3200x1_S3200x128) (maximumf x (concatenate S3200x128 0 [⟨S3072x128, extractStridedSlice S3072x128 ![128, 0] x slices_S3200x128_o128_0_S3072x128⟩, ⟨S128x128, broadcast S128x128 (Scalar.ofBits .f32 0xFF800000#32)⟩] concatenates_S3072x128_S128x128_S3200x128_d0)) x

theorem pnt128_ok (h : Ids v4 I) (hI : ∀ r r' : Fin 3200, r.val ≤ r'.val → I r ≤ I r') (x : FVec Ideal S3200x128 .f32) (k : Fin 128)
    (hx : SufOk I f 128 fun r => x (ix2 r k)) : SufOk I f 256 fun r => pnt128 v4 x (ix2 r k) := by
  refine SufOk.double hI hx fun r => ?_
  unfold pnt128
  pointwise
  rw [ofBits_neg_inf]
  simp only [ids_ix2 h]
  have e : ∀ h', (⟨128 + r.val, h'⟩ : Fin 3200) = ⟨r.val + 128, by omega⟩ := fun _ => Fin.ext (by show 128 + r.val = r.val + 128; omega)
  refine (dbl (I r) (h.lt r) (r.val < 3072) (fun h' => I ⟨128 + r.val, by omega⟩) (fun _ => h.lt _) (x (ix2 r k)) fun h' => x (ix2 ⟨128 + r.val, by omega⟩ k)).trans ?_
  simp only [e]
  by_cases hc : r.val < 3072
  · rw [dif_pos hc, dif_pos (by omega)]
  · rw [dif_neg hc, dif_neg (by omega)]

/-- The doubling by 256, over 128 columns. -/
def pnt256 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S2944x1, extractStridedSlice S2944x1 ![256, 0] v4 slices_S3200x1_o256_0_S2944x1⟩, ⟨S256x1, broadcast S256x1 4294967294#32⟩] concatenates_S2944x1_S256x1_S3200x1_d0)) shapeCasts_S3200x1_S3200x1) broadcasts_S3200x1_S3200x128) (maximumf x (concatenate S3200x128 0 [⟨S2944x128, extractStridedSlice S2944x128 ![256, 0] x slices_S3200x128_o256_0_S2944x128⟩, ⟨S256x128, broadcast S256x128 (Scalar.ofBits .f32 0xFF800000#32)⟩] concatenates_S2944x128_S256x128_S3200x128_d0)) x

theorem pnt256_ok (h : Ids v4 I) (hI : ∀ r r' : Fin 3200, r.val ≤ r'.val → I r ≤ I r') (x : FVec Ideal S3200x128 .f32) (k : Fin 128)
    (hx : SufOk I f 256 fun r => x (ix2 r k)) : SufOk I f 512 fun r => pnt256 v4 x (ix2 r k) := by
  refine SufOk.double hI hx fun r => ?_
  unfold pnt256
  pointwise
  rw [ofBits_neg_inf]
  simp only [ids_ix2 h]
  have e : ∀ h', (⟨256 + r.val, h'⟩ : Fin 3200) = ⟨r.val + 256, by omega⟩ := fun _ => Fin.ext (by show 256 + r.val = r.val + 256; omega)
  refine (dbl (I r) (h.lt r) (r.val < 2944) (fun h' => I ⟨256 + r.val, by omega⟩) (fun _ => h.lt _) (x (ix2 r k)) fun h' => x (ix2 ⟨256 + r.val, by omega⟩ k)).trans ?_
  simp only [e]
  by_cases hc : r.val < 2944
  · rw [dif_pos hc, dif_pos (by omega)]
  · rw [dif_neg hc, dif_neg (by omega)]

/-- The doubling by 512, over 128 columns. -/
def pnt512 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S2688x1, extractStridedSlice S2688x1 ![512, 0] v4 slices_S3200x1_o512_0_S2688x1⟩, ⟨S512x1, broadcast S512x1 4294967294#32⟩] concatenates_S2688x1_S512x1_S3200x1_d0)) shapeCasts_S3200x1_S3200x1) broadcasts_S3200x1_S3200x128) (maximumf x (concatenate S3200x128 0 [⟨S2688x128, extractStridedSlice S2688x128 ![512, 0] x slices_S3200x128_o512_0_S2688x128⟩, ⟨S512x128, broadcast S512x128 (Scalar.ofBits .f32 0xFF800000#32)⟩] concatenates_S2688x128_S512x128_S3200x128_d0)) x

theorem pnt512_ok (h : Ids v4 I) (hI : ∀ r r' : Fin 3200, r.val ≤ r'.val → I r ≤ I r') (x : FVec Ideal S3200x128 .f32) (k : Fin 128)
    (hx : SufOk I f 512 fun r => x (ix2 r k)) : SufOk I f 1024 fun r => pnt512 v4 x (ix2 r k) := by
  refine SufOk.double hI hx fun r => ?_
  unfold pnt512
  pointwise
  rw [ofBits_neg_inf]
  simp only [ids_ix2 h]
  have e : ∀ h', (⟨512 + r.val, h'⟩ : Fin 3200) = ⟨r.val + 512, by omega⟩ := fun _ => Fin.ext (by show 512 + r.val = r.val + 512; omega)
  refine (dbl (I r) (h.lt r) (r.val < 2688) (fun h' => I ⟨512 + r.val, by omega⟩) (fun _ => h.lt _) (x (ix2 r k)) fun h' => x (ix2 ⟨512 + r.val, by omega⟩ k)).trans ?_
  simp only [e]
  by_cases hc : r.val < 2688
  · rw [dif_pos hc, dif_pos (by omega)]
  · rw [dif_neg hc, dif_neg (by omega)]

/-- The doubling by 1024, over 128 columns. -/
def pnt1024 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S2176x1, extractStridedSlice S2176x1 ![1024, 0] v4 slices_S3200x1_o1024_0_S2176x1⟩, ⟨S1024x1, broadcast S1024x1 4294967294#32⟩] concatenates_S2176x1_S1024x1_S3200x1_d0)) shapeCasts_S3200x1_S3200x1) broadcasts_S3200x1_S3200x128) (maximumf x (concatenate S3200x128 0 [⟨S2176x128, extractStridedSlice S2176x128 ![1024, 0] x slices_S3200x128_o1024_0_S2176x128⟩, ⟨S1024x128, broadcast S1024x128 (Scalar.ofBits .f32 0xFF800000#32)⟩] concatenates_S2176x128_S1024x128_S3200x128_d0)) x

theorem pnt1024_ok (h : Ids v4 I) (hI : ∀ r r' : Fin 3200, r.val ≤ r'.val → I r ≤ I r') (x : FVec Ideal S3200x128 .f32) (k : Fin 128)
    (hx : SufOk I f 1024 fun r => x (ix2 r k)) : SufOk I f 2048 fun r => pnt1024 v4 x (ix2 r k) := by
  refine SufOk.double hI hx fun r => ?_
  unfold pnt1024
  pointwise
  rw [ofBits_neg_inf]
  simp only [ids_ix2 h]
  have e : ∀ h', (⟨1024 + r.val, h'⟩ : Fin 3200) = ⟨r.val + 1024, by omega⟩ := fun _ => Fin.ext (by show 1024 + r.val = r.val + 1024; omega)
  refine (dbl (I r) (h.lt r) (r.val < 2176) (fun h' => I ⟨1024 + r.val, by omega⟩) (fun _ => h.lt _) (x (ix2 r k)) fun h' => x (ix2 ⟨1024 + r.val, by omega⟩ k)).trans ?_
  simp only [e]
  by_cases hc : r.val < 2176
  · rw [dif_pos hc, dif_pos (by omega)]
  · rw [dif_neg hc, dif_neg (by omega)]

/-- The doubling by 2048, over 128 columns. -/
def pnt2048 {F : FTy → Type} [FloatOps F] (v4 : IVec S3200x1 32) (x : FVec F S3200x128 .f32) : FVec F S3200x128 .f32 :=
  select (broadcastTo S3200x128 (shapeCast S3200x1 (cmpi .eq v4 (concatenate S3200x1 0 [⟨S1152x1, extractStridedSlice S1152x1 ![2048, 0] v4 slices_S3200x1_o2048_0_S1152x1⟩, ⟨S2048x1, broadcast S2048x1 4294967294#32⟩] concatenates_S1152x1_S2048x1_S3200x1_d0)) shapeCasts_S3200x1_S3200x1) broadcasts_S3200x1_S3200x128) (maximumf x (concatenate S3200x128 0 [⟨S1152x128, extractStridedSlice S1152x128 ![2048, 0] x slices_S3200x128_o2048_0_S1152x128⟩, ⟨S2048x128, broadcast S2048x128 (Scalar.ofBits .f32 0xFF800000#32)⟩] concatenates_S1152x128_S2048x128_S3200x128_d0)) x

theorem pnt2048_ok (h : Ids v4 I) (hI : ∀ r r' : Fin 3200, r.val ≤ r'.val → I r ≤ I r') (x : FVec Ideal S3200x128 .f32) (k : Fin 128)
    (hx : SufOk I f 2048 fun r => x (ix2 r k)) : SufOk I f 4096 fun r => pnt2048 v4 x (ix2 r k) := by
  refine SufOk.double hI hx fun r => ?_
  unfold pnt2048
  pointwise
  rw [ofBits_neg_inf]
  simp only [ids_ix2 h]
  have e : ∀ h', (⟨2048 + r.val, h'⟩ : Fin 3200) = ⟨r.val + 2048, by omega⟩ := fun _ => Fin.ext (by show 2048 + r.val = r.val + 2048; omega)
  refine (dbl (I r) (h.lt r) (r.val < 1152) (fun h' => I ⟨2048 + r.val, by omega⟩) (fun _ => h.lt _) (x (ix2 r k)) fun h' => x (ix2 ⟨2048 + r.val, by omega⟩ k)).trans ?_
  simp only [e]
  by_cases hc : r.val < 1152
  · rw [dif_pos hc, dif_pos (by omega)]
  · rw [dif_neg hc, dif_neg (by omega)]

end Cert.Proof.KI

end
-- ==== Proof.SuffixData.lean ====
/-
  The blocks' suffix maxima: what the leading rows hold, beside the column of ones.
-/
module

public import proofs.«01_k».proof.Proof.SuffixSteps
public import proofs.«01_k».proof.Proof.StepGather
public import proofs.«01_k».proof.Proof.Blocks

@[expose] public section

set_option maxRecDepth 16384

noncomputable section

namespace Cert.Proof.KI

open Cert.KernelIdeal Cert.KernelIdeal.Gen
open Idealize.ShloMosaic

variable {v3 : IVec S3200x1 32} {I : Fin 3200 → ℕ}

theorem lead_bit (c : Prop) [Decidable c] (n : ℕ) (hn : n < 10000) (m : ¬ c → ℕ) (hm : ∀ h, m h < 10000) :
    IntOp.cmpi .ne (BitVec.ofNat 32 n) (if h : c then 4294967295#32 else BitVec.ofNat 32 (m h)) = if c ∨ ∃ h : ¬ c, n ≠ m h then 1#1 else 0#1 := by
  rw [cmpi_ne_one]
  by_cases h : c
  · rw [dif_pos h, if_neg, if_pos (Or.inl h)]
    intro h2
    have := congrArg BitVec.toNat h2
    rw [BitVec.toNat_ofNat, Nat.mod_eq_of_lt (by omega)] at this
    have h3 : (4294967295#32 : BitVec 32).toNat = 4294967295 := by decide
    omega
  · rw [dif_neg h]
    simp only [ofNat_inj n (m h) (by omega) (by have := hm h; omega)]
    by_cases h2 : n = m h
    · rw [if_pos h2, if_neg]
      rintro (h3 | ⟨h3, h4⟩)
      · exact h h3
      · exact h4 h2
    · rw [if_neg h2, if_pos (Or.inr ⟨h, h2⟩)]

theorem lead_iff (I : Fin 3200 → ℕ) (r : Fin 3200) (e : ∀ h : ¬ r.val < 1, r.val - 1 < 3200) :
    (r.val < 1 ∨ ∃ h : ¬ r.val < 1, I r ≠ I ⟨r.val - 1, e h⟩) ↔ Lead I r := by
  unfold Lead
  constructor
  · rintro (h | ⟨_, h⟩)
    · left; omega
    · exact Or.inr h
  · intro h
    by_cases h1 : r.val < 1
    · exact Or.inl h1
    · rcases h with h | h
      · omega
      · exact Or.inr ⟨h1, h⟩

theorem pay10_apply (h : Ids v3 I) (r : Fin 3200) : k2_pay10 v3 4294967295#32 (ix2 r 0) = if Lead I r then 1#1 else 0#1 := by
  unfold k2_pay10
  pointwise
  simp only [ids_ix2 h]
  rw [lead_bit (r.val < 1) (I r) (h.lt r) (fun h' => I ⟨r.val - 1, by omega⟩) (fun _ => h.lt _)]
  simp only [lead_iff]

theorem pay8_apply (h : Ids v3 I) (r : Fin 3200) : k1_pay8 (F := Ideal) v3 (ix2 r 0) = if Lead I r then 1#1 else 0#1 := by
  refine Eq.trans ?_ (pay10_apply h r)
  show k2_pay10 (k1_pay5 (F := Ideal) v3) 4294967295#32 (ix2 r 0) = _
  exact congrFun (congrArg (k2_pay10 · 4294967295#32) (k1_pay5_eq v3)) _

/-- The distance column, from the positions and what was gathered. -/
def distOf (v5 : FVec Ideal S3200x3 .f32) (g : FVec Ideal S3200x4 .f32) (r : Fin 3200) : EReal :=
  Ideal.sqrt ((∑ k : Fin 3, (v5 (ix2 r k) - g (ix2 r ⟨k.val, by omega⟩)) * (v5 (ix2 r k) - g (ix2 r ⟨k.val, by omega⟩))) + eps)

/-- The distance column as the kernel prints it. -/
def distV {F : FTy → Type} [FloatOps F] (v5 : FVec F S3200x3 .f32) (g : FVec F S3200x4 .f32) : FVec F S3200x1 .f32 :=
  sqrt (addf (shapeCast S3200x1 (multiReduction .add [1] S3200 (mulf (subf v5 (extractStridedSlice S3200x3 ![0, 0] g slices_S3200x4_o0_0_S3200x3)) (subf v5 (extractStridedSlice S3200x3 ![0, 0] g slices_S3200x4_o0_0_S3200x3))) 0x00000000#32 reduces_S3200x3_S3200 (.inl rfl) rfl) shapeCasts_S3200_S3200x1) (broadcast S3200x1 (Scalar.ofBits .f32 0x2B8CBCCC#32)))

theorem distV_apply (v5 : FVec Ideal S3200x3 .f32) (g : FVec Ideal S3200x4 .f32) (r : Fin 3200) : distV v5 g (ix2 r 0) = distOf v5 g r := by
  unfold distV distOf
  pointwise

theorem k1_pay9_eq {F : FTy → Type} [FloatOps F] (v3 : IVec S3200x1 32) (v5 : FVec F S3200x3 .f32) (g : FVec F S3200x4 .f32) :
    k1_pay9 v3 v5 g = rad2 (k1_pay5 (F := F) v3) (rad1 (k1_pay5 (F := F) v3) (distV v5 g)) := rfl

theorem k1_pay11_eq {F : FTy → Type} [FloatOps F] (v4 : IVec S3200x1 32) (x : FVec F S3200x1 .f32) :
    k1_pay11 v4 x (extractStridedSlice S3196x1 ![4, 0] x slices_S3200x1_o4_0_S3196x1) = rad64 v4 (rad32 v4 (rad16 v4 (rad8 v4 (rad4 v4 x)))) := rfl

theorem k1_pay14_eq {F : FTy → Type} [FloatOps F] (v4 : IVec S3200x1 32) (x : FVec F S3200x1 .f32) :
    k1_pay14 v4 x (concatenate S3200x1 0 [⟨S3072x1, extractStridedSlice S3072x1 ![128, 0] x slices_S3200x1_o128_0_S3072x1⟩, ⟨S128x1, broadcast S128x1 (Scalar.ofBits .f32 0xFF800000#32)⟩] concatenates_S3072x1_S128x1_S3200x1_d0)
        (extractStridedSlice S3072x1 ![128, 0] v4 slices_S3200x1_o128_0_S3072x1) 4294967294#32
      = concatenate S3200x2 1 [⟨S3200x1, rad2048 v4 (rad1024 v4 (rad512 v4 (rad256 v4 (rad128 v4 x))))⟩, ⟨S3200x1, broadcast S3200x1 (Scalar.ofBits .f32 0x3F800000#32)⟩] concatenates_S3200x1_S3200x1_S3200x2_d1 := rfl

/-- All twelve doublings of the distances. -/
def radAll {F : FTy → Type} [FloatOps F] (v4 : IVec S3200x1 32) (x : FVec F S3200x1 .f32) : FVec F S3200x1 .f32 :=
  rad2048 v4 (rad1024 v4 (rad512 v4 (rad256 v4 (rad128 v4 (rad64 v4 (rad32 v4 (rad16 v4 (rad8 v4 (rad4 v4 (rad2 v4 (rad1 v4 x)))))))))))

theorem radAll_ok (h : Ids v3 I) (hI : ∀ r r' : Fin 3200, r.val ≤ r'.val → I r ≤ I r') (x : FVec Ideal S3200x1 .f32) :
    SufOk I (fun r => x (ix2 r 0)) 4096 fun r => radAll v3 x (ix2 r 0) := by
  unfold radAll
  exact rad2048_ok h hI _ (rad1024_ok h hI _ (rad512_ok h hI _ (rad256_ok h hI _ (rad128_ok h hI _ (rad64_ok h hI _ (rad32_ok h hI _ (rad16_ok h hI _
    (rad8_ok h hI _ (rad4_ok h hI _ (rad2_ok h hI _ (rad1_ok h hI _ (SufOk.one I fun r => x (ix2 r 0)))))))))))))

theorem data1_eq {F : FTy → Type} [FloatOps F] (v3 : IVec S3200x1 32) (v5 : FVec F S3200x3 .f32) (g : FVec F S3200x4 .f32) :
    data1 v3 v5 g = concatenate S3200x2 1 [⟨S3200x1, radAll (k1_pay5 (F := F) v3) (distV v5 g)⟩, ⟨S3200x1, broadcast S3200x1 (Scalar.ofBits .f32 0x3F800000#32)⟩] concatenates_S3200x1_S3200x1_S3200x2_d1 := by
  unfold data1 k1_pay12 k1_pay13 k1_pay10
  dsimp only
  rw [k1_pay11_eq, k1_pay14_eq, k1_pay9_eq]
  rfl

theorem data1_one (v3 : IVec S3200x1 32) (v5 : FVec Ideal S3200x3 .f32) (g : FVec Ideal S3200x4 .f32) (r : Fin 3200) : data1 v3 v5 g (ix2 r 1) = (1 : EReal) := by
  rw [data1_eq]
  generalize radAll (F := Ideal) _ _ = X
  pointwise

theorem data1_zero (v3 : IVec S3200x1 32) (v5 : FVec Ideal S3200x3 .f32) (g : FVec Ideal S3200x4 .f32) (r : Fin 3200) :
    data1 v3 v5 g (ix2 r 0) = radAll v3 (distV v5 g) (ix2 r 0) := by
  rw [data1_eq, show k1_pay5 (F := Ideal) v3 = v3 from k1_pay5_eq v3]
  generalize radAll (F := Ideal) _ _ = X
  pointwise

/-- The running radii after a block: bounded where they were and where the block's distances are. -/
theorem out1_le (h : Ids v3 I) (hI : ∀ r r' : Fin 3200, r.val ≤ r'.val → I r ≤ I r') (v5 : FVec Ideal S3200x3 .f32) (g : FVec Ideal S3200x4 .f32)
    (X : FVec Ideal S10752x1 .f32) (s : Fin 10752) (b : EReal) :
    (loopAll v3 (step6 v3 (k1_pay8 (F := Ideal) v3) (data1 v3 v5 g)) X (ix2 s 0) : EReal) ≤ b
      ↔ (X (ix2 s 0) : EReal) ≤ b ∧ ∀ r, I r = s.val → distOf v5 g r ≤ b := by
  rw [loop6_le h _ (Lead I) (pay8_apply h) (lead_unique hI) _ (data1_one v3 v5 g)]
  refine and_congr_right fun _ => ?_
  simp only [data1_zero]
  rw [lead_max hI (by norm_num) (radAll_ok h hI (distV v5 g))]
  simp only [distV_apply]

/-! ## The features -/

/-- All twelve doublings of the features. -/
def pntAll {F : FTy → Type} [FloatOps F] (v4 : IVec S3200x1 32) (x : FVec F S3200x128 .f32) : FVec F S3200x128 .f32 :=
  pnt2048 v4 (pnt1024 v4 (pnt512 v4 (pnt256 v4 (pnt128 v4 (pnt64 v4 (pnt32 v4 (pnt16 v4 (pnt8 v4 (pnt4 v4 (pnt2 v4 (pnt1 v4 x)))))))))))

theorem pntAll_ok (h : Ids v3 I) (hI : ∀ r r' : Fin 3200, r.val ≤ r'.val → I r ≤ I r') (x : FVec Ideal S3200x128 .f32) (k : Fin 128) :
    SufOk I (fun r => x (ix2 r k)) 4096 fun r => pntAll v3 x (ix2 r k) := by
  unfold pntAll
  exact pnt2048_ok h hI _ k (pnt1024_ok h hI _ k (pnt512_ok h hI _ k (pnt256_ok h hI _ k (pnt128_ok h hI _ k (pnt64_ok h hI _ k (pnt32_ok h hI _ k (pnt16_ok h hI _ k
    (pnt8_ok h hI _ k (pnt4_ok h hI _ k (pnt2_ok h hI _ k (pnt1_ok h hI _ k (SufOk.one I fun r => x (ix2 r k)))))))))))))

theorem k2_pay11_eq {F : FTy → Type} [FloatOps F] (v4 : IVec S3200x1 32) (x : FVec F S3200x128 .f32) :
    k2_pay11 v4 x = pnt8 v4 (pnt4 v4 (pnt2 v4 (pnt1 v4 x))) := rfl

theorem k2_pay13_eq {F : FTy → Type} [FloatOps F] (v4 : IVec S3200x1 32) (x : FVec F S3200x128 .f32) :
    k2_pay13 v4 x (concatenate S3200x128 0 [⟨S3184x128, extractStridedSlice S3184x128 ![16, 0] x slices_S3200x128_o16_0_S3184x128⟩, ⟨S16x128, broadcast S16x128 (Scalar.ofBits .f32 0xFF800000#32)⟩] concatenates_S3184x128_S16x128_S3200x128_d0)
      = pnt128 v4 (pnt64 v4 (pnt32 v4 (pnt16 v4 x))) := rfl

theorem k2_pay1_eq {F : FTy → Type} [FloatOps F] (v4 : IVec S3200x1 32) (x : FVec F S3200x128 .f32) :
    k2_pay1 v4 x (maximumf x (concatenate S3200x128 0 [⟨S2944x128, extractStridedSlice S2944x128 ![256, 0] x slices_S3200x128_o256_0_S2944x128⟩, ⟨S256x128, broadcast S256x128 (Scalar.ofBits .f32 0xFF800000#32)⟩] concatenates_S2944x128_S256x128_S3200x128_d0)) (k2_pay15 v4)
      = concatenate S3200x129 1 [⟨S3200x128, pnt2048 v4 (pnt1024 v4 (pnt512 v4 (pnt256 v4 x)))⟩, ⟨S3200x1, broadcast S3200x1 (Scalar.ofBits .f32 0x3F800000#32)⟩] concatenates_S3200x128_S3200x1_S3200x129_d1 := rfl

theorem data2_eq {F : FTy → Type} [FloatOps F] (v4 : IVec S3200x1 32) (f : FVec F S3200x128 .f32) :
    data2 v4 f = concatenate S3200x129 1 [⟨S3200x128, pntAll v4 f⟩, ⟨S3200x1, broadcast S3200x1 (Scalar.ofBits .f32 0x3F800000#32)⟩] concatenates_S3200x128_S3200x1_S3200x129_d1 := by
  unfold data2 k2_pay14 k2_pay12
  dsimp only
  rw [k2_pay13_eq, k2_pay1_eq, k2_pay11_eq]
  rfl

theorem data2_one (v4 : IVec S3200x1 32) (f : FVec Ideal S3200x128 .f32) (r : Fin 3200) : data2 v4 f (ix2 r 128) = (1 : EReal) := by
  rw [data2_eq]
  generalize pntAll (F := Ideal) _ _ = X
  pointwise

theorem data2_val (v4 : IVec S3200x1 32) (f : FVec Ideal S3200x128 .f32) (r : Fin 3200) (k : Fin 128) :
    data2 v4 f (ix2 r ⟨k.val, by omega⟩) = pntAll v4 f (ix2 r k) := by
  rw [data2_eq]
  generalize pntAll (F := Ideal) _ _ = X
  pointwise

/-- The running feature maxima after a block: bounded where they were and where the block's features are. -/
theorem out2_le (h : Ids v3 I) (hI : ∀ r r' : Fin 3200, r.val ≤ r'.val → I r ≤ I r') (f : FVec Ideal S3200x128 .f32)
    (X : FVec Ideal S10752x128 .f32) (s : Fin 10752) (k : Fin 128) (b : EReal) :
    (loopAll v3 (step8 v3 (k2_pay10 v3 4294967295#32) (data2 v3 f)) X (ix2 s k) : EReal) ≤ b
      ↔ (X (ix2 s k) : EReal) ≤ b ∧ ∀ r, I r = s.val → (f (ix2 r k) : EReal) ≤ b := by
  rw [loop8_le h _ (Lead I) (pay10_apply h) (lead_unique hI) _ (data2_one v3 f)]
  refine and_congr_right fun _ => ?_
  simp only [data2_val]
  exact lead_max hI (by norm_num) (pntAll_ok h hI f k) _ _

end Cert.Proof.KI

end
-- ==== Proof.Val1.lean ====
/-
  The radius region: the table holds the largest distance of each segment's points so far.
-/
module

public import proofs.«01_k».proof.Proof.SuffixData
public import proofs.«01_k».proof.Proof.BlockVals
public import proofs.«01_k».proof.Proof.PointSums
public import proofs.«01_k».proof.Proof.Spec

@[expose] public section

set_option maxRecDepth 16384

noncomputable section

namespace Cert.Proof.KI

open Cert.KernelIdeal Cert.KernelIdeal.Gen
open Idealize.ShloMosaic

theorem coord1 : ∀ t : Fin grid1.N, atPoint ((grid1.coords t) 0).val 0#32 ↔ t.val = 0 := by decide +kernel

theorem k1_pay4_apply (j : S10752x1.Idx) : k1_pay4 (F := Ideal) j = (⊥ : EReal) := by
  unfold k1_pay4
  exact ofBits_neg_inf

theorem last1 : 99 < (cfg1 (F := Ideal)).N := lt_of_lt_of_eq (by decide : 99 < 100) (show (cfg1 (F := Ideal)).N = 100 from N_1).symm

variable (D : Inp) (V : Bufs Ideal) (c : Dev nD)
variable (hids : ∀ t, Ids (k1_pay5 (F := Ideal) (blk1_0 V c t)) fun r => D.I (pt t.val r))
variable (hmono : ∀ p q : Fin 320000, p ≤ q → D.I p ≤ D.I q)
variable (hpos : ∀ p k, (V c main_arg0 : FVec Ideal S320000x3 .f32) (ix2 p k) = D.pos p k)
variable (hS : ∀ s k, (V c main_v1 : FVec Ideal S10752x4 .f32) (ix2 s k) = D.stat s.val k)

include hmono in
theorem mono_pt (t : ℕ) (ht : t < 100) (r r' : Fin 3200) (h : r.val ≤ r'.val) : D.I (pt t r) ≤ D.I (pt t r') :=
  hmono _ _ (by rw [Fin.le_def, pt_val _ ht, pt_val _ ht]; omega)

include hids hpos hS

/-- A row's distance from the centre its segment's row of the table holds. -/
theorem dist1 (t : Fin (cfg1 (F := Ideal)).N) (r : Fin 3200) :
    distOf (blk1_1 V c t) (gath1 (F := Ideal) (blk1_0 V c t) (blk1_2 V c t)) r = D.dist (pt t.val r) := by
  have hg : ∀ k : Fin 3, gath1 (F := Ideal) (blk1_0 V c t) (blk1_2 V c t) (ix2 r (⟨k.val, by omega⟩ : Fin 4)) = D.cen (D.I (pt t.val r)) k := by
    intro k
    unfold gath1
    rw [loop5_apply (hids t), val1_2 V c t, hS, rowOf_val _ (by have := (hids t).lt r; omega)]
    unfold Inp.stat
    rw [dif_pos k.isLt]
  have hp : ∀ k : Fin 3, (blk1_1 V c t : FVec Ideal S3200x3 .f32) (ix2 r k) = D.pos (pt t.val r) k := fun k => (val1_1 V c t r k).trans (hpos _ _)
  unfold distOf Inp.dist Inp.rel
  simp only [hg, hp]

include hmono

/-- The table's bounds after the first `n` blocks. -/
theorem acc1_le (n : ℕ) (hn : n ≤ 100) (s : Fin 10752) (b : EReal) :
    (acc1 V c n (ix2 s 0) : EReal) ≤ b ↔ ∀ t < n, ∀ r, D.I (pt t r) = s.val → D.dist (pt t r) ≤ b := by
  induction n with
  | zero =>
    refine iff_of_true ?_ (fun t ht => absurd ht (Nat.not_lt_zero t))
    show (k1_pay4 (F := Ideal) (ix2 s 0) : EReal) ≤ b
    rw [k1_pay4_apply]
    exact bot_le
  | succ n ih =>
    have hN : n < (cfg1 (F := Ideal)).N := by rw [show (cfg1 (F := Ideal)).N = 100 from N_1]; omega
    have e : acc1 V c (n + 1) = upd1 V c ⟨n, hN⟩ (acc1 V c n) := accW_succ _ _ (⟨n, hN⟩ : Fin (cfg1 (F := Ideal)).N)
    rw [e]
    have hI := hids ⟨n, hN⟩
    have hd := dist1 D V c hids hpos hS ⟨n, hN⟩
    rw [k1_pay5_eq] at hI
    unfold upd1 out1
    rw [k1_pay5_eq, out1_le hI (mono_pt D hmono n (by omega))]
    simp only [hd]
    have hX : ((if atPoint ((grid1.coords ⟨n, hN⟩) 0).val 0#32 then k1_pay4 (F := Ideal) else acc1 V c n) (ix2 s 0) : EReal) ≤ b
        ↔ ∀ t < n, ∀ r, D.I (pt t r) = s.val → D.dist (pt t r) ≤ b := by
      by_cases h0 : n = 0
      · subst h0
        rw [if_pos ((coord1 ⟨0, hN⟩).mpr rfl)]
        exact ih (by omega)
      · rw [if_neg fun h => h0 ((coord1 ⟨n, hN⟩).mp h)]
        exact ih (by omega)
    rw [hX]
    exact Nat.forall_lt_succ_right.symm

theorem acc1_rad (s : Fin 10752) : (acc1 V c 100 (ix2 s 0) : EReal) = D.rad s.val := by
  refine eq_of_forall_ge_iff fun b => ?_
  rw [acc1_le D V c hids hmono hpos hS 100 le_rfl, all_pt fun p => D.I p = s.val → D.dist p ≤ b]
  exact iSup₂_le_iff.symm

/-- The table the region leaves. -/
theorem arr1 : (dat1 V c).arrAt 3 (cfg1 (F := Ideal)).N = fun j : S10752x1.Idx => D.rad (j 0).val := by
  refine (dat1 V c).arrAt_eq_of_after_last 3 ⟨99, last1⟩ (by decide +kernel) _ fun j => ?_
  blk_simp
  idx_vars j
  refine (congrArg (acc1 V c 100) ?_).trans (acc1_rad D V c hids hmono hpos hS _)
  exact congrArg (ix2 _) (Subsingleton.elim (α := Fin 1) _ _)

end Cert.Proof.KI

end
-- ==== Proof.PayPoint.lean ====
/-
  The two layers on a block of points, at coordinates.
-/
module

public import proofs.«01_k».proof.Proof.BlockVals
public import proofs.«01_k».proof.Proof.StepGather
public import proofs.«01_k».proof.Proof.Spec

@[expose] public section

set_option maxRecDepth 16384

noncomputable section

namespace Cert.Proof.KI

open Cert.KernelIdeal Cert.KernelIdeal.Gen
open Idealize.ShloMosaic

/-- The row of the first layer's bias block. -/
theorem row64_apply (b : FVec Ideal S8x64 .f32) (k : Fin 64) : row64 (F := Ideal) b (ix2 (0 : Fin 1) k) = b (ix2 0 k) := by
  unfold row64
  show b _ = b _
  congr 1
  funext a
  fin_cases a
  · rfl
  · exact Fin.ext (by show 0 + 1 * k.val = k.val; omega)

/-- The row of the second layer's bias block. -/
theorem row128_apply (b : FVec Ideal S8x128 .f32) (k : Fin 128) : row128 (F := Ideal) b (ix2 (0 : Fin 1) k) = b (ix2 0 k) := by
  unfold row128
  show b _ = b _
  congr 1
  funext a
  fin_cases a
  · rfl
  · exact Fin.ext (by show 0 + 1 * k.val = k.val; omega)

/-- The two layers on a row whose inputs are a point's. -/
theorem k2_pay9_apply (D : Inp) (p : Fin 320000) (r : Fin 3200)
    (v5 : FVec Ideal S3200x3 .f32) (h5 : ∀ k, v5 (ix2 r k) = D.pos p k)
    (g : FVec Ideal S3200x4 .f32) (hg : ∀ k : Fin 4, g (ix2 r k) = if h : k.val < 3 then D.cen (D.I p) ⟨k.val, h⟩ else D.scale (D.I p))
    (x : FVec Ideal S3200x16 .f32) (hx : ∀ k, x (ix2 r k) = D.x p k)
    (w1 : FVec Ideal S64x19 .f32) (hw1 : ∀ j k, w1 (ix2 j k) = D.w1 j k)
    (b1 : FVec Ideal S1x64 .f32) (hb1 : ∀ j, b1 (ix2 0 j) = D.b1 j)
    (w2 : FVec Ideal S128x64 .f32) (hw2 : ∀ j k, w2 (ix2 j k) = D.w2 j k)
    (b2 : FVec Ideal S1x128 .f32) (hb2 : ∀ j, b2 (ix2 0 j) = D.b2 j) (j : Fin 128) :
    k2_pay9 (F := Ideal) v5 g x w1 b1 w2 b2 (ix2 r j) = D.h2 p j := by
  have hv : ∀ k : Fin 19, concatenate S3200x19 1 [⟨S3200x16, x⟩, ⟨S3200x3, divf (subf v5 (extractStridedSlice S3200x3 ![0, 0] g slices_S3200x4_o0_0_S3200x3)) (broadcastTo S3200x3 (extractStridedSlice S3200x1 ![0, 3] g slices_S3200x4_o0_3_S3200x1) broadcasts_S3200x1_S3200x3)⟩] concatenates_S3200x16_S3200x3_S3200x19_d1 (ix2 r k) = D.xin p k := by
    intro k
    unfold Inp.xin
    by_cases hk : k.val < 16
    · pointwise [hk, hx]
    · pointwise [hk]
      rw [h5, hg, hg]
      rw [dif_pos (show k.val - 16 < 3 by have := k.isLt; omega)]
      simp [Inp.rel]
  unfold k2_pay9
  generalize concatenate S3200x19 1 [⟨S3200x16, x⟩, ⟨S3200x3, divf (subf v5 (extractStridedSlice S3200x3 ![0, 0] g slices_S3200x4_o0_0_S3200x3)) (broadcastTo S3200x3 (extractStridedSlice S3200x1 ![0, 3] g slices_S3200x4_o0_3_S3200x1) broadcasts_S3200x1_S3200x3)⟩] concatenates_S3200x16_S3200x3_S3200x19_d1 = v at hv ⊢
  unfold Inp.h2 Inp.h1
  pointwise [hv, hw1, hb1, hw2, hb2]

end Cert.Proof.KI

end
-- ==== Proof.Val2.lean ====
/-
  The point region: the table holds the maximum of the second layer over each segment's points so far.
-/
module

public import proofs.«01_k».proof.Proof.PayPoint
public import proofs.«01_k».proof.Proof.Val1

@[expose] public section

set_option maxRecDepth 16384

noncomputable section

namespace Cert.Proof.KI

open Cert.KernelIdeal Cert.KernelIdeal.Gen
open Idealize.ShloMosaic

theorem coord2 : ∀ t : Fin grid2.N, atPoint ((grid2.coords t) 0).val 0#32 ↔ t.val = 0 := by decide +kernel

theorem k2_pay5_apply (j : S10752x128.Idx) : k2_pay5 (F := Ideal) j = (⊥ : EReal) := by
  unfold k2_pay5
  exact ofBits_neg_inf

theorem last2 : 99 < (cfg2 (F := Ideal)).N := lt_of_lt_of_eq (by decide : 99 < 100) (show (cfg2 (F := Ideal)).N = 100 from N_2).symm

variable (D : Inp) (V : Bufs Ideal) (c : Dev nD)
variable (hids : ∀ t, Ids (k2_pay6 (F := Ideal) (blk2_0 V c t)) fun r => D.I (pt t.val r))
variable (hmono : ∀ p q : Fin 320000, p ≤ q → D.I p ≤ D.I q)
variable (hpos : ∀ p k, (V c main_arg0 : FVec Ideal S320000x3 .f32) (ix2 p k) = D.pos p k)
variable (hx : ∀ p k, (V c main_arg1 : FVec Ideal S320000x16 .f32) (ix2 p k) = D.x p k)
variable (hS : ∀ s k, (V c main_v1 : FVec Ideal S10752x4 .f32) (ix2 s k) = D.stat s.val k)
variable (hR : ∀ s, (V c main_v2 : FVec Ideal S10752x1 .f32) (ix2 s 0) = D.rad s.val)
variable (hw1 : ∀ j k, (V c main_arg3 : FVec Ideal S64x19 .f32) (ix2 j k) = D.w1 j k)
variable (hb1 : ∀ j, (V c main_v4 : FVec Ideal S8x64 .f32) (ix2 0 j) = D.b1 j)
variable (hw2 : ∀ j k, (V c main_arg5 : FVec Ideal S128x64 .f32) (ix2 j k) = D.w2 j k)
variable (hb2 : ∀ j, (V c main_v6 : FVec Ideal S8x128 .f32) (ix2 0 j) = D.b2 j)

include hids hpos hx hS hR hw1 hb1 hw2 hb2

/-- A row's second layer is its point's. -/
theorem feat2_apply (t : Fin (cfg2 (F := Ideal)).N) (r : Fin 3200) (j : Fin 128) :
    feat2 (F := Ideal) (blk2_0 V c t) (blk2_1 V c t) (blk2_2 V c t) (blk2_3 V c t) (blk2_4 V c t) (blk2_5 V c t) (blk2_6 V c t) (blk2_7 V c t) (blk2_8 V c t) (ix2 r j)
      = D.h2 (pt t.val r) j := by
  have hlt : D.I (pt t.val r) < 10752 := by have := (hids t).lt r; omega
  unfold feat2
  refine k2_pay9_apply D (pt t.val r) r _ (fun k => (val2_1 V c t r k).trans (hpos _ _)) _ (fun k => ?_) _ (fun k => (val2_2 V c t r k).trans (hx _ _))
    _ (fun j k => ?_) _ (fun j => ?_) _ (fun j k => ?_) _ (fun j => ?_) j
  · unfold gath2
    rw [loop7_apply (hids t), val2_3 V c t, val2_4 V c t, hS, hR, rowOf_val _ hlt]
    unfold Inp.stat
    by_cases hk : k.val < 3
    · rw [if_pos hk, dif_pos hk, dif_pos hk]
    · rw [if_neg hk, dif_neg hk]
      rfl
  · rw [val2_5 V c t]; exact hw1 j k
  · rw [val2_6 V c t, row64_apply]; exact hb1 j
  · rw [val2_7 V c t]; exact hw2 j k
  · rw [val2_8 V c t, row128_apply]; exact hb2 j

include hmono

/-- The table's bounds after the first `n` blocks. -/
theorem acc2_le (n : ℕ) (hn : n ≤ 100) (s : Fin 10752) (k : Fin 128) (b : EReal) :
    (acc2 V c n (ix2 s k) : EReal) ≤ b ↔ ∀ t < n, ∀ r, D.I (pt t r) = s.val → D.h2 (pt t r) k ≤ b := by
  induction n with
  | zero =>
    refine iff_of_true ?_ (fun t ht => absurd ht (Nat.not_lt_zero t))
    show (k2_pay5 (F := Ideal) (ix2 s k) : EReal) ≤ b
    rw [k2_pay5_apply]
    exact bot_le
  | succ n ih =>
    have hN : n < (cfg2 (F := Ideal)).N := by rw [show (cfg2 (F := Ideal)).N = 100 from N_2]; omega
    have e : acc2 V c (n + 1) = upd2 V c ⟨n, hN⟩ (acc2 V c n) := accW_succ _ _ (⟨n, hN⟩ : Fin (cfg2 (F := Ideal)).N)
    rw [e]
    have hI := hids ⟨n, hN⟩
    have hd := feat2_apply D V c hids hpos hx hS hR hw1 hb1 hw2 hb2 ⟨n, hN⟩
    rw [k2_pay6_eq] at hI
    unfold upd2 out2
    rw [k2_pay6_eq, out2_le hI (mono_pt D hmono n (by omega))]
    simp only [hd]
    have hX : ((if atPoint ((grid2.coords ⟨n, hN⟩) 0).val 0#32 then k2_pay5 (F := Ideal) else acc2 V c n) (ix2 s k) : EReal) ≤ b
        ↔ ∀ t < n, ∀ r, D.I (pt t r) = s.val → D.h2 (pt t r) k ≤ b := by
      by_cases h0 : n = 0
      · subst h0
        rw [if_pos ((coord2 ⟨0, hN⟩).mpr rfl)]
        exact ih (by omega)
      · rw [if_neg fun h => h0 ((coord2 ⟨n, hN⟩).mp h)]
        exact ih (by omega)
    rw [hX]
    exact Nat.forall_lt_succ_right.symm

theorem acc2_xg (s : Fin 10752) (k : Fin 128) : (acc2 V c 100 (ix2 s k) : EReal) = D.xg s.val k := by
  refine eq_of_forall_ge_iff fun b => ?_
  rw [acc2_le D V c hids hmono hpos hx hS hR hw1 hb1 hw2 hb2 100 le_rfl, all_pt fun p => D.I p = s.val → D.h2 p k ≤ b]
  exact iSup₂_le_iff.symm

/-- The table the region leaves. -/
theorem arr2 : (dat2 V c).arrAt 9 (cfg2 (F := Ideal)).N = fun j : S10752x128.Idx => D.xg (j 0).val (j 1) := by
  refine (dat2 V c).arrAt_eq_of_after_last 9 ⟨99, last2⟩ (by decide +kernel) _ fun j => ?_
  blk_simp
  idx_vars j
  exact acc2_xg D V c hids hmono hpos hx hS hR hw1 hb1 hw2 hb2 _ _

end Cert.Proof.KI

end
-- ==== Proof.PayHead.lean ====
/-
  The head's layers on a block of segments, at coordinates.
-/
module

public import Idealize.ShloMosaic.Lib.KernelVsHost
public import proofs.«01_k».proof.Proof.BlockVals
public import proofs.«01_k».proof.Proof.StepGather
public import proofs.«01_k».proof.Proof.Spec

@[expose] public section

set_option maxRecDepth 16384

noncomputable section

namespace Cert.Proof.KI

open Cert.KernelIdeal Cert.KernelIdeal.Gen
open Idealize.ShloMosaic

/-- The row of the head's first bias block. -/
theorem row256_apply (b : FVec Ideal S8x256 .f32) (k : Fin 256) : row256 (F := Ideal) b (ix2 (0 : Fin 1) k) = b (ix2 0 k) := by
  unfold row256
  show b _ = b _
  congr 1
  funext a
  fin_cases a
  · rfl
  · exact Fin.ext (by show 0 + 1 * k.val = k.val; omega)

/-- The row of the head's last bias block. -/
theorem row40_apply (b : FVec Ideal S8x40 .f32) (k : Fin 40) : row40 (F := Ideal) b (ix2 (0 : Fin 1) k) = b (ix2 0 k) := by
  unfold row40
  show b _ = b _
  congr 1
  funext a
  fin_cases a
  · rfl
  · exact Fin.ext (by show 0 + 1 * k.val = k.val; omega)

/-- The three layers from the rows of inputs. -/
def headOf (v : FVec Ideal S1536x129 .f32) (w1 : FVec Ideal S256x129 .f32) (b1 : FVec Ideal S1x256 .f32) (w2 : FVec Ideal S128x256 .f32)
    (b2 : FVec Ideal S1x128 .f32) (wh : FVec Ideal S40x128 .f32) (bh : FVec Ideal S1x40 .f32) : FVec Ideal S1536x40 .f32 :=
  addf (matmul dot_S1536x128_S40x128_S1536x40_1_1_0_0_n_n none
    (maximumf (addf (matmul dot_S1536x256_S128x256_S1536x128_1_1_0_0_n_n none
      (maximumf (addf (matmul dot_S1536x129_S256x129_S1536x256_1_1_0_0_n_n none v w1 (constant S1536x256 .f32 0x00000000#32))
        (broadcastTo S1536x256 (shapeCast S1x256 b1 shapeCasts_S1x256_S1x256) broadcasts_S1x256_S1536x256)) (broadcast S1536x256 (Scalar.ofBits (F := Ideal) .f32 0x00000000#32)))
      w2 (constant S1536x128 .f32 0x00000000#32))
      (broadcastTo S1536x128 (shapeCast S1x128 b2 shapeCasts_S1x128_S1x128) broadcasts_S1x128_S1536x128)) (broadcast S1536x128 (Scalar.ofBits (F := Ideal) .f32 0x00000000#32)))
    wh (constant S1536x40 .f32 0x00000000#32))
    (broadcastTo S1536x40 (shapeCast S1x40 bh shapeCasts_S1x40_S1x40) broadcasts_S1x40_S1536x40)

/-- The kernel's choice of a finite value, or zero. -/
theorem finite_select (a : EReal) :
    Scalar.select (IntOp.xori (FloatOps.weird (F := Ideal) a) 1#1) a (Ideal.ofBits .f32 0x00000000#32) = fin0 a := by
  rw [Ideal.xori_weird_eq_hostAbsf_olt_inf, Ideal.ofBits_zero_f32]
  unfold fin0
  show Scalar.select (BitVec.ofBool (decide (max a (-a) < Ideal.ofBits .f32 0x7F800000#32))) a 0 = _
  by_cases h : max a (-a) < Ideal.ofBits .f32 0x7F800000#32
  · rw [if_pos h, decide_eq_true h]; rfl
  · rw [if_neg h, decide_eq_false h]; rfl

/-- The head on a row whose inputs are a segment's maxima and radius. -/
theorem k3_pay_apply (D : Inp) (s : ℕ) (r : Fin 1536)
    (v0 : FVec Ideal S1536x128 .f32) (h0 : ∀ k, v0 (ix2 r k) = D.xg s k)
    (v7 : FVec Ideal S1536x1 .f32) (h7 : v7 (ix2 r 0) = D.rad s)
    (w1 : FVec Ideal S256x129 .f32) (hw1 : ∀ j k, w1 (ix2 j k) = D.v1 j k)
    (b1 : FVec Ideal S1x256 .f32) (hb1 : ∀ j, b1 (ix2 0 j) = D.c1 j)
    (w2 : FVec Ideal S128x256 .f32) (hw2 : ∀ j k, w2 (ix2 j k) = D.v2 j k)
    (b2 : FVec Ideal S1x128 .f32) (hb2 : ∀ j, b2 (ix2 0 j) = D.c2 j)
    (wh : FVec Ideal S40x128 .f32) (hwh : ∀ j k, wh (ix2 j k) = D.wh j k)
    (bh : FVec Ideal S1x40 .f32) (hbh : ∀ j, bh (ix2 0 j) = D.bh j) (o : Fin 40) :
    k3_pay1 (F := Ideal) (k3_pay2 v0 v7 w1 b1 w2 b2 wh) (k3_pay3 bh) (ix2 r o) = D.out s o := by
  have hv : ∀ k : Fin 129, concatenate S1536x129 1 [⟨S1536x128, select (xori (weird (shapeCast S1536x128 v0 shapeCasts_S1536x128_S1536x128)) (constantI S1536x128 1 1#1)) (shapeCast S1536x128 v0 shapeCasts_S1536x128_S1536x128) (broadcast S1536x128 (Scalar.ofBits (F := Ideal) .f32 0x00000000#32))⟩, ⟨S1536x1, mulf (broadcast S1536x1 (Scalar.ofBits (F := Ideal) .f32 0x40000000#32)) (maximumf (shapeCast S1536x1 v7 shapeCasts_S1536x1_S1536x1) (broadcast S1536x1 (Scalar.ofBits (F := Ideal) .f32 0x2B8CBCCC#32)))⟩] concatenates_S1536x128_S1536x1_S1536x129_d1 (ix2 r k) = D.g0 s k := by
    intro k
    unfold Inp.g0
    by_cases hk : k.val < 128
    · rw [dif_pos hk, ← finite_select]
      pointwise [hk, h0]
    · obtain rfl : k = ⟨128, by norm_num⟩ := Fin.ext (by have := k.isLt; show k.val = 128; omega)
      pointwise [hk, h7]
      rfl
  show headOf (concatenate S1536x129 1 [⟨S1536x128, select (xori (weird (shapeCast S1536x128 v0 shapeCasts_S1536x128_S1536x128)) (constantI S1536x128 1 1#1)) (shapeCast S1536x128 v0 shapeCasts_S1536x128_S1536x128) (broadcast S1536x128 (Scalar.ofBits (F := Ideal) .f32 0x00000000#32))⟩, ⟨S1536x1, mulf (broadcast S1536x1 (Scalar.ofBits (F := Ideal) .f32 0x40000000#32)) (maximumf (shapeCast S1536x1 v7 shapeCasts_S1536x1_S1536x1) (broadcast S1536x1 (Scalar.ofBits (F := Ideal) .f32 0x2B8CBCCC#32)))⟩] concatenates_S1536x128_S1536x1_S1536x129_d1) w1 b1 w2 b2 wh bh (ix2 r o) = _
  generalize concatenate S1536x129 1 [⟨S1536x128, select (xori (weird (shapeCast S1536x128 v0 shapeCasts_S1536x128_S1536x128)) (constantI S1536x128 1 1#1)) (shapeCast S1536x128 v0 shapeCasts_S1536x128_S1536x128) (broadcast S1536x128 (Scalar.ofBits (F := Ideal) .f32 0x00000000#32))⟩, ⟨S1536x1, mulf (broadcast S1536x1 (Scalar.ofBits (F := Ideal) .f32 0x40000000#32)) (maximumf (shapeCast S1536x1 v7 shapeCasts_S1536x1_S1536x1) (broadcast S1536x1 (Scalar.ofBits (F := Ideal) .f32 0x2B8CBCCC#32)))⟩] concatenates_S1536x128_S1536x1_S1536x129_d1 = v at hv ⊢
  unfold headOf Inp.out Inp.g2 Inp.g1
  pointwise [hv, hw1, hb1, hw2, hb2, hwh, hbh]

end Cert.Proof.KI

end
-- ==== Proof.Val3.lean ====
/-
  The head region: every row of its result is the head on that segment.
-/
module

public import proofs.«01_k».proof.Proof.PayPoint
public import proofs.«01_k».proof.Proof.PayHead

@[expose] public section

set_option maxRecDepth 16384

noncomputable section

namespace Cert.Proof.KI

open Cert.KernelIdeal Cert.KernelIdeal.Gen
open Idealize.ShloMosaic

theorem at3_8 : ∀ t : Fin grid3.N, win3_8.index t = ![t.val, 0] := by decide +kernel

variable (D : Inp) (V : Bufs Ideal) (c : Dev nD)
variable (hX : ∀ s k, (V c main_v7 : FVec Ideal S10752x128 .f32) (ix2 s k) = D.xg s.val k)
variable (hR : ∀ s, (V c main_v2 : FVec Ideal S10752x1 .f32) (ix2 s 0) = D.rad s.val)
variable (hw1 : ∀ j k, (V c main_arg7 : FVec Ideal S256x129 .f32) (ix2 j k) = D.v1 j k)
variable (hb1 : ∀ j, (V c main_v9 : FVec Ideal S8x256 .f32) (ix2 0 j) = D.c1 j)
variable (hw2 : ∀ j k, (V c main_arg9 : FVec Ideal S128x256 .f32) (ix2 j k) = D.v2 j k)
variable (hb2 : ∀ j, (V c main_v11 : FVec Ideal S8x128 .f32) (ix2 0 j) = D.c2 j)
variable (hwh : ∀ j k, (V c main_arg11 : FVec Ideal S40x128 .f32) (ix2 j k) = D.wh j k)
variable (hbh : ∀ j, (V c main_v13 : FVec Ideal S8x40 .f32) (ix2 0 j) = D.bh j)

include hX hR hw1 hb1 hw2 hb2 hwh hbh

theorem left3_apply (t : Fin (cfg3 (F := Ideal)).N) (r : Fin 1536) (o : Fin 40) :
    (left3 V c t : FVec Ideal S1536x40 .f32) (ix2 r o) = D.out (seg t.val r).val o := by
  unfold left3 out3
  refine k3_pay_apply D (seg t.val r).val r _ (fun k => (val3_0 V c t r k).trans (hX _ _)) _ ((val3_1 V c t r 0).trans (hR _)) _ (fun j k => ?_) _ (fun j => ?_)
    _ (fun j k => ?_) _ (fun j => ?_) _ (fun j k => ?_) _ (fun j => ?_) o
  · rw [val3_2 V c t]; exact hw1 j k
  · rw [val3_3 V c t, row256_apply]; exact hb1 j
  · rw [val3_4 V c t]; exact hw2 j k
  · rw [val3_5 V c t, row128_apply]; exact hb2 j
  · rw [val3_6 V c t]; exact hwh j k
  · rw [val3_7 V c t, row40_apply]; exact hbh j

/-- What the region leaves. -/
theorem arr3 : (dat3 V c).arrAt 8 (cfg3 (F := Ideal)).N = fun j : S10752x40.Idx => D.out (j 0).val (j 1) := by
  refine (dat3 V c).arrAt_eq_of_covers 8 _ (by decide +kernel) fun t hf y => ?_
  blk_simp
  idx_vars y
  have ht : t.val < 7 := t.isLt.trans_eq N_3
  refine (left3_apply D V c hX hR hw1 hb1 hw2 hb2 hwh hbh t _ _).trans ?_
  refine congr (congrArg D.out ?_) (Fin.ext ?_)
  · rw [seg_val _ ht, at3_8]
    rfl
  · blk_simp
    show _ = win3_8.index t 1 * 40 + _
    rw [at3_8]
    exact (Nat.zero_add _).symm

end Cert.Proof.KI

end
-- ==== Proof.Chain.lean ====
/-
  The four regions in order: from the inputs to the result.
-/
module

public import proofs.«01_k».proof.Proof.Glue
public import proofs.«01_k».proof.Proof.Arr0
public import proofs.«01_k».proof.Proof.Val1
public import proofs.«01_k».proof.Proof.Val2
public import proofs.«01_k».proof.Proof.Val3

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.Sem

variable {m : (ℓ : Loc nD τ sig) → Buf (Elt Ideal) ℓ} (c : Dev nD) {I : Fin 320000 → ℕ} (hI : AllIds (idsArg m c) I)

include hI

/-- The first region leaves the centres and counts. -/
theorem stats_val (s : Fin 10752) (k : Fin 4) : (W2 m c main_v1 : FVec Ideal S10752x4 .f32) (ix2 s k) = (inp m c I).stat s.val k := by
  rw [W2_v1]
  unfold wrote2
  rw [arr0 (inp m c I) (refs fun c => V1 m c) c (ids0 c _ rfl hI) (fun p k => congrFun (V1_arg m c main_arg0 (by decide)) _)]
  rfl

/-- The second region leaves the radii. -/
theorem rad_val (s : Fin 10752) : (W3 m c main_v2 : FVec Ideal S10752x1 .f32) (ix2 s 0) = (inp m c I).rad s.val := by
  rw [W3_v2]
  unfold wrote3
  rw [arr1 (inp m c I) (refs (W2 m)) c (ids1 c _ (W2_ids m c) hI) hI.mono (fun p k => congrFun (W2_arg0 m c) _) (stats_val c hI)]
  rfl

/-- The third region leaves the maxima. -/
theorem xg_val (s : Fin 10752) (k : Fin 128) : (W5 m c main_v7 : FVec Ideal S10752x128 .f32) (ix2 s k) = (inp m c I).xg s.val k := by
  rw [W5_v7]
  unfold wrote5
  rw [arr2 (inp m c I) (refs (W4 m)) c (ids2 c _ (W4_ids m c) hI) hI.mono (fun p k => congrFun (W4_arg0 m c) _) (fun p k => congrFun (W4_arg1 m c) _)
    (fun s k => (congrFun ((W4_of m c main_v1 (by decide)).trans (W3_of m c main_v1 (by decide))) _).trans (stats_val c hI s k))
    (fun s => (congrFun (W4_of m c main_v2 (by decide)) _).trans (rad_val c hI s))
    (fun j k => congrFun (W4_arg3 m c) _) (fun j => W4_v4 m c j) (fun j k => congrFun (W4_arg5 m c) _) (fun j => W4_v6 m c j)]
  rfl

/-- The fourth region leaves the head's result. -/
theorem head_val (s : Fin 10752) (o : Fin 40) : (W7 m c main_v14 : FVec Ideal S10752x40 .f32) (ix2 s o) = (inp m c I).out s.val o := by
  rw [W7_v14]
  unfold wrote7
  rw [arr3 (inp m c I) (refs (W6 m)) c
    (fun s k => (congrFun (W6_of m c main_v7 (by decide)) _).trans (xg_val c hI s k))
    (fun s => (congrFun ((W6_of m c main_v2 (by decide)).trans ((W5_of m c main_v2 (by decide)).trans (W4_of m c main_v2 (by decide)))) _).trans (rad_val c hI s))
    (fun j k => congrFun (W6_arg7 m c) _) (fun j => W6_v9 m c j) (fun j k => congrFun (W6_arg9 m c) _) (fun j => W6_v11 m c j)
    (fun j k => congrFun (W6_arg11 m c) _) (fun j => W6_v13 m c j)]
  rfl

/-- The program's result. -/
theorem result_val (s : Fin 10000) (o : Fin 40) : (V8 m (outs m) c main_v15 : FVec Ideal S10000x40 .f32) (ix2 s o) = (inp m c I).out s.val o := by
  have e : (V8 m (outs m) c main_v15 : FVec Ideal S10000x40 .f32) = extractStridedSlice S10000x40 ![0, 0] (W7 m c main_v14 : FVec Ideal S10752x40 .f32) slices_S10752x40_S10000x40_0_0 := by
    rw [← V7_eq]
    show StableHlo.after hostOps4 (V7 m (outs m) c) main_v15 = _
    after_results_simp
  rw [e]
  pointwise
  exact head_val c hI ⟨s.val, by omega⟩ o

end Cert.Proof.KI

end
-- ==== Proof.RefResult.lean ====
/-
  The reference's run leaves that result, and it equals the kernel's when the arguments agree.
-/
module

public import proofs.«01_k».proof.Proof.RefHead
public import proofs.«01_k».proof.Proof.Chain
public import proofs.«01_k».proof.Proof.Gen.ReferenceIdeal.Run

@[expose] public section

set_option maxRecDepth 16384

noncomputable section

namespace Cert.Proof.RI

open Cert.ReferenceIdeal
open Idealize.ShloMosaic

open Cert.ReferenceIdeal.Gen
open Idealize.ShloMosaic.TcCoe Idealize.ShloMosaic.Tactic
open Idealize.SL Idealize.SL.Sem

/-- The reference's run leaves `outA` of its arguments. -/
theorem res_eq (m : (ℓ : Loc nD τ sig) → Buf (Elt Ideal) ℓ) (c : Dev nD) :
    Cert.ReferenceIdeal.Value.res_main_v87 (F := Ideal) m c
      = outA (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11))
        (m ((c : Thread nD τ).loc main_arg12)) := by
  unfold Cert.ReferenceIdeal.Value.res_main_v87 outA dense5 dense4 dense3 dense2 dense1 g0A finA max3A sel3A xinA normA scaleA selA maskA distA relA cenA smA cntA wrapA colA
  rfl

/-- Two results are equal when they are at every segment and output. -/
theorem ext2 {a b : FVec Ideal S10000x40 .f32} (h : ∀ (s : Fin 10000) (o : Fin 40), a (ix2 s o) = b (ix2 s o)) : a = b := by
  funext j
  rw [eq_ix2 (n0 := 10000) (n1 := 40) j]
  exact h _ _

/-- From arguments that agree, with ids that name segments, the kernel's result is the reference's. -/
theorem agree (m : (ℓ : Loc Cert.KernelIdeal.nD Cert.KernelIdeal.τ Cert.KernelIdeal.sig) → Buf (Elt Ideal) ℓ) (m' : (ℓ : Loc nD τ sig) → Buf (Elt Ideal) ℓ)
    (c : Dev Cert.KernelIdeal.nD) (hI : ∃ I, AllIds (KI.idsArg m c) I)
    (h : m' ((c : Thread nD τ).loc main_arg0) = m ((c : Thread Cert.KernelIdeal.nD Cert.KernelIdeal.τ).loc Cert.KernelIdeal.main_arg0)
      ∧ m' ((c : Thread nD τ).loc main_arg1) = m ((c : Thread Cert.KernelIdeal.nD Cert.KernelIdeal.τ).loc Cert.KernelIdeal.main_arg1)
      ∧ m' ((c : Thread nD τ).loc main_arg2) = m ((c : Thread Cert.KernelIdeal.nD Cert.KernelIdeal.τ).loc Cert.KernelIdeal.main_arg2)
      ∧ m' ((c : Thread nD τ).loc main_arg3) = m ((c : Thread Cert.KernelIdeal.nD Cert.KernelIdeal.τ).loc Cert.KernelIdeal.main_arg3)
      ∧ m' ((c : Thread nD τ).loc main_arg4) = m ((c : Thread Cert.KernelIdeal.nD Cert.KernelIdeal.τ).loc Cert.KernelIdeal.main_arg4)
      ∧ m' ((c : Thread nD τ).loc main_arg5) = m ((c : Thread Cert.KernelIdeal.nD Cert.KernelIdeal.τ).loc Cert.KernelIdeal.main_arg5)
      ∧ m' ((c : Thread nD τ).loc main_arg6) = m ((c : Thread Cert.KernelIdeal.nD Cert.KernelIdeal.τ).loc Cert.KernelIdeal.main_arg6)
      ∧ m' ((c : Thread nD τ).loc main_arg7) = m ((c : Thread Cert.KernelIdeal.nD Cert.KernelIdeal.τ).loc Cert.KernelIdeal.main_arg7)
      ∧ m' ((c : Thread nD τ).loc main_arg8) = m ((c : Thread Cert.KernelIdeal.nD Cert.KernelIdeal.τ).loc Cert.KernelIdeal.main_arg8)
      ∧ m' ((c : Thread nD τ).loc main_arg9) = m ((c : Thread Cert.KernelIdeal.nD Cert.KernelIdeal.τ).loc Cert.KernelIdeal.main_arg9)
      ∧ m' ((c : Thread nD τ).loc main_arg10) = m ((c : Thread Cert.KernelIdeal.nD Cert.KernelIdeal.τ).loc Cert.KernelIdeal.main_arg10)
      ∧ m' ((c : Thread nD τ).loc main_arg11) = m ((c : Thread Cert.KernelIdeal.nD Cert.KernelIdeal.τ).loc Cert.KernelIdeal.main_arg11)
      ∧ m' ((c : Thread nD τ).loc main_arg12) = m ((c : Thread Cert.KernelIdeal.nD Cert.KernelIdeal.τ).loc Cert.KernelIdeal.main_arg12)) :
    (Cert.ReferenceIdeal.Value.res_main_v87 (F := Ideal) m' c : FVec Ideal S10000x40 .f32)
      = (Cert.KernelIdeal.Gen.V8 m (KI.outs m) c Cert.KernelIdeal.main_v15 : FVec Ideal S10000x40 .f32) := by
  obtain ⟨I, hI⟩ := hI
  obtain ⟨h0, h1, h2, h3, h4, h5, h6, h7, h8, h9, h10, h11, h12⟩ := h
  refine (res_eq m' c).trans ?_
  rw [h0, h1, h2, h3, h4, h5, h6, h7, h8, h9, h10, h11, h12]
  refine ext2 fun s o => ?_
  exact (outA_apply hI s o).trans (KI.result_val c hI s o).symm

end Cert.Proof.RI

end
-- ==== Proof.lean ====
/-
  The proof of `Cert.Claim`.
-/
module

public import proofs.«01_k».proof.Defs
public import proofs.«01_k».proof.Proof.Blocks
public import proofs.«01_k».proof.Proof.K.Blocks
public import proofs.«01_k».proof.Proof.Gen.ReferenceIdeal
public import proofs.«01_k».proof.Proof.Gen.ReferenceIdeal.Run
public import proofs.«01_k».proof.Proof.RefResult

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel as printed ends without a fault, its arguments unchanged and every counter at zero. -/
theorem frame_kernel : Cert.quiescent_Kernel := fun m ρ h =>
  (θ_run _ _ _).mono (fun _ H => ⟨fun c => (H.1 c).2, H.2⟩) (K.frame (F := Bits) (fun c => allIds_of_pre (h c)) ρ)

/-- The idealized kernel likewise. -/
theorem frame_kernelIdeal : Cert.quiescent_KernelIdeal := fun m ρ h =>
  (θ_run _ _ _).mono (fun _ H => ⟨fun c => (H.1 c).2, H.2⟩) (KI.frame (F := Ideal) (fun c => allIds_of_pre (h c)) ρ)

/-- The idealized reference likewise. -/
theorem frame_reference : Cert.quiescent_ReferenceIdeal := fun m ρ _ =>
  (θ_run _ _ _).mono (fun r H => ⟨fun c => (H c).2, sem_eq_zero_of_no_sems (by decide) r.2⟩) (Cert.ReferenceIdeal.Value.run (F := Ideal) m ρ)

/-- The idealized reference likewise, under the kernel's precondition. -/
theorem frame_reference_pre : Cert.quiescent_ReferenceIdeal_pre_segment_ids := fun m ρ _ =>
  (θ_run _ _ _).mono (fun r H => ⟨fun c => (H c).2, sem_eq_zero_of_no_sems (by decide) r.2⟩) (Cert.ReferenceIdeal.Value.run (F := Ideal) m ρ)

/-- Under the precondition the idealized kernel's result is the idealized reference's, element by element, as extended reals. -/
theorem value : Cert.algebraic_KernelIdeal_ReferenceIdeal := fun m g m' g' hp h =>
  ⟨fun c => Cert.KernelIdeal.Gen.V8 m (KI.outs m) c Cert.KernelIdeal.main_v15,
    (θ_run _ _ _).mono (fun _ H => H.1) (KI.frame (F := Ideal) (fun c => allIds_of_pre (hp c)) g),
    (θ_run _ _ _).mono (fun _ H c => ⟨(H c).1.trans (RI.agree m m' c (allIds_of_pre (hp c)) (h c)), (H c).2⟩)
      (Cert.ReferenceIdeal.Value.run (F := Ideal) m' g')⟩

theorem claim : Cert.Claim :=
  ⟨Cert.Kernel.Gen.facts, Cert.KernelIdeal.Gen.facts, Cert.ReferenceIdeal.Gen.facts, preFacts,
    frame_kernel, frame_kernelIdeal, frame_reference, frame_reference_pre, trivial, value⟩

end Cert.Proof

end
